-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.2.2 = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_gqa [hPre_finite_gqa : Cert.Pre_finite_gqa.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_gqa.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite_gqa.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_gqa [hPre_finite_gqa : Cert.Pre_finite_gqa.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_gqa.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite_gqa.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2 = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_gqa [hKernel4Ideal : Cert.Kernel4Ideal.Facts] [hPre_finite_gqa : Cert.Pre_finite_gqa.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_gqa m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_gqa [hReference4Ideal : Cert.Reference4Ideal.Facts] [hPre_finite_gqa : Cert.Pre_finite_gqa.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_gqa m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite_gqa [hKernel4Ideal : Cert.Kernel4Ideal.Facts] [hReference4Ideal : Cert.Reference4Ideal.Facts] [hPre_finite_gqa : Cert.Pre_finite_gqa.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_gqa m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_routed : Cert.Pre_routed.Facts) (hPre_finite : Cert.Pre_finite.Facts) (hPre_finite_gqa : Cert.Pre_finite_gqa.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Kernel4Ideal_pre_finite_gqa (hKernel4Ideal := hKernel4Ideal) (hPre_finite_gqa := hPre_finite_gqa)
    ∧ quiescent_Reference4Ideal (hReference4Ideal := hReference4Ideal)
    ∧ quiescent_Reference4Ideal_pre_finite_gqa (hReference4Ideal := hReference4Ideal) (hPre_finite_gqa := hPre_finite_gqa)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal_pre_finite_gqa (hKernel4Ideal := hKernel4Ideal) (hReference4Ideal := hReference4Ideal) (hPre_finite_gqa := hPre_finite_gqa)
-- ==== Pre_finite.lean ====
abbrev S1x16384x16x192 : Shape := ⟨4, ![1, 16384, 16, 192]⟩
abbrev S1x16384x16x128 : Shape := ⟨4, ![1, 16384, 16, 128]⟩
abbrev S_ : Shape := ⟨0, ![]⟩

class Facts : Prop where
  bcast_S_S1x16384x16x192 : S_.BroadcastsInDim S1x16384x16x192 (![] : Fin 0 → Fin S1x16384x16x192.rank)

variable [Facts]

def fn {F : FTy → Type} [FloatOps F] (main_arg0 : FVec F S1x16384x16x192 .bf16) (main_arg1 : FVec F S1x16384x16x192 .bf16) (main_arg2 : FVec F S1x16384x16x128 .bf16) : IVec S1x16384x16x192 1 × IVec S1x16384x16x192 1 :=
  let main_v0 : FVec F S1x16384x16x192 .bf16 := Host.absf main_arg0
  let main_cst : FVec F S_ .bf16 := constant S_ .bf16 0x7F80#16
  let main_v1 : FVec F S1x16384x16x192 .bf16 := broadcastInDim S1x16384x16x192 ![] bcast_S_S1x16384x16x192 main_cst
  let main_v2 : IVec S1x16384x16x192 1 := cmpf .olt main_v0 main_v1
  let main_v3 : FVec F S1x16384x16x192 .bf16 := Host.absf main_arg1
  let main_cst_0 : FVec F S_ .bf16 := constant S_ .bf16 0x7F80#16
  let main_v4 : FVec F S1x16384x16x192 .bf16 := broadcastInDim S1x16384x16x192 ![] bcast_S_S1x16384x16x192 main_cst_0
  let main_v5 : IVec S1x16384x16x192 1 := cmpf .olt main_v3 main_v4
  (main_v2, main_v5)
-- ==== Pre_finite_gqa.lean ====
abbrev S1x16384x8x128 : Shape := ⟨4, ![1, 16384, 8, 128]⟩
abbrev S1x16384x2x128 : Shape := ⟨4, ![1, 16384, 2, 128]⟩
abbrev S1x16384x16x128 : Shape := ⟨4, ![1, 16384, 16, 128]⟩
abbrev S_ : Shape := ⟨0, ![]⟩

class Facts : Prop where
  bcast_S_S1x16384x8x128 : S_.BroadcastsInDim S1x16384x8x128 (![] : Fin 0 → Fin S1x16384x8x128.rank)
  bcast_S_S1x16384x2x128 : S_.BroadcastsInDim S1x16384x2x128 (![] : Fin 0 → Fin S1x16384x2x128.rank)

variable [Facts]

def fn {F : FTy → Type} [FloatOps F] (main_arg0 : FVec F S1x16384x8x128 .bf16) (main_arg1 : FVec F S1x16384x2x128 .bf16) (main_arg2 : FVec F S1x16384x16x128 .bf16) (main_arg3 : FVec F S1x16384x2x128 .bf16) : IVec S1x16384x8x128 1 × IVec S1x16384x2x128 1 :=
  let main_v0 : FVec F S1x16384x8x128 .bf16 := Host.absf main_arg0
  let main_cst : FVec F S_ .bf16 := constant S_ .bf16 0x7F80#16
  let main_v1 : FVec F S1x16384x8x128 .bf16 := broadcastInDim S1x16384x8x128 ![] bcast_S_S1x16384x8x128 main_cst
  let main_v2 : IVec S1x16384x8x128 1 := cmpf .olt main_v0 main_v1
  let main_v3 : FVec F S1x16384x2x128 .bf16 := Host.absf main_arg1
  let main_cst_0 : FVec F S_ .bf16 := constant S_ .bf16 0x7F80#16
  let main_v4 : FVec F S1x16384x2x128 .bf16 := broadcastInDim S1x16384x2x128 ![] bcast_S_S1x16384x2x128 main_cst_0
  let main_v5 : IVec S1x16384x2x128 1 := cmpf .olt main_v3 main_v4
  (main_v2, main_v5)
-- ==== Pre_routed.lean ====
abbrev S16x2048 : Shape := ⟨2, ![16, 2048]⟩
abbrev S2048x128 : Shape := ⟨2, ![2048, 128]⟩
abbrev S16x2048x2048 : Shape := ⟨3, ![16, 2048, 2048]⟩
abbrev S16384x2048 : Shape := ⟨2, ![16384, 2048]⟩
abbrev S1x2048 : Shape := ⟨2, ![1, 2048]⟩
abbrev S2048x1 : Shape := ⟨2, ![2048, 1]⟩
abbrev S16x16384 : Shape := ⟨2, ![16, 16384]⟩
abbrev S16 : Shape := ⟨1, ![16]⟩
abbrev S16x1 : Shape := ⟨2, ![16, 1]⟩
abbrev S262144 : Shape := ⟨1, ![262144]⟩
abbrev S_ : Shape := ⟨0, ![]⟩
abbrev S16x2048x1 : Shape := ⟨3, ![16, 2048, 1]⟩
abbrev S32768 : Shape := ⟨1, ![32768]⟩
abbrev S16x16384x1 : Shape := ⟨3, ![16, 16384, 1]⟩
abbrev S2048 : Shape := ⟨1, ![2048]⟩
abbrev S16384 : Shape := ⟨1, ![16384]⟩
abbrev S1x16384 : Shape := ⟨2, ![1, 16384]⟩

class Facts : Prop where
  slices_S2048x128_S2048x1_0_0 : S2048x128.Slices ![0, 0] S2048x1
  shapeCasts_S2048x128_S16x16384 : S2048x128.ShapeCasts S16x16384
  bcast_S16_S16x1_0 : S16.BroadcastsInDim S16x1 (![0] : Fin 1 → Fin S16x1.rank)
  shapeCasts_S2048x128_S262144 : S2048x128.ShapeCasts S262144
  bcast_S_S16x1 : S_.BroadcastsInDim S16x1 (![] : Fin 0 → Fin S16x1.rank)
  bcast_S16x1_S16x2048_0_1 : S16x1.BroadcastsInDim S16x2048 (![0, 1] : Fin 2 → Fin S16x2048.rank)
  bcast_S16x2048_S16x2048x1_0_1 : S16x2048.BroadcastsInDim S16x2048x1 (![0, 1] : Fin 2 → Fin S16x2048x1.rank)
  shapeCasts_S16x2048_S32768 : S16x2048.ShapeCasts S32768
  bcast_S16x1_S16x16384_0_1 : S16x1.BroadcastsInDim S16x16384 (![0, 1] : Fin 2 → Fin S16x16384.rank)
  bcast_S16x16384_S16x16384x1_0_1 : S16x16384.BroadcastsInDim S16x16384x1 (![0, 1] : Fin 2 → Fin S16x16384x1.rank)
  bcast_S_S16x2048 : S_.BroadcastsInDim S16x2048 (![] : Fin 0 → Fin S16x2048.rank)
  bcast_S2048_S1x2048_1 : S2048.BroadcastsInDim S1x2048 (![1] : Fin 1 → Fin S1x2048.rank)
  bcast_S1x2048_S16x2048_0_1 : S1x2048.BroadcastsInDim S16x2048 (![0, 1] : Fin 2 → Fin S16x2048.rank)
  bcast_S_S16x16384 : S_.BroadcastsInDim S16x16384 (![] : Fin 0 → Fin S16x16384.rank)
  bcast_S16384_S1x16384_1 : S16384.BroadcastsInDim S1x16384 (![1] : Fin 1 → Fin S1x16384.rank)
  bcast_S1x16384_S16x16384_0_1 : S1x16384.BroadcastsInDim S16x16384 (![0, 1] : Fin 2 → Fin S16x16384.rank)
  bcast_S_S2048x1 : S_.BroadcastsInDim S2048x1 (![] : Fin 0 → Fin S2048x1.rank)
  bcast_S_S2048x128 : S_.BroadcastsInDim S2048x128 (![] : Fin 0 → Fin S2048x128.rank)
  bcast_S2048x1_S2048x128_0_1 : S2048x1.BroadcastsInDim S2048x128 (![0, 1] : Fin 2 → Fin S2048x128.rank)
  gather_S262144_S16x2048x1_S16x2048_n_0_n_n_0_2_1_wf : GatherDims.WF S262144 S16x2048x1 S16x2048 [] [0] [] [0] [] 2 ![1]
  gather_S32768_S16x16384x1_S16x16384_n_0_n_n_0_2_1_wf : GatherDims.WF S32768 S16x16384x1 S16x16384 [] [0] [] [0] [] 2 ![1]

variable [Facts]

def gather_S262144_S16x2048x1_S16x2048_n_0_n_n_0_2_1 : GatherDims S262144 S16x2048x1 S16x2048 where
  offsetDims := []
  collapsedSliceDims := [0]
  operandBatchingDims := []
  startIndicesBatchingDims := []
  startIndexMap := [0]
  indexVectorDim := 2
  sliceSizes := ![1]
  wf := gather_S262144_S16x2048x1_S16x2048_n_0_n_n_0_2_1_wf
def gather_S32768_S16x16384x1_S16x16384_n_0_n_n_0_2_1 : GatherDims S32768 S16x16384x1 S16x16384 where
  offsetDims := []
  collapsedSliceDims := [0]
  operandBatchingDims := []
  startIndicesBatchingDims := []
  startIndexMap := [0]
  indexVectorDim := 2
  sliceSizes := ![1]
  wf := gather_S32768_S16x16384x1_S16x16384_n_0_n_n_0_2_1_wf
def fn_take {F : FTy → Type} [FloatOps F] (arg0 : IVec S262144 32) (arg1 : IVec S16x2048 32) : IVec S16x2048 32 :=
  let v0 : IVec S16x2048x1 32 := broadcastInDim S16x2048x1 ![0, 1] bcast_S16x2048_S16x2048x1_0_1 arg1
  let v1 : IVec S16x2048 32 := (fun x i => Host.gather gather_S262144_S16x2048x1_S16x2048_n_0_n_n_0_2_1 x i) arg0 v0
  v1

def fn_take_0 {F : FTy → Type} [FloatOps F] (arg0 : IVec S32768 32) (arg1 : IVec S16x16384 32) : IVec S16x16384 32 :=
  let v0 : IVec S16x16384x1 32 := broadcastInDim S16x16384x1 ![0, 1] bcast_S16x16384_S16x16384x1_0_1 arg1
  let v1 : IVec S16x16384 32 := (fun x i => Host.gather gather_S32768_S16x16384x1_S16x16384_n_0_n_n_0_2_1 x i) arg0 v0
  v1

def fn_part2 {F : FTy → Type} [FloatOps F] (main_arg1 : IVec S2048x128 32) (main_v0 : IVec S2048x1 32) (main_v20 : IVec S16x2048 1) (main_v24 : IVec S16x2048 1) (main_v31 : IVec S16x16384 1) (main_v36 : IVec S2048x1 1) (main_v38 : IVec S2048x128 1) (main_v39 : IVec S2048x128 32) : IVec S16x2048 1 × IVec S16x2048 1 × IVec S16x16384 1 × IVec S2048x1 1 × IVec S2048x128 1 :=
  let main_v40 : IVec S2048x128 1 := cmpi .sge main_arg1 main_v39
  let main_c_7 : IVec S_ 32 := constantI S_ 32 128#32
  let main_v41 : IVec S2048x1 32 := broadcastInDim S2048x1 ![] bcast_S_S2048x1 main_c_7
  let main_v42 : IVec S2048x1 32 := addi main_v0 main_v41
  let main_v43 : IVec S2048x128 32 := broadcastInDim S2048x128 ![0, 1] bcast_S2048x1_S2048x128_0_1 main_v42
  let main_v44 : IVec S2048x128 1 := cmpi .slt main_arg1 main_v43
  let main_v45 : IVec S2048x128 1 := andi main_v40 main_v44
  let main_c_8 : IVec S_ 32 := constantI S_ 32 2048#32
  let main_v46 : IVec S2048x128 32 := broadcastInDim S2048x128 ![] bcast_S_S2048x128 main_c_8
  let main_v47 : IVec S2048x128 1 := cmpi .slt main_arg1 main_v46
  let main_v48 : IVec S2048x128 1 := andi main_v45 main_v47
  let main_v49 : IVec S2048x128 1 := ori main_v38 main_v48
  (main_v20, main_v24, main_v31, main_v36, main_v49)

def fn_part1 {F : FTy → Type} [FloatOps F] (main_arg1 : IVec S2048x128 32) (main_v0 : IVec S2048x1 32) (main_v1 : IVec S16x16384 32) (main_v9 : IVec S16x2048 32) (main_v15 : IVec S16x16384 32) (main_v17 : IVec S16x2048 1) (main_v19 : IVec S16x2048 1) : IVec S16x2048 1 × IVec S16x2048 1 × IVec S16x16384 1 × IVec S2048x1 1 × IVec S2048x128 1 :=
  let main_v20 : IVec S16x2048 1 := andi main_v17 main_v19
  let main_v21 : IVec S2048 32 := iotaInDim S2048 32 0
  let main_v22 : IVec S1x2048 32 := broadcastInDim S1x2048 ![1] bcast_S2048_S1x2048_1 main_v21
  let main_v23 : IVec S16x2048 32 := broadcastInDim S16x2048 ![0, 1] bcast_S1x2048_S16x2048_0_1 main_v22
  let main_v24 : IVec S16x2048 1 := cmpi .eq main_v9 main_v23
  let main_c_3 : IVec S_ 32 := constantI S_ 32 0#32
  let main_v25 : IVec S16x16384 32 := broadcastInDim S16x16384 ![] bcast_S_S16x16384 main_c_3
  let main_v26 : IVec S16x16384 1 := cmpi .slt main_v1 main_v25
  let main_v27 : IVec S16384 32 := iotaInDim S16384 32 0
  let main_v28 : IVec S1x16384 32 := broadcastInDim S1x16384 ![1] bcast_S16384_S1x16384_1 main_v27
  let main_v29 : IVec S16x16384 32 := broadcastInDim S16x16384 ![0, 1] bcast_S1x16384_S16x16384_0_1 main_v28
  let main_v30 : IVec S16x16384 1 := cmpi .eq main_v15 main_v29
  let main_v31 : IVec S16x16384 1 := ori main_v26 main_v30
  let main_c_4 : IVec S_ 32 := constantI S_ 32 0#32
  let main_v32 : IVec S2048x1 32 := broadcastInDim S2048x1 ![] bcast_S_S2048x1 main_c_4
  let main_v33 : IVec S2048x1 1 := cmpi .sge main_v0 main_v32
  let main_c_5 : IVec S_ 32 := constantI S_ 32 2048#32
  let main_v34 : IVec S2048x1 32 := broadcastInDim S2048x1 ![] bcast_S_S2048x1 main_c_5
  let main_v35 : IVec S2048x1 1 := cmpi .sle main_v0 main_v34
  let main_v36 : IVec S2048x1 1 := andi main_v33 main_v35
  let main_c_6 : IVec S_ 32 := constantI S_ 32 0#32
  let main_v37 : IVec S2048x128 32 := broadcastInDim S2048x128 ![] bcast_S_S2048x128 main_c_6
  let main_v38 : IVec S2048x128 1 := cmpi .slt main_arg1 main_v37
  let main_v39 : IVec S2048x128 32 := broadcastInDim S2048x128 ![0, 1] bcast_S2048x1_S2048x128_0_1 main_v0
  fn_part2 (F := F) main_arg1 main_v0 main_v20 main_v24 main_v31 main_v36 main_v38 main_v39

def fn {F : FTy → Type} [FloatOps F] (main_arg0 : IVec S16x2048 32) (main_arg1 : IVec S2048x128 32) (main_arg2 : IVec S2048x128 32) (main_arg3 : FVec F S16x2048x2048 .bf16) (main_arg4 : FVec F S16384x2048 .f32) (main_arg5 : FVec F S1x2048 .f32) (main_arg6 : FVec F S1x2048 .f32) : IVec S16x2048 1 × IVec S16x2048 1 × IVec S16x16384 1 × IVec S2048x1 1 × IVec S2048x128 1 :=
  let main_v0 : IVec S2048x1 32 := (extractStridedSlice S2048x1 ![0, 0] · slices_S2048x128_S2048x1_0_0) main_arg2
  let main_v1 : IVec S16x16384 32 := shapeCast S16x16384 main_arg1 shapeCasts_S2048x128_S16x16384
  let main_v2 : IVec S16 32 := iotaInDim S16 32 0
  let main_v3 : IVec S16x1 32 := broadcastInDim S16x1 ![0] bcast_S16_S16x1_0 main_v2
  let main_v4 : IVec S262144 32 := shapeCast S262144 main_arg1 shapeCasts_S2048x128_S262144
  let main_c : IVec S_ 32 := constantI S_ 32 16384#32
  let main_v5 : IVec S16x1 32 := broadcastInDim S16x1 ![] bcast_S_S16x1 main_c
  let main_v6 : IVec S16x1 32 := muli main_v3 main_v5
  let main_v7 : IVec S16x2048 32 := broadcastInDim S16x2048 ![0, 1] bcast_S16x1_S16x2048_0_1 main_v6
  let main_v8 : IVec S16x2048 32 := addi main_v7 main_arg0
  let main_v9 : IVec S16x2048 32 := fn_take (F := F) main_v4 main_v8
  let main_v10 : IVec S32768 32 := shapeCast S32768 main_arg0 shapeCasts_S16x2048_S32768
  let main_c_0 : IVec S_ 32 := constantI S_ 32 2048#32
  let main_v11 : IVec S16x1 32 := broadcastInDim S16x1 ![] bcast_S_S16x1 main_c_0
  let main_v12 : IVec S16x1 32 := muli main_v3 main_v11
  let main_v13 : IVec S16x16384 32 := broadcastInDim S16x16384 ![0, 1] bcast_S16x1_S16x16384_0_1 main_v12
  let main_v14 : IVec S16x16384 32 := addi main_v13 main_v1
  let main_v15 : IVec S16x16384 32 := fn_take_0 (F := F) main_v10 main_v14
  let main_c_1 : IVec S_ 32 := constantI S_ 32 0#32
  let main_v16 : IVec S16x2048 32 := broadcastInDim S16x2048 ![] bcast_S_S16x2048 main_c_1
  let main_v17 : IVec S16x2048 1 := cmpi .sge main_arg0 main_v16
  let main_c_2 : IVec S_ 32 := constantI S_ 32 16384#32
  let main_v18 : IVec S16x2048 32 := broadcastInDim S16x2048 ![] bcast_S_S16x2048 main_c_2
  let main_v19 : IVec S16x2048 1 := cmpi .slt main_arg0 main_v18
  fn_part1 (F := F) main_arg1 main_v0 main_v1 main_v9 main_v15 main_v17 main_v19
-- ==== Kernel.lean ====
abbrev S16x2048 : Shape := ⟨2, ![16, 2048]⟩
abbrev S2048x128 : Shape := ⟨2, ![2048, 128]⟩
abbrev S16x2048x2048 : Shape := ⟨3, ![16, 2048, 2048]⟩
abbrev S16384x2048 : Shape := ⟨2, ![16384, 2048]⟩
abbrev S1x2048 : Shape := ⟨2, ![1, 2048]⟩
abbrev S2048x1 : Shape := ⟨2, ![2048, 1]⟩
abbrev S2048 : Shape := ⟨1, ![2048]⟩
abbrev S16x128 : Shape := ⟨2, ![16, 128]⟩
abbrev S16x16384 : Shape := ⟨2, ![16, 16384]⟩
abbrev S16384x16 : Shape := ⟨2, ![16384, 16]⟩
abbrev S_ : Shape := ⟨0, ![]⟩
abbrev S1x144x2048 : Shape := ⟨3, ![1, 144, 2048]⟩
abbrev S1x1 : Shape := ⟨2, ![1, 1]⟩
abbrev S128x16 : Shape := ⟨2, ![128, 16]⟩
abbrev S128x2048 : Shape := ⟨2, ![128, 2048]⟩
abbrev S128x144 : Shape := ⟨2, ![128, 144]⟩
abbrev S128 : Shape := ⟨1, ![128]⟩
abbrev S128x1 : Shape := ⟨2, ![128, 1]⟩
abbrev S144x2048 : Shape := ⟨2, ![144, 2048]⟩

abbrev nBuf : Space → Nat
  | .hbm => 37
  | .vmem => 43
  | .smem => 1
  | _ => 0

abbrev bufTy : (tb : Table) → Fin (tcTables nBuf tb) → BufTy
  | .hbm, ⟨0, _⟩ => ⟨S16x2048, .i32⟩
  | .hbm, ⟨1, _⟩ => ⟨S2048x128, .i32⟩
  | .hbm, ⟨2, _⟩ => ⟨S2048x128, .i32⟩
  | .hbm, ⟨3, _⟩ => ⟨S16x2048x2048, .bf16⟩
  | .hbm, ⟨4, _⟩ => ⟨S16384x2048, .f32⟩
  | .hbm, ⟨5, _⟩ => ⟨S1x2048, .f32⟩
  | .hbm, ⟨6, _⟩ => ⟨S1x2048, .f32⟩
  | .hbm, ⟨7, _⟩ => ⟨S2048x1, .i32⟩
  | .hbm, ⟨8, _⟩ => ⟨S2048, .i32⟩
  | .hbm, ⟨9, _⟩ => ⟨S16x128, .i32⟩
  | .hbm, ⟨10, _⟩ => ⟨S16x16384, .i32⟩
  | .hbm, ⟨11, _⟩ => ⟨S16384x16, .i32⟩
  | .hbm, ⟨12, _⟩ => ⟨S_, .i32⟩
  | .hbm, ⟨13, _⟩ => ⟨S_, .i32⟩
  | .hbm, ⟨14, _⟩ => ⟨S16x128, .i32⟩
  | .hbm, ⟨15, _⟩ => ⟨S16x128, .i32⟩
  | .hbm, ⟨16, _⟩ => ⟨S16x128, .i32⟩
  | .hbm, ⟨17, _⟩ => ⟨S_, .i32⟩
  | .hbm, ⟨18, _⟩ => ⟨S16x128, .i32⟩
  | .hbm, ⟨19, _⟩ => ⟨S16x128, .i1⟩
  | .hbm, ⟨20, _⟩ => ⟨S16x128, .i32⟩
  | .hbm, ⟨21, _⟩ => ⟨S16x128, .i32⟩
  | .hbm, ⟨22, _⟩ => ⟨S_, .i32⟩
  | .hbm, ⟨23, _⟩ => ⟨S16x128, .i32⟩
  | .hbm, ⟨24, _⟩ => ⟨S16x128, .i1⟩
  | .hbm, ⟨25, _⟩ => ⟨S16x128, .i1⟩
  | .hbm, ⟨26, _⟩ => ⟨S_, .i32⟩
  | .hbm, ⟨27, _⟩ => ⟨S16x128, .i32⟩
  | .hbm, ⟨28, _⟩ => ⟨S16x128, .i32⟩
  | .hbm, ⟨29, _⟩ => ⟨S16x128, .i32⟩
  | .hbm, ⟨30, _⟩ => ⟨S_, .i32⟩
  | .hbm, ⟨31, _⟩ => ⟨S16x128, .i32⟩
  | .hbm, ⟨32, _⟩ => ⟨S16x128, .i32⟩
  | .hbm, ⟨33, _⟩ => ⟨S_, .i32⟩
  | .hbm, ⟨34, _⟩ => ⟨S16x128, .i32⟩
  | .hbm, ⟨35, _⟩ => ⟨S16384x2048, .f32⟩
  | .hbm, ⟨36, _⟩ => ⟨S16384x2048, .bf16⟩
  | .local _ .vmem, ⟨0, _⟩ => ⟨S1x144x2048, .bf16⟩
  | .local _ .vmem, ⟨1, _⟩ => ⟨S1x144x2048, .bf16⟩
  | .local _ .vmem, ⟨2, _⟩ => ⟨S1x144x2048, .bf16⟩
  | .local _ .vmem, ⟨3, _⟩ => ⟨S1x144x2048, .bf16⟩
  | .local _ .vmem, ⟨4, _⟩ => ⟨S1x144x2048, .bf16⟩
  | .local _ .vmem, ⟨5, _⟩ => ⟨S1x144x2048, .bf16⟩
  | .local _ .vmem, ⟨6, _⟩ => ⟨S1x144x2048, .bf16⟩
  | .local _ .vmem, ⟨7, _⟩ => ⟨S1x144x2048, .bf16⟩
  | .local _ .vmem, ⟨8, _⟩ => ⟨S1x144x2048, .bf16⟩
  | .local _ .vmem, ⟨9, _⟩ => ⟨S1x144x2048, .bf16⟩
  | .local _ .vmem, ⟨10, _⟩ => ⟨S1x144x2048, .bf16⟩
  | .local _ .vmem, ⟨11, _⟩ => ⟨S1x144x2048, .bf16⟩
  | .local _ .vmem, ⟨12, _⟩ => ⟨S1x144x2048, .bf16⟩
  | .local _ .vmem, ⟨13, _⟩ => ⟨S1x144x2048, .bf16⟩
  | .local _ .vmem, ⟨14, _⟩ => ⟨S1x144x2048, .bf16⟩
  | .local _ .vmem, ⟨15, _⟩ => ⟨S1x144x2048, .bf16⟩
  | .local _ .vmem, ⟨16, _⟩ => ⟨S1x144x2048, .bf16⟩
  | .local _ .vmem, ⟨17, _⟩ => ⟨S1x144x2048, .bf16⟩
  | .local _ .vmem, ⟨18, _⟩ => ⟨S1x144x2048, .bf16⟩
  | .local _ .vmem, ⟨19, _⟩ => ⟨S1x144x2048, .bf16⟩
  | .local _ .vmem, ⟨20, _⟩ => ⟨S1x144x2048, .bf16⟩
  | .local _ .vmem, ⟨21, _⟩ => ⟨S1x144x2048, .bf16⟩
  | .local _ .vmem, ⟨22, _⟩ => ⟨S1x144x2048, .bf16⟩
  | .local _ .vmem, ⟨23, _⟩ => ⟨S1x144x2048, .bf16⟩
  | .local _ .vmem, ⟨24, _⟩ => ⟨S1x144x2048, .bf16⟩
  | .local _ .vmem, ⟨25, _⟩ => ⟨S1x144x2048, .bf16⟩
  | .local _ .vmem, ⟨26, _⟩ => ⟨S1x144x2048, .bf16⟩
  | .local _ .vmem, ⟨27, _⟩ => ⟨S1x144x2048, .bf16⟩
  | .local _ .vmem, ⟨28, _⟩ => ⟨S1x144x2048, .bf16⟩
  | .local _ .vmem, ⟨29, _⟩ => ⟨S1x144x2048, .bf16⟩
  | .local _ .vmem, ⟨30, _⟩ => ⟨S1x144x2048, .bf16⟩
  | .local _ .vmem, ⟨31, _⟩ => ⟨S1x144x2048, .bf16⟩
  | .local _ .vmem, ⟨32, _⟩ => ⟨S128x16, .i32⟩
  | .local _ .vmem, ⟨33, _⟩ => ⟨S128x16, .i32⟩
  | .local _ .vmem, ⟨34, _⟩ => ⟨S128x2048, .f32⟩
  | .local _ .vmem, ⟨35, _⟩ => ⟨S128x2048, .f32⟩
  | .local _ .vmem, ⟨36, _⟩ => ⟨S1x2048, .f32⟩
  | .local _ .vmem, ⟨37, _⟩ => ⟨S1x2048, .f32⟩
  | .local _ .vmem, ⟨38, _⟩ => ⟨S128x2048, .f32⟩
  | .local _ .vmem, ⟨39, _⟩ => ⟨S128x2048, .f32⟩
  | .local _ .vmem, ⟨40, _⟩ => ⟨S128x2048, .bf16⟩
  | .local _ .vmem, ⟨41, _⟩ => ⟨S128x2048, .bf16⟩
  | .local _ .vmem, ⟨42, _⟩ => ⟨S128x2048, .f32⟩
  | .local _ .smem, ⟨0, _⟩ => ⟨S16x128, .i32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_c_1 : Ref sig .tc := ⟨.hbm, 33, rfl⟩
abbrev main_v8 : Ref sig .tc := ⟨.hbm, 34, rfl⟩
abbrev main_v10_0 : Ref sig .tc := ⟨.hbm, 35, rfl⟩
abbrev main_v10_1 : Ref sig .tc := ⟨.hbm, 36, rfl⟩
abbrev main_v9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg19_0 : Ref sig .tc := ⟨.vmem, 37, rfl⟩
abbrev cc0_stg20_0 : Ref sig .tc := ⟨.vmem, 38, rfl⟩
abbrev cc0_stg20_1 : Ref sig .tc := ⟨.vmem, 39, rfl⟩
abbrev cc0_stg21_0 : Ref sig .tc := ⟨.vmem, 40, rfl⟩
abbrev cc0_stg21_1 : Ref sig .tc := ⟨.vmem, 41, rfl⟩
abbrev cc0_scratch0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem19_0 : DmaSem sig := 37
abbrev cc0_sem20_0 : DmaSem sig := 38
abbrev cc0_sem20_1 : DmaSem sig := 39
abbrev cc0_sem21_0 : DmaSem sig := 40
abbrev cc0_sem21_1 : DmaSem sig := 41

abbrev nD : Nat := 1
abbrev τ : Topo := Topo.v7x

variable {F : FTy → Type} [FloatOps F]

abbrev grid0 : Pipeline.Grid := ⟨2, ![128, 1], ![false, false]⟩

abbrev pre0 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_1 : BitVec 32) : Fin 2 → Nat :=
  let arg1 : BitVec 32 := BitVec.ofNat 32 (i 1).val
  let c16_i32_0 : BitVec 32 := 16#32
  let v2 : BitVec 32 := Scalar.muli arg1 c16_i32_0
  let v3 : BitVec 32 := Scalar.addi v2 c0_i32_1
  let v4 : Index := Scalar.indexCast v3
  let arg0 : BitVec 32 := BitVec.ofNat 32 (i 0).val
  let v5 : Index := Scalar.indexCast arg0
  ![v4.toNat, v5.toNat]
def k0_mult1 (pf : pre0.Contents (Elt F)) (i : grid0.Coords) : BitVec 32 :=
  let arg1 : BitVec 32 := BitVec.ofNat 32 (i 1).val
  let c16_i32_0 : BitVec 32 := 16#32
  let v2 : BitVec 32 := Scalar.muli arg1 c16_i32_0
  let c0_i32_1 : BitVec 32 := 0#32
  let v3 : BitVec 32 := Scalar.addi v2 c0_i32_1
  let v4 : Index := Scalar.indexCast v3
  let arg0 : BitVec 32 := BitVec.ofNat 32 (i 0).val
  let v5 : Index := Scalar.indexCast arg0
  let v6 : BitVec 32 := pf.atD 0 ![v4.toNat, v5.toNat]
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c16_i32_2 : BitVec 32 := 16#32
  let c0_i32_5 : BitVec 32 := 0#32
  let v13 : BitVec 1 := Scalar.cmpi .sgt c16_i32_2 c0_i32_5
  let v14 : BitVec 32 := Scalar.extui v13
  let c0_i32_6 : BitVec 32 := 0#32
  let v15 : BitVec 1 := Scalar.cmpi .slt c16_i32_2 c0_i32_6
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_7 : BitVec 32 := 0#32
  let v20 : BitVec 1 := Scalar.cmpi .ne v19 c0_i32_7
  let v21 : BitVec 1 := Scalar.andi v18 v20
  let v7 : BitVec 32 := Scalar.divsi v6 c16_i32_2
  let c1_i32 : BitVec 32 := 1#32
  let v22 : BitVec 32 := Scalar.subi v7 c1_i32
  let v23 : BitVec 32 := Scalar.select v21 v22 v7
  let c16_i32_8 : BitVec 32 := 16#32
  let v24 : BitVec 32 := Scalar.muli v23 c16_i32_8
  v24

def k0_mult2 (pf : pre0.Contents (Elt F)) (i : grid0.Coords) : BitVec 32 :=
  let arg1 : BitVec 32 := BitVec.ofNat 32 (i 1).val
  let c16_i32_0 : BitVec 32 := 16#32
  let v2 : BitVec 32 := Scalar.muli arg1 c16_i32_0
  let c1_i32_1 : BitVec 32 := 1#32
  let v3 : BitVec 32 := Scalar.addi v2 c1_i32_1
  let v4 : Index := Scalar.indexCast v3
  let arg0 : BitVec 32 := BitVec.ofNat 32 (i 0).val
  let v5 : Index := Scalar.indexCast arg0
  let v6 : BitVec 32 := pf.atD 0 ![v4.toNat, v5.toNat]
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c16_i32_2 : BitVec 32 := 16#32
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let v7 : BitVec 32 := Scalar.divsi v6 c16_i32_2
  let c1_i32_7 : BitVec 32 := 1#32
  let v22 : BitVec 32 := Scalar.subi v7 c1_i32_7
  let v23 : BitVec 32 := Scalar.select v21 v22 v7
  let c16_i32_8 : BitVec 32 := 16#32
  let v24 : BitVec 32 := Scalar.muli v23 c16_i32_8
  v24

def k0_mult3 (pf : pre0.Contents (Elt F)) (i : grid0.Coords) : BitVec 32 :=
  let arg1 : BitVec 32 := BitVec.ofNat 32 (i 1).val
  let c16_i32_0 : BitVec 32 := 16#32
  let v2 : BitVec 32 := Scalar.muli arg1 c16_i32_0
  let c2_i32_1 : BitVec 32 := 2#32
  let v3 : BitVec 32 := Scalar.addi v2 c2_i32_1
  let v4 : Index := Scalar.indexCast v3
  let arg0 : BitVec 32 := BitVec.ofNat 32 (i 0).val
  let v5 : Index := Scalar.indexCast arg0
  let v6 : BitVec 32 := pf.atD 0 ![v4.toNat, v5.toNat]
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c16_i32_2 : BitVec 32 := 16#32
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let v7 : BitVec 32 := Scalar.divsi v6 c16_i32_2
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  v24

def k0_mult4 (pf : pre0.Contents (Elt F)) (i : grid0.Coords) : BitVec 32 :=
  let arg1 : BitVec 32 := BitVec.ofNat 32 (i 1).val
  let c16_i32_0 : BitVec 32 := 16#32
  let v2 : BitVec 32 := Scalar.muli arg1 c16_i32_0
  let c3_i32_1 : BitVec 32 := 3#32
  let v3 : BitVec 32 := Scalar.addi v2 c3_i32_1
  let v4 : Index := Scalar.indexCast v3
  let arg0 : BitVec 32 := BitVec.ofNat 32 (i 0).val
  let v5 : Index := Scalar.indexCast arg0
  let v6 : BitVec 32 := pf.atD 0 ![v4.toNat, v5.toNat]
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c16_i32_2 : BitVec 32 := 16#32
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let v7 : BitVec 32 := Scalar.divsi v6 c16_i32_2
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  v24

def k0_mult5 (pf : pre0.Contents (Elt F)) (i : grid0.Coords) : BitVec 32 :=
  let arg1 : BitVec 32 := BitVec.ofNat 32 (i 1).val
  let c16_i32_0 : BitVec 32 := 16#32
  let v2 : BitVec 32 := Scalar.muli arg1 c16_i32_0
  let c4_i32_1 : BitVec 32 := 4#32
  let v3 : BitVec 32 := Scalar.addi v2 c4_i32_1
  let v4 : Index := Scalar.indexCast v3
  let arg0 : BitVec 32 := BitVec.ofNat 32 (i 0).val
  let v5 : Index := Scalar.indexCast arg0
  let v6 : BitVec 32 := pf.atD 0 ![v4.toNat, v5.toNat]
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c16_i32_2 : BitVec 32 := 16#32
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let v7 : BitVec 32 := Scalar.divsi v6 c16_i32_2
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  v24

def k0_mult6 (pf : pre0.Contents (Elt F)) (i : grid0.Coords) : BitVec 32 :=
  let arg1 : BitVec 32 := BitVec.ofNat 32 (i 1).val
  let c16_i32_0 : BitVec 32 := 16#32
  let v2 : BitVec 32 := Scalar.muli arg1 c16_i32_0
  let c5_i32_1 : BitVec 32 := 5#32
  let v3 : BitVec 32 := Scalar.addi v2 c5_i32_1
  let v4 : Index := Scalar.indexCast v3
  let arg0 : BitVec 32 := BitVec.ofNat 32 (i 0).val
  let v5 : Index := Scalar.indexCast arg0
  let v6 : BitVec 32 := pf.atD 0 ![v4.toNat, v5.toNat]
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c16_i32_2 : BitVec 32 := 16#32
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let v7 : BitVec 32 := Scalar.divsi v6 c16_i32_2
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  v24

def k0_mult7 (pf : pre0.Contents (Elt F)) (i : grid0.Coords) : BitVec 32 :=
  let arg1 : BitVec 32 := BitVec.ofNat 32 (i 1).val
  let c16_i32_0 : BitVec 32 := 16#32
  let v2 : BitVec 32 := Scalar.muli arg1 c16_i32_0
  let c6_i32_1 : BitVec 32 := 6#32
  let v3 : BitVec 32 := Scalar.addi v2 c6_i32_1
  let v4 : Index := Scalar.indexCast v3
  let arg0 : BitVec 32 := BitVec.ofNat 32 (i 0).val
  let v5 : Index := Scalar.indexCast arg0
  let v6 : BitVec 32 := pf.atD 0 ![v4.toNat, v5.toNat]
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c16_i32_2 : BitVec 32 := 16#32
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let v7 : BitVec 32 := Scalar.divsi v6 c16_i32_2
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  v24

def k0_mult8 (pf : pre0.Contents (Elt F)) (i : grid0.Coords) : BitVec 32 :=
  let arg1 : BitVec 32 := BitVec.ofNat 32 (i 1).val
  let c16_i32_0 : BitVec 32 := 16#32
  let v2 : BitVec 32 := Scalar.muli arg1 c16_i32_0
  let c7_i32_1 : BitVec 32 := 7#32
  let v3 : BitVec 32 := Scalar.addi v2 c7_i32_1
  let v4 : Index := Scalar.indexCast v3
  let arg0 : BitVec 32 := BitVec.ofNat 32 (i 0).val
  let v5 : Index := Scalar.indexCast arg0
  let v6 : BitVec 32 := pf.atD 0 ![v4.toNat, v5.toNat]
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c16_i32_2 : BitVec 32 := 16#32
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let v7 : BitVec 32 := Scalar.divsi v6 c16_i32_2
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  v24

def k0_mult9 (pf : pre0.Contents (Elt F)) (i : grid0.Coords) : BitVec 32 :=
  let arg1 : BitVec 32 := BitVec.ofNat 32 (i 1).val
  let c16_i32_0 : BitVec 32 := 16#32
  let v2 : BitVec 32 := Scalar.muli arg1 c16_i32_0
  let c8_i32_1 : BitVec 32 := 8#32
  let v3 : BitVec 32 := Scalar.addi v2 c8_i32_1
  let v4 : Index := Scalar.indexCast v3
  let arg0 : BitVec 32 := BitVec.ofNat 32 (i 0).val
  let v5 : Index := Scalar.indexCast arg0
  let v6 : BitVec 32 := pf.atD 0 ![v4.toNat, v5.toNat]
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c16_i32_2 : BitVec 32 := 16#32
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let v7 : BitVec 32 := Scalar.divsi v6 c16_i32_2
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  v24

def k0_mult10 (pf : pre0.Contents (Elt F)) (i : grid0.Coords) : BitVec 32 :=
  let arg1 : BitVec 32 := BitVec.ofNat 32 (i 1).val
  let c16_i32_0 : BitVec 32 := 16#32
  let v2 : BitVec 32 := Scalar.muli arg1 c16_i32_0
  let c9_i32_1 : BitVec 32 := 9#32
  let v3 : BitVec 32 := Scalar.addi v2 c9_i32_1
  let v4 : Index := Scalar.indexCast v3
  let arg0 : BitVec 32 := BitVec.ofNat 32 (i 0).val
  let v5 : Index := Scalar.indexCast arg0
  let v6 : BitVec 32 := pf.atD 0 ![v4.toNat, v5.toNat]
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c16_i32_2 : BitVec 32 := 16#32
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let v7 : BitVec 32 := Scalar.divsi v6 c16_i32_2
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  v24

def k0_mult11 (pf : pre0.Contents (Elt F)) (i : grid0.Coords) : BitVec 32 :=
  let arg1 : BitVec 32 := BitVec.ofNat 32 (i 1).val
  let c16_i32_0 : BitVec 32 := 16#32
  let v2 : BitVec 32 := Scalar.muli arg1 c16_i32_0
  let c10_i32_1 : BitVec 32 := 10#32
  let v3 : BitVec 32 := Scalar.addi v2 c10_i32_1
  let v4 : Index := Scalar.indexCast v3
  let arg0 : BitVec 32 := BitVec.ofNat 32 (i 0).val
  let v5 : Index := Scalar.indexCast arg0
  let v6 : BitVec 32 := pf.atD 0 ![v4.toNat, v5.toNat]
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c16_i32_2 : BitVec 32 := 16#32
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let v7 : BitVec 32 := Scalar.divsi v6 c16_i32_2
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  v24

def k0_mult12 (pf : pre0.Contents (Elt F)) (i : grid0.Coords) : BitVec 32 :=
  let arg1 : BitVec 32 := BitVec.ofNat 32 (i 1).val
  let c16_i32_0 : BitVec 32 := 16#32
  let v2 : BitVec 32 := Scalar.muli arg1 c16_i32_0
  let c11_i32_1 : BitVec 32 := 11#32
  let v3 : BitVec 32 := Scalar.addi v2 c11_i32_1
  let v4 : Index := Scalar.indexCast v3
  let arg0 : BitVec 32 := BitVec.ofNat 32 (i 0).val
  let v5 : Index := Scalar.indexCast arg0
  let v6 : BitVec 32 := pf.atD 0 ![v4.toNat, v5.toNat]
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c16_i32_2 : BitVec 32 := 16#32
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let v7 : BitVec 32 := Scalar.divsi v6 c16_i32_2
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  v24

def k0_mult13 (pf : pre0.Contents (Elt F)) (i : grid0.Coords) : BitVec 32 :=
  let arg1 : BitVec 32 := BitVec.ofNat 32 (i 1).val
  let c16_i32_0 : BitVec 32 := 16#32
  let v2 : BitVec 32 := Scalar.muli arg1 c16_i32_0
  let c12_i32_1 : BitVec 32 := 12#32
  let v3 : BitVec 32 := Scalar.addi v2 c12_i32_1
  let v4 : Index := Scalar.indexCast v3
  let arg0 : BitVec 32 := BitVec.ofNat 32 (i 0).val
  let v5 : Index := Scalar.indexCast arg0
  let v6 : BitVec 32 := pf.atD 0 ![v4.toNat, v5.toNat]
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c16_i32_2 : BitVec 32 := 16#32
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let v7 : BitVec 32 := Scalar.divsi v6 c16_i32_2
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  v24

def k0_mult14 (pf : pre0.Contents (Elt F)) (i : grid0.Coords) : BitVec 32 :=
  let arg1 : BitVec 32 := BitVec.ofNat 32 (i 1).val
  let c16_i32_0 : BitVec 32 := 16#32
  let v2 : BitVec 32 := Scalar.muli arg1 c16_i32_0
  let c13_i32_1 : BitVec 32 := 13#32
  let v3 : BitVec 32 := Scalar.addi v2 c13_i32_1
  let v4 : Index := Scalar.indexCast v3
  let arg0 : BitVec 32 := BitVec.ofNat 32 (i 0).val
  let v5 : Index := Scalar.indexCast arg0
  let v6 : BitVec 32 := pf.atD 0 ![v4.toNat, v5.toNat]
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c16_i32_2 : BitVec 32 := 16#32
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let v7 : BitVec 32 := Scalar.divsi v6 c16_i32_2
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  v24

def k0_mult15 (pf : pre0.Contents (Elt F)) (i : grid0.Coords) : BitVec 32 :=
  let arg1 : BitVec 32 := BitVec.ofNat 32 (i 1).val
  let c16_i32_0 : BitVec 32 := 16#32
  let v2 : BitVec 32 := Scalar.muli arg1 c16_i32_0
  let c14_i32_1 : BitVec 32 := 14#32
  let v3 : BitVec 32 := Scalar.addi v2 c14_i32_1
  let v4 : Index := Scalar.indexCast v3
  let arg0 : BitVec 32 := BitVec.ofNat 32 (i 0).val
  let v5 : Index := Scalar.indexCast arg0
  let v6 : BitVec 32 := pf.atD 0 ![v4.toNat, v5.toNat]
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c16_i32_2 : BitVec 32 := 16#32
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let v7 : BitVec 32 := Scalar.divsi v6 c16_i32_2
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  v24

def k0_mult16 (pf : pre0.Contents (Elt F)) (i : grid0.Coords) : BitVec 32 :=
  let arg1 : BitVec 32 := BitVec.ofNat 32 (i 1).val
  let c16_i32_0 : BitVec 32 := 16#32
  let v2 : BitVec 32 := Scalar.muli arg1 c16_i32_0
  let c15_i32_1 : BitVec 32 := 15#32
  let v3 : BitVec 32 := Scalar.addi v2 c15_i32_1
  let v4 : Index := Scalar.indexCast v3
  let arg0 : BitVec 32 := BitVec.ofNat 32 (i 0).val
  let v5 : Index := Scalar.indexCast arg0
  let v6 : BitVec 32 := pf.atD 0 ![v4.toNat, v5.toNat]
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c16_i32_2 : BitVec 32 := 16#32
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let v7 : BitVec 32 := Scalar.divsi v6 c16_i32_2
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  v24

def k0_cond2 (i : grid0.Coords) : BitVec 1 :=
  let arg1 : BitVec 32 := BitVec.ofNat 32 (i 1).val
  let c0_i32_117 : BitVec 32 := 0#32
  let v380 : BitVec 1 := Scalar.cmpi .eq arg1 c0_i32_117
  let v381 : BitVec 32 := Scalar.extui v380
  let c0_i32_118 : BitVec 32 := 0#32
  let v382 : BitVec 1 := Scalar.cmpi .ne v381 c0_i32_118
  v382

def cc0_transform_0 (k0_off1_inb : ∀ i : grid0.Coords, ∀ (r : Fin 16), ∀ a, (k0_off1 i (BitVec.ofNat 32 r.val)) a + S1x1.size a ≤ S16x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c0_i32 : BitVec 32 := 0#32
  let v1 : BitVec 32 := Scalar.addi v0 c0_i32
  let c16_i32_0 : BitVec 32 := 16#32
  let v2 : BitVec 32 := Scalar.muli arg1 c16_i32_0
  let c0_i32_1 : BitVec 32 := 0#32
  let v3 : BitVec 32 := Scalar.addi v2 c0_i32_1
  let v4 : Index := Scalar.indexCast v3
  let v5 : Index := Scalar.indexCast arg0
  let v6 : BitVec 32 := pf.at 0 (Rect.unit (s := S16x128) ![v4.toNat, v5.toNat] S1x1.size (k0_off1_inb i 0)) numel1_S1x1
  let c16_i32_2 : BitVec 32 := 16#32
  let v7 : BitVec 32 := Scalar.divsi v6 c16_i32_2
  let c0_i32_3 : BitVec 32 := 0#32
  let v8 : BitVec 1 := Scalar.cmpi .sgt v6 c0_i32_3
  let v9 : BitVec 32 := Scalar.extui v8
  let c0_i32_4 : BitVec 32 := 0#32
  let v10 : BitVec 1 := Scalar.cmpi .slt v6 c0_i32_4
  let v11 : BitVec 32 := Scalar.extui v10
  let v12 : BitVec 32 := Scalar.subi v9 v11
  let c0_i32_5 : BitVec 32 := 0#32
  let v13 : BitVec 1 := Scalar.cmpi .sgt c16_i32_2 c0_i32_5
  let v14 : BitVec 32 := Scalar.extui v13
  let c0_i32_6 : BitVec 32 := 0#32
  let v15 : BitVec 1 := Scalar.cmpi .slt c16_i32_2 c0_i32_6
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_7 : BitVec 32 := 0#32
  let v20 : BitVec 1 := Scalar.cmpi .ne v19 c0_i32_7
  let v21 : BitVec 1 := Scalar.andi v18 v20
  let c1_i32 : BitVec 32 := 1#32
  let v22 : BitVec 32 := Scalar.subi v7 c1_i32
  let v23 : BitVec 32 := Scalar.select v21 v22 v7
  let c16_i32_8 : BitVec 32 := 16#32
  let v24 : BitVec 32 := Scalar.muli v23 c16_i32_8
  let v25 : BitVec 32 := v24
  let c0_i32_9 : BitVec 32 := 0#32
  let c0_i32_10 : BitVec 32 := 0#32
  ![v1.toNat, v25.toNat, c0_i32_9.toNat]

def cc0_transform_1 (k0_off1_inb : ∀ i : grid0.Coords, ∀ (r : Fin 16), ∀ a, (k0_off1 i (BitVec.ofNat 32 r.val)) a + S1x1.size a ≤ S16x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.addi v0 c1_i32
  let c16_i32_0 : BitVec 32 := 16#32
  let v2 : BitVec 32 := Scalar.muli arg1 c16_i32_0
  let c1_i32_1 : BitVec 32 := 1#32
  let v3 : BitVec 32 := Scalar.addi v2 c1_i32_1
  let v4 : Index := Scalar.indexCast v3
  let v5 : Index := Scalar.indexCast arg0
  let v6 : BitVec 32 := pf.at 0 (Rect.unit (s := S16x128) ![v4.toNat, v5.toNat] S1x1.size (k0_off1_inb i 1)) numel1_S1x1
  let c16_i32_2 : BitVec 32 := 16#32
  let v7 : BitVec 32 := Scalar.divsi v6 c16_i32_2
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let c1_i32_7 : BitVec 32 := 1#32
  let v22 : BitVec 32 := Scalar.subi v7 c1_i32_7
  let v23 : BitVec 32 := Scalar.select v21 v22 v7
  let c16_i32_8 : BitVec 32 := 16#32
  let v24 : BitVec 32 := Scalar.muli v23 c16_i32_8
  let v25 : BitVec 32 := v24
  let c0_i32_9 : BitVec 32 := 0#32
  let c0_i32_10 : BitVec 32 := 0#32
  ![v1.toNat, v25.toNat, c0_i32_9.toNat]

def cc0_transform_2 (k0_off1_inb : ∀ i : grid0.Coords, ∀ (r : Fin 16), ∀ a, (k0_off1 i (BitVec.ofNat 32 r.val)) a + S1x1.size a ≤ S16x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c2_i32 : BitVec 32 := 2#32
  let v1 : BitVec 32 := Scalar.addi v0 c2_i32
  let c16_i32_0 : BitVec 32 := 16#32
  let v2 : BitVec 32 := Scalar.muli arg1 c16_i32_0
  let c2_i32_1 : BitVec 32 := 2#32
  let v3 : BitVec 32 := Scalar.addi v2 c2_i32_1
  let v4 : Index := Scalar.indexCast v3
  let v5 : Index := Scalar.indexCast arg0
  let v6 : BitVec 32 := pf.at 0 (Rect.unit (s := S16x128) ![v4.toNat, v5.toNat] S1x1.size (k0_off1_inb i 2)) numel1_S1x1
  let c16_i32_2 : BitVec 32 := 16#32
  let v7 : BitVec 32 := Scalar.divsi v6 c16_i32_2
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  let v25 : BitVec 32 := v24
  let c0_i32_8 : BitVec 32 := 0#32
  let c0_i32_9 : BitVec 32 := 0#32
  ![v1.toNat, v25.toNat, c0_i32_8.toNat]

def cc0_transform_3 (k0_off1_inb : ∀ i : grid0.Coords, ∀ (r : Fin 16), ∀ a, (k0_off1 i (BitVec.ofNat 32 r.val)) a + S1x1.size a ≤ S16x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c3_i32 : BitVec 32 := 3#32
  let v1 : BitVec 32 := Scalar.addi v0 c3_i32
  let c16_i32_0 : BitVec 32 := 16#32
  let v2 : BitVec 32 := Scalar.muli arg1 c16_i32_0
  let c3_i32_1 : BitVec 32 := 3#32
  let v3 : BitVec 32 := Scalar.addi v2 c3_i32_1
  let v4 : Index := Scalar.indexCast v3
  let v5 : Index := Scalar.indexCast arg0
  let v6 : BitVec 32 := pf.at 0 (Rect.unit (s := S16x128) ![v4.toNat, v5.toNat] S1x1.size (k0_off1_inb i 3)) numel1_S1x1
  let c16_i32_2 : BitVec 32 := 16#32
  let v7 : BitVec 32 := Scalar.divsi v6 c16_i32_2
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  let v25 : BitVec 32 := v24
  let c0_i32_8 : BitVec 32 := 0#32
  let c0_i32_9 : BitVec 32 := 0#32
  ![v1.toNat, v25.toNat, c0_i32_8.toNat]

def cc0_transform_4 (k0_off1_inb : ∀ i : grid0.Coords, ∀ (r : Fin 16), ∀ a, (k0_off1 i (BitVec.ofNat 32 r.val)) a + S1x1.size a ≤ S16x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c4_i32 : BitVec 32 := 4#32
  let v1 : BitVec 32 := Scalar.addi v0 c4_i32
  let c16_i32_0 : BitVec 32 := 16#32
  let v2 : BitVec 32 := Scalar.muli arg1 c16_i32_0
  let c4_i32_1 : BitVec 32 := 4#32
  let v3 : BitVec 32 := Scalar.addi v2 c4_i32_1
  let v4 : Index := Scalar.indexCast v3
  let v5 : Index := Scalar.indexCast arg0
  let v6 : BitVec 32 := pf.at 0 (Rect.unit (s := S16x128) ![v4.toNat, v5.toNat] S1x1.size (k0_off1_inb i 4)) numel1_S1x1
  let c16_i32_2 : BitVec 32 := 16#32
  let v7 : BitVec 32 := Scalar.divsi v6 c16_i32_2
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  let v25 : BitVec 32 := v24
  let c0_i32_8 : BitVec 32 := 0#32
  let c0_i32_9 : BitVec 32 := 0#32
  ![v1.toNat, v25.toNat, c0_i32_8.toNat]

def cc0_transform_5 (k0_off1_inb : ∀ i : grid0.Coords, ∀ (r : Fin 16), ∀ a, (k0_off1 i (BitVec.ofNat 32 r.val)) a + S1x1.size a ≤ S16x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c5_i32 : BitVec 32 := 5#32
  let v1 : BitVec 32 := Scalar.addi v0 c5_i32
  let c16_i32_0 : BitVec 32 := 16#32
  let v2 : BitVec 32 := Scalar.muli arg1 c16_i32_0
  let c5_i32_1 : BitVec 32 := 5#32
  let v3 : BitVec 32 := Scalar.addi v2 c5_i32_1
  let v4 : Index := Scalar.indexCast v3
  let v5 : Index := Scalar.indexCast arg0
  let v6 : BitVec 32 := pf.at 0 (Rect.unit (s := S16x128) ![v4.toNat, v5.toNat] S1x1.size (k0_off1_inb i 5)) numel1_S1x1
  let c16_i32_2 : BitVec 32 := 16#32
  let v7 : BitVec 32 := Scalar.divsi v6 c16_i32_2
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  let v25 : BitVec 32 := v24
  let c0_i32_8 : BitVec 32 := 0#32
  let c0_i32_9 : BitVec 32 := 0#32
  ![v1.toNat, v25.toNat, c0_i32_8.toNat]

def cc0_transform_6 (k0_off1_inb : ∀ i : grid0.Coords, ∀ (r : Fin 16), ∀ a, (k0_off1 i (BitVec.ofNat 32 r.val)) a + S1x1.size a ≤ S16x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c6_i32 : BitVec 32 := 6#32
  let v1 : BitVec 32 := Scalar.addi v0 c6_i32
  let c16_i32_0 : BitVec 32 := 16#32
  let v2 : BitVec 32 := Scalar.muli arg1 c16_i32_0
  let c6_i32_1 : BitVec 32 := 6#32
  let v3 : BitVec 32 := Scalar.addi v2 c6_i32_1
  let v4 : Index := Scalar.indexCast v3
  let v5 : Index := Scalar.indexCast arg0
  let v6 : BitVec 32 := pf.at 0 (Rect.unit (s := S16x128) ![v4.toNat, v5.toNat] S1x1.size (k0_off1_inb i 6)) numel1_S1x1
  let c16_i32_2 : BitVec 32 := 16#32
  let v7 : BitVec 32 := Scalar.divsi v6 c16_i32_2
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  let v25 : BitVec 32 := v24
  let c0_i32_8 : BitVec 32 := 0#32
  let c0_i32_9 : BitVec 32 := 0#32
  ![v1.toNat, v25.toNat, c0_i32_8.toNat]

def cc0_transform_7 (k0_off1_inb : ∀ i : grid0.Coords, ∀ (r : Fin 16), ∀ a, (k0_off1 i (BitVec.ofNat 32 r.val)) a + S1x1.size a ≤ S16x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c7_i32 : BitVec 32 := 7#32
  let v1 : BitVec 32 := Scalar.addi v0 c7_i32
  let c16_i32_0 : BitVec 32 := 16#32
  let v2 : BitVec 32 := Scalar.muli arg1 c16_i32_0
  let c7_i32_1 : BitVec 32 := 7#32
  let v3 : BitVec 32 := Scalar.addi v2 c7_i32_1
  let v4 : Index := Scalar.indexCast v3
  let v5 : Index := Scalar.indexCast arg0
  let v6 : BitVec 32 := pf.at 0 (Rect.unit (s := S16x128) ![v4.toNat, v5.toNat] S1x1.size (k0_off1_inb i 7)) numel1_S1x1
  let c16_i32_2 : BitVec 32 := 16#32
  let v7 : BitVec 32 := Scalar.divsi v6 c16_i32_2
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  let v25 : BitVec 32 := v24
  let c0_i32_8 : BitVec 32 := 0#32
  let c0_i32_9 : BitVec 32 := 0#32
  ![v1.toNat, v25.toNat, c0_i32_8.toNat]

def cc0_transform_8 (k0_off1_inb : ∀ i : grid0.Coords, ∀ (r : Fin 16), ∀ a, (k0_off1 i (BitVec.ofNat 32 r.val)) a + S1x1.size a ≤ S16x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c8_i32 : BitVec 32 := 8#32
  let v1 : BitVec 32 := Scalar.addi v0 c8_i32
  let c16_i32_0 : BitVec 32 := 16#32
  let v2 : BitVec 32 := Scalar.muli arg1 c16_i32_0
  let c8_i32_1 : BitVec 32 := 8#32
  let v3 : BitVec 32 := Scalar.addi v2 c8_i32_1
  let v4 : Index := Scalar.indexCast v3
  let v5 : Index := Scalar.indexCast arg0
  let v6 : BitVec 32 := pf.at 0 (Rect.unit (s := S16x128) ![v4.toNat, v5.toNat] S1x1.size (k0_off1_inb i 8)) numel1_S1x1
  let c16_i32_2 : BitVec 32 := 16#32
  let v7 : BitVec 32 := Scalar.divsi v6 c16_i32_2
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  let v25 : BitVec 32 := v24
  let c0_i32_8 : BitVec 32 := 0#32
  let c0_i32_9 : BitVec 32 := 0#32
  ![v1.toNat, v25.toNat, c0_i32_8.toNat]

def cc0_transform_9 (k0_off1_inb : ∀ i : grid0.Coords, ∀ (r : Fin 16), ∀ a, (k0_off1 i (BitVec.ofNat 32 r.val)) a + S1x1.size a ≤ S16x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c9_i32 : BitVec 32 := 9#32
  let v1 : BitVec 32 := Scalar.addi v0 c9_i32
  let c16_i32_0 : BitVec 32 := 16#32
  let v2 : BitVec 32 := Scalar.muli arg1 c16_i32_0
  let c9_i32_1 : BitVec 32 := 9#32
  let v3 : BitVec 32 := Scalar.addi v2 c9_i32_1
  let v4 : Index := Scalar.indexCast v3
  let v5 : Index := Scalar.indexCast arg0
  let v6 : BitVec 32 := pf.at 0 (Rect.unit (s := S16x128) ![v4.toNat, v5.toNat] S1x1.size (k0_off1_inb i 9)) numel1_S1x1
  let c16_i32_2 : BitVec 32 := 16#32
  let v7 : BitVec 32 := Scalar.divsi v6 c16_i32_2
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  let v25 : BitVec 32 := v24
  let c0_i32_8 : BitVec 32 := 0#32
  let c0_i32_9 : BitVec 32 := 0#32
  ![v1.toNat, v25.toNat, c0_i32_8.toNat]

def cc0_transform_10 (k0_off1_inb : ∀ i : grid0.Coords, ∀ (r : Fin 16), ∀ a, (k0_off1 i (BitVec.ofNat 32 r.val)) a + S1x1.size a ≤ S16x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c10_i32 : BitVec 32 := 10#32
  let v1 : BitVec 32 := Scalar.addi v0 c10_i32
  let c16_i32_0 : BitVec 32 := 16#32
  let v2 : BitVec 32 := Scalar.muli arg1 c16_i32_0
  let c10_i32_1 : BitVec 32 := 10#32
  let v3 : BitVec 32 := Scalar.addi v2 c10_i32_1
  let v4 : Index := Scalar.indexCast v3
  let v5 : Index := Scalar.indexCast arg0
  let v6 : BitVec 32 := pf.at 0 (Rect.unit (s := S16x128) ![v4.toNat, v5.toNat] S1x1.size (k0_off1_inb i 10)) numel1_S1x1
  let c16_i32_2 : BitVec 32 := 16#32
  let v7 : BitVec 32 := Scalar.divsi v6 c16_i32_2
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  let v25 : BitVec 32 := v24
  let c0_i32_8 : BitVec 32 := 0#32
  let c0_i32_9 : BitVec 32 := 0#32
  ![v1.toNat, v25.toNat, c0_i32_8.toNat]

def cc0_transform_11 (k0_off1_inb : ∀ i : grid0.Coords, ∀ (r : Fin 16), ∀ a, (k0_off1 i (BitVec.ofNat 32 r.val)) a + S1x1.size a ≤ S16x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c11_i32 : BitVec 32 := 11#32
  let v1 : BitVec 32 := Scalar.addi v0 c11_i32
  let c16_i32_0 : BitVec 32 := 16#32
  let v2 : BitVec 32 := Scalar.muli arg1 c16_i32_0
  let c11_i32_1 : BitVec 32 := 11#32
  let v3 : BitVec 32 := Scalar.addi v2 c11_i32_1
  let v4 : Index := Scalar.indexCast v3
  let v5 : Index := Scalar.indexCast arg0
  let v6 : BitVec 32 := pf.at 0 (Rect.unit (s := S16x128) ![v4.toNat, v5.toNat] S1x1.size (k0_off1_inb i 11)) numel1_S1x1
  let c16_i32_2 : BitVec 32 := 16#32
  let v7 : BitVec 32 := Scalar.divsi v6 c16_i32_2
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  let v25 : BitVec 32 := v24
  let c0_i32_8 : BitVec 32 := 0#32
  let c0_i32_9 : BitVec 32 := 0#32
  ![v1.toNat, v25.toNat, c0_i32_8.toNat]

def cc0_transform_12 (k0_off1_inb : ∀ i : grid0.Coords, ∀ (r : Fin 16), ∀ a, (k0_off1 i (BitVec.ofNat 32 r.val)) a + S1x1.size a ≤ S16x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c12_i32 : BitVec 32 := 12#32
  let v1 : BitVec 32 := Scalar.addi v0 c12_i32
  let c16_i32_0 : BitVec 32 := 16#32
  let v2 : BitVec 32 := Scalar.muli arg1 c16_i32_0
  let c12_i32_1 : BitVec 32 := 12#32
  let v3 : BitVec 32 := Scalar.addi v2 c12_i32_1
  let v4 : Index := Scalar.indexCast v3
  let v5 : Index := Scalar.indexCast arg0
  let v6 : BitVec 32 := pf.at 0 (Rect.unit (s := S16x128) ![v4.toNat, v5.toNat] S1x1.size (k0_off1_inb i 12)) numel1_S1x1
  let c16_i32_2 : BitVec 32 := 16#32
  let v7 : BitVec 32 := Scalar.divsi v6 c16_i32_2
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  let v25 : BitVec 32 := v24
  let c0_i32_8 : BitVec 32 := 0#32
  let c0_i32_9 : BitVec 32 := 0#32
  ![v1.toNat, v25.toNat, c0_i32_8.toNat]

def cc0_transform_13 (k0_off1_inb : ∀ i : grid0.Coords, ∀ (r : Fin 16), ∀ a, (k0_off1 i (BitVec.ofNat 32 r.val)) a + S1x1.size a ≤ S16x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c13_i32 : BitVec 32 := 13#32
  let v1 : BitVec 32 := Scalar.addi v0 c13_i32
  let c16_i32_0 : BitVec 32 := 16#32
  let v2 : BitVec 32 := Scalar.muli arg1 c16_i32_0
  let c13_i32_1 : BitVec 32 := 13#32
  let v3 : BitVec 32 := Scalar.addi v2 c13_i32_1
  let v4 : Index := Scalar.indexCast v3
  let v5 : Index := Scalar.indexCast arg0
  let v6 : BitVec 32 := pf.at 0 (Rect.unit (s := S16x128) ![v4.toNat, v5.toNat] S1x1.size (k0_off1_inb i 13)) numel1_S1x1
  let c16_i32_2 : BitVec 32 := 16#32
  let v7 : BitVec 32 := Scalar.divsi v6 c16_i32_2
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  let v25 : BitVec 32 := v24
  let c0_i32_8 : BitVec 32 := 0#32
  let c0_i32_9 : BitVec 32 := 0#32
  ![v1.toNat, v25.toNat, c0_i32_8.toNat]

def cc0_transform_14 (k0_off1_inb : ∀ i : grid0.Coords, ∀ (r : Fin 16), ∀ a, (k0_off1 i (BitVec.ofNat 32 r.val)) a + S1x1.size a ≤ S16x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c14_i32 : BitVec 32 := 14#32
  let v1 : BitVec 32 := Scalar.addi v0 c14_i32
  let c16_i32_0 : BitVec 32 := 16#32
  let v2 : BitVec 32 := Scalar.muli arg1 c16_i32_0
  let c14_i32_1 : BitVec 32 := 14#32
  let v3 : BitVec 32 := Scalar.addi v2 c14_i32_1
  let v4 : Index := Scalar.indexCast v3
  let v5 : Index := Scalar.indexCast arg0
  let v6 : BitVec 32 := pf.at 0 (Rect.unit (s := S16x128) ![v4.toNat, v5.toNat] S1x1.size (k0_off1_inb i 14)) numel1_S1x1
  let c16_i32_2 : BitVec 32 := 16#32
  let v7 : BitVec 32 := Scalar.divsi v6 c16_i32_2
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  let v25 : BitVec 32 := v24
  let c0_i32_8 : BitVec 32 := 0#32
  let c0_i32_9 : BitVec 32 := 0#32
  ![v1.toNat, v25.toNat, c0_i32_8.toNat]

def cc0_transform_15 (k0_off1_inb : ∀ i : grid0.Coords, ∀ (r : Fin 16), ∀ a, (k0_off1 i (BitVec.ofNat 32 r.val)) a + S1x1.size a ≤ S16x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c15_i32 : BitVec 32 := 15#32
  let v1 : BitVec 32 := Scalar.addi v0 c15_i32
  let c16_i32_0 : BitVec 32 := 16#32
  let v2 : BitVec 32 := Scalar.muli arg1 c16_i32_0
  let c15_i32_1 : BitVec 32 := 15#32
  let v3 : BitVec 32 := Scalar.addi v2 c15_i32_1
  let v4 : Index := Scalar.indexCast v3
  let v5 : Index := Scalar.indexCast arg0
  let v6 : BitVec 32 := pf.at 0 (Rect.unit (s := S16x128) ![v4.toNat, v5.toNat] S1x1.size (k0_off1_inb i 15)) numel1_S1x1
  let c16_i32_2 : BitVec 32 := 16#32
  let v7 : BitVec 32 := Scalar.divsi v6 c16_i32_2
  let c0_i32 : BitVec 32 := 0#32
  let v8 : BitVec 1 := Scalar.cmpi .sgt v6 c0_i32
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c16_i32_2 c0_i32_4
  let v14 : BitVec 32 := Scalar.extui v13
  let c0_i32_5 : BitVec 32 := 0#32
  let v15 : BitVec 1 := Scalar.cmpi .slt c16_i32_2 c0_i32_5
  let v16 : BitVec 32 := Scalar.extui v15
  let v17 : BitVec 32 := Scalar.subi v14 v16
  let v18 : BitVec 1 := Scalar.cmpi .ne v12 v17
  let v19 : BitVec 32 := Scalar.remsi v6 c16_i32_2
  let c0_i32_6 : BitVec 32 := 0#32
  let v20 : BitVec 1 := Scalar.cmpi .ne v19 c0_i32_6
  let v21 : BitVec 1 := Scalar.andi v18 v20
  let c1_i32 : BitVec 32 := 1#32
  let v22 : BitVec 32 := Scalar.subi v7 c1_i32
  let v23 : BitVec 32 := Scalar.select v21 v22 v7
  let c16_i32_7 : BitVec 32 := 16#32
  let v24 : BitVec 32 := Scalar.muli v23 c16_i32_7
  let v25 : BitVec 32 := v24
  let c0_i32_8 : BitVec 32 := 0#32
  let c0_i32_9 : BitVec 32 := 0#32
  ![v1.toNat, v25.toNat, c0_i32_8.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x144x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x144x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x144x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x144x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x144x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x144x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x144x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x144x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x144x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x144x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x144x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x144x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x144x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x144x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x144x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x144x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x16 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S128x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S128x2048 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S128x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== ReferenceIdeal.lean ====
abbrev S16x2048 : Shape := ⟨2, ![16, 2048]⟩
abbrev S2048x128 : Shape := ⟨2, ![2048, 128]⟩
abbrev S16x2048x2048 : Shape := ⟨3, ![16, 2048, 2048]⟩
abbrev S16384x2048 : Shape := ⟨2, ![16384, 2048]⟩
abbrev S1x2048 : Shape := ⟨2, ![1, 2048]⟩
abbrev S_ : Shape := ⟨0, ![]⟩
abbrev S16x2048x1 : Shape := ⟨3, ![16, 2048, 1]⟩
abbrev S16384 : Shape := ⟨1, ![16384]⟩
abbrev S16384x1 : Shape := ⟨2, ![16384, 1]⟩

abbrev nBuf : Space → Nat
  | .hbm => 51
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S2048x128, .i32⟩
  | .hbm, ⟨2, _⟩ => ⟨S2048x128, .i32⟩
  | .hbm, ⟨3, _⟩ => ⟨S16x2048x2048, .bf16⟩
  | .hbm, ⟨4, _⟩ => ⟨S16384x2048, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S16384x2048, .f32⟩
  | .hbm, ⟨9, _⟩ => ⟨S16x2048x2048, .f32⟩
  | .hbm, ⟨10, _⟩ => ⟨S_, .i32⟩
  | .hbm, ⟨11, _⟩ => ⟨S16x2048, .i32⟩
  | .hbm, ⟨12, _⟩ => ⟨S16x2048, .i1⟩
  | .hbm, ⟨13, _⟩ => ⟨S_, .i32⟩
  | .hbm, ⟨14, _⟩ => ⟨S16x2048, .i32⟩
  | .hbm, ⟨15, _⟩ => ⟨S16x2048, .i32⟩
  | .hbm, ⟨16, _⟩ => ⟨S16x2048, .i32⟩
  | .hbm, ⟨17, _⟩ => ⟨S16x2048x1, .i32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S16384x2048, .bf16⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel2.lean ====
abbrev S16x2048x2048 : Shape := ⟨3, ![16, 2048, 2048]⟩
abbrev S16x2048 : Shape := ⟨2, ![16, 2048]⟩
abbrev S2x16x2048x2048 : Shape := ⟨4, ![2, 16, 2048, 2048]⟩
abbrev S16x2048x1 : Shape := ⟨3, ![16, 2048, 1]⟩
abbrev S16x2048x128 : Shape := ⟨3, ![16, 2048, 128]⟩
abbrev S1x1024x2048 : Shape := ⟨3, ![1, 1024, 2048]⟩
abbrev S1x1x2048x256 : Shape := ⟨4, ![1, 1, 2048, 256]⟩
abbrev S1x1x256x2048 : Shape := ⟨4, ![1, 1, 256, 2048]⟩
abbrev S1x1024x128 : Shape := ⟨3, ![1, 1024, 128]⟩
abbrev S1024x2048 : Shape := ⟨2, ![1024, 2048]⟩
abbrev S2048x256 : Shape := ⟨2, ![2048, 256]⟩
abbrev S256x2048 : Shape := ⟨2, ![256, 2048]⟩
abbrev S1x256x2048 : Shape := ⟨3, ![1, 256, 2048]⟩
abbrev S256x256 : Shape := ⟨2, ![256, 256]⟩
abbrev S1024x128 : Shape := ⟨2, ![1024, 128]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S16x2048x2048, .bf16⟩
  | .hbm, ⟨1, _⟩ => ⟨S16x2048, .f32⟩
  | .hbm, ⟨2, _⟩ => ⟨S2x16x2048x2048, .f32⟩
  | .hbm, ⟨3, _⟩ => ⟨S2x16x2048x2048, .f32⟩
  | .hbm, ⟨4, _⟩ => ⟨S2x16x2048x2048, .f32⟩
  | .hbm, ⟨5, _⟩ => ⟨S16x2048x1, .f32⟩
  | .hbm, ⟨6, _⟩ => ⟨S16x2048x128, .f32⟩
  | .hbm, ⟨7, _⟩ => ⟨S16x2048x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1x2048x256, .f32⟩
  | .local _ .vmem, ⟨3, _⟩ => ⟨S1x1x2048x256, .f32⟩
  | .local _ .vmem, ⟨4, _⟩ => ⟨S1x1x2048x256, .f32⟩
  | .local _ .vmem, ⟨5, _⟩ => ⟨S1x1x2048x256, .f32⟩
  | .local _ .vmem, ⟨6, _⟩ => ⟨S1x1x256x2048, .f32⟩
  | .local _ .vmem, ⟨7, _⟩ => ⟨S1x1x256x2048, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x2048, .bf16⟩
  | .local _ .vmem, ⟨11, _⟩ => ⟨S1x1024x2048, .bf16⟩
  | .local _ .vmem, ⟨12, _⟩ => ⟨S1024x2048, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 8], ![false, false, false]⟩

def k0_cond2 (i : grid0.Coords) : BitVec 1 :=
  let arg2 : BitVec 32 := BitVec.ofNat 32 (i 2).val
  let c7_i32 : BitVec 32 := 7#32
  let v68 : BitVec 1 := Scalar.cmpi .eq arg2 c7_i32
  let v69 : BitVec 32 := Scalar.extui v68
  let c0_i32_48 : BitVec 32 := 0#32
  let v70 : BitVec 1 := Scalar.cmpi .ne v69 c0_i32_48
  v70

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S16x2048x2048 : Shape := ⟨3, ![16, 2048, 2048]⟩
abbrev S16x2048 : Shape := ⟨2, ![16, 2048]⟩
abbrev S2x16x2048x2048 : Shape := ⟨4, ![2, 16, 2048, 2048]⟩
abbrev S1x16x2048x2048 : Shape := ⟨4, ![1, 16, 2048, 2048]⟩
abbrev S_ : Shape := ⟨0, ![]⟩
abbrev S16x2048x1 : Shape := ⟨3, ![16, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S16x2048, .f32⟩
  | .hbm, ⟨2, _⟩ => ⟨S2x16x2048x2048, .f32⟩
  | .hbm, ⟨3, _⟩ => ⟨S2x16x2048x2048, .f32⟩
  | .hbm, ⟨4, _⟩ => ⟨S2x16x2048x2048, .f32⟩
  | .hbm, ⟨5, _⟩ => ⟨S16x2048x2048, .f32⟩
  | .hbm, ⟨6, _⟩ => ⟨S1x16x2048x2048, .f32⟩
  | .hbm, ⟨7, _⟩ => ⟨S16x2048x2048, .f32⟩
  | .hbm, ⟨8, _⟩ => ⟨S16x2048x2048, .f32⟩
  | .hbm, ⟨9, _⟩ => ⟨S16x2048x2048, .f32⟩
  | .hbm, ⟨10, _⟩ => ⟨S16x2048x2048, .f32⟩
  | .hbm, ⟨11, _⟩ => ⟨S_, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S1x16x2048x2048, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S1x16x2048x2048, .f32⟩
  | .hbm, ⟨23, _⟩ => ⟨S16x2048x2048, .f32⟩
  | .hbm, ⟨24, _⟩ => ⟨S16x2048x2048, .f32⟩
  | .hbm, ⟨25, _⟩ => ⟨S16x2048x1, .f32⟩
  | .hbm, ⟨26, _⟩ => ⟨S16x2048x2048, .f32⟩
  | .hbm, ⟨27, _⟩ => ⟨S16x2048x2048, .f32⟩
  | .hbm, ⟨28, _⟩ => ⟨S16x2048x2048, .bf16⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== Kernel3.lean ====
abbrev S1x16384x16x192 : Shape := ⟨4, ![1, 16384, 16, 192]⟩
abbrev S1x16384x16x128 : Shape := ⟨4, ![1, 16384, 16, 128]⟩
abbrev S16384x16x192 : Shape := ⟨3, ![16384, 16, 192]⟩
abbrev S16x16384x192 : Shape := ⟨3, ![16, 16384, 192]⟩
abbrev S_ : Shape := ⟨0, ![]⟩
abbrev S16x16384x256 : Shape := ⟨3, ![16, 16384, 256]⟩
abbrev S16384x16x128 : Shape := ⟨3, ![16384, 16, 128]⟩
abbrev S16384x2048 : Shape := ⟨2, ![16384, 2048]⟩
abbrev S2048x16384 : Shape := ⟨2, ![2048, 16384]⟩
abbrev S1x512x256 : Shape := ⟨3, ![1, 512, 256]⟩
abbrev S1x16384x256 : Shape := ⟨3, ![1, 16384, 256]⟩
abbrev S128x16384 : Shape := ⟨2, ![128, 16384]⟩
abbrev S512x128 : Shape := ⟨2, ![512, 128]⟩
abbrev S2x256x512 : Shape := ⟨3, ![2, 256, 512]⟩
abbrev S2x8192x512 : Shape := ⟨3, ![2, 8192, 512]⟩
abbrev S1x512 : Shape := ⟨2, ![1, 512]⟩
abbrev S128x512 : Shape := ⟨2, ![128, 512]⟩
abbrev S512x256 : Shape := ⟨2, ![512, 256]⟩
abbrev S256x512 : Shape := ⟨2, ![256, 512]⟩
abbrev S1x256x512 : Shape := ⟨3, ![1, 256, 512]⟩
abbrev S1x8192x256 : Shape := ⟨3, ![1, 8192, 256]⟩
abbrev S8192x256 : Shape := ⟨2, ![8192, 256]⟩
abbrev S8192x512 : Shape := ⟨2, ![8192, 512]⟩
abbrev S1x8192x512 : Shape := ⟨3, ![1, 8192, 512]⟩
abbrev S128x8192 : Shape := ⟨2, ![128, 8192]⟩
abbrev S512 : Shape := ⟨1, ![512]⟩

abbrev nBuf : Space → Nat
  | .hbm => 17
  | .vmem => 15
  | .smem => 0
  | _ => 0

abbrev bufTy : (tb : Table) → Fin (tcTables nBuf tb) → BufTy
  | .hbm, ⟨0, _⟩ => ⟨S1x16384x16x192, .bf16⟩
  | .hbm, ⟨1, _⟩ => ⟨S1x16384x16x192, .bf16⟩
  | .hbm, ⟨2, _⟩ => ⟨S1x16384x16x128, .bf16⟩
  | .hbm, ⟨3, _⟩ => ⟨S16384x16x192, .bf16⟩
  | .hbm, ⟨4, _⟩ => ⟨S16x16384x192, .bf16⟩
  | .hbm, ⟨5, _⟩ => ⟨S_, .i32⟩
  | .hbm, ⟨6, _⟩ => ⟨S_, .bf16⟩
  | .hbm, ⟨7, _⟩ => ⟨S16x16384x256, .bf16⟩
  | .hbm, ⟨8, _⟩ => ⟨S16384x16x192, .bf16⟩
  | .hbm, ⟨9, _⟩ => ⟨S16x16384x192, .bf16⟩
  | .hbm, ⟨10, _⟩ => ⟨S_, .i32⟩
  | .hbm, ⟨11, _⟩ => ⟨S_, .bf16⟩
  | .hbm, ⟨12, _⟩ => ⟨S16x16384x256, .bf16⟩
  | .hbm, ⟨13, _⟩ => ⟨S16384x16x128, .bf16⟩
  | .hbm, ⟨14, _⟩ => ⟨S16384x2048, .bf16⟩
  | .hbm, ⟨15, _⟩ => ⟨S2048x16384, .bf16⟩
  | .hbm, ⟨16, _⟩ => ⟨S16384x2048, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x16384x256, .bf16⟩
  | .local _ .vmem, ⟨5, _⟩ => ⟨S1x16384x256, .bf16⟩
  | .local _ .vmem, ⟨6, _⟩ => ⟨S128x16384, .bf16⟩
  | .local _ .vmem, ⟨7, _⟩ => ⟨S128x16384, .bf16⟩
  | .local _ .vmem, ⟨8, _⟩ => ⟨S512x128, .bf16⟩
  | .local _ .vmem, ⟨9, _⟩ => ⟨S512x128, .bf16⟩
  | .local _ .vmem, ⟨10, _⟩ => ⟨S2x256x512, .bf16⟩
  | .local _ .vmem, ⟨11, _⟩ => ⟨S2x8192x512, .f32⟩
  | .local _ .vmem, ⟨12, _⟩ => ⟨S1x512, .f32⟩
  | .local _ .vmem, ⟨13, _⟩ => ⟨S1x512, .f32⟩
  | .local _ .vmem, ⟨14, _⟩ => ⟨S128x512, .f32⟩
  | _, _ => ⟨S1x16384x16x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 32], ![false, false]⟩

def k0_cond1 (i : grid0.Coords) : BitVec 1 :=
  let arg1 : BitVec 32 := BitVec.ofNat 32 (i 1).val
  let c0_i32_4 : BitVec 32 := 0#32
  let v11 : BitVec 1 := Scalar.cmpi .eq arg1 c0_i32_4
  let v12 : BitVec 32 := Scalar.extui v11
  let c0_i32_5 : BitVec 32 := 0#32
  let v13 : BitVec 1 := Scalar.cmpi .ne v12 c0_i32_5
  v13

def k0_mult1 : BitVec 32 :=
  let v_false : BitVec 1 := 0#1
  let c0_i32_96 : BitVec 32 := 0#32
  let c0_i32_97 : BitVec 32 := 0#32
  let v154 : BitVec 32 := Scalar.select v_false c0_i32_96 c0_i32_97
  let c8192_i32_98 : BitVec 32 := 8192#32
  let v155 : BitVec 32 := Scalar.muli v154 c8192_i32_98
  v155
def k0_off1 : Fin 3 → Nat :=
  let c0_99 : Index := 0#32
  let v_false : BitVec 1 := 0#1
  let c0_i32_96 : BitVec 32 := 0#32
  let c0_i32_97 : BitVec 32 := 0#32
  let v154 : BitVec 32 := Scalar.select v_false c0_i32_96 c0_i32_97
  let c8192_i32_98 : BitVec 32 := 8192#32
  let v155 : BitVec 32 := Scalar.muli v154 c8192_i32_98
  let v156 : BitVec 32 := v155
  let v157 : Index := Scalar.indexCast v156
  let c0_100 : Index := 0#32
  ![0, v157.toNat, 0]
def k0_off2 (i : grid0.Coords) : Fin 3 → Nat :=
  let false_101 : BitVec 1 := 0#1
  let c1_i32_3 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v160 : BitVec 32 := Scalar.select false_101 v10 v9
  let v161 : Index := Scalar.indexCast v160
  let c0_102 : Index := 0#32
  let c0_103 : Index := 0#32
  ![v161.toNat, 0, 0]
def k0_off3 (i : grid0.Coords) : Fin 3 → Nat :=
  let c1_i32_3 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v18 : Index := Scalar.indexCast v10
  let c0_8 : Index := 0#32
  let c0_9 : Index := 0#32
  ![v18.toNat, 0, 0]
def k0_mult2 : BitVec 32 :=
  let c2_i32_19 : BitVec 32 := 2#32
  let c0_i32_18 : BitVec 32 := 0#32
  let v34 : BitVec 32 := Scalar.muli c2_i32_19 c0_i32_18
  let c1_i32_20 : BitVec 32 := 1#32
  let v35 : BitVec 32 := Scalar.addi v34 c1_i32_20
  let c2_i32_21 : BitVec 32 := 2#32
  let v36 : BitVec 1 := Scalar.cmpi .sge v35 c2_i32_21
  let c0_i32_22 : BitVec 32 := 0#32
  let v37 : BitVec 32 := Scalar.select v36 c0_i32_22 v35
  let c8192_i32 : BitVec 32 := 8192#32
  let v38 : BitVec 32 := Scalar.muli v37 c8192_i32
  v38
def k0_off4 (c1_i32_20 : BitVec 32) : Fin 3 → Nat :=
  let c0_23 : Index := 0#32
  let c2_i32_19 : BitVec 32 := 2#32
  let c0_i32_18 : BitVec 32 := 0#32
  let v34 : BitVec 32 := Scalar.muli c2_i32_19 c0_i32_18
  let v35 : BitVec 32 := Scalar.addi v34 c1_i32_20
  let c2_i32_21 : BitVec 32 := 2#32
  let v36 : BitVec 1 := Scalar.cmpi .sge v35 c2_i32_21
  let c0_i32_22 : BitVec 32 := 0#32
  let v37 : BitVec 32 := Scalar.select v36 c0_i32_22 v35
  let c8192_i32 : BitVec 32 := 8192#32
  let v38 : BitVec 32 := Scalar.muli v37 c8192_i32
  let v39 : BitVec 32 := v38
  let v40 : Index := Scalar.indexCast v39
  let c0_24 : Index := 0#32
  ![0, v40.toNat, 0]
def k0_off5 (i : grid0.Coords) (c1_i32_20 : BitVec 32) : Fin 3 → Nat :=
  let c2_i32_19 : BitVec 32 := 2#32
  let c0_i32_18 : BitVec 32 := 0#32
  let v34 : BitVec 32 := Scalar.muli c2_i32_19 c0_i32_18
  let v35 : BitVec 32 := Scalar.addi v34 c1_i32_20
  let c2_i32_21 : BitVec 32 := 2#32
  let v36 : BitVec 1 := Scalar.cmpi .sge v35 c2_i32_21
  let c1_i32_3 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v43 : BitVec 32 := Scalar.select v36 v10 v9
  let v44 : Index := Scalar.indexCast v43
  let c0_25 : Index := 0#32
  let c0_26 : Index := 0#32
  ![v44.toNat, 0, 0]
def k0_mult3 : BitVec 32 :=
  let c2_i32_19 : BitVec 32 := 2#32
  let c0_i32_18 : BitVec 32 := 0#32
  let v34 : BitVec 32 := Scalar.muli c2_i32_19 c0_i32_18
  let c8192_i32_33 : BitVec 32 := 8192#32
  let v53 : BitVec 32 := Scalar.muli v34 c8192_i32_33
  v53
def k0_off6 : Fin 2 → Nat :=
  let c0_34 : Index := 0#32
  let c2_i32_19 : BitVec 32 := 2#32
  let c0_i32_18 : BitVec 32 := 0#32
  let v34 : BitVec 32 := Scalar.muli c2_i32_19 c0_i32_18
  let c8192_i32_33 : BitVec 32 := 8192#32
  let v53 : BitVec 32 := Scalar.muli v34 c8192_i32_33
  let v54 : BitVec 32 := v53
  let v55 : Index := Scalar.indexCast v54
  ![0, v55.toNat]
def k0_mult4 : BitVec 32 :=
  let c2_i32_19 : BitVec 32 := 2#32
  let c0_i32_18 : BitVec 32 := 0#32
  let v34 : BitVec 32 := Scalar.muli c2_i32_19 c0_i32_18
  let c2_i32_50 : BitVec 32 := 2#32
  let v87 : BitVec 32 := Scalar.addi v34 c2_i32_50
  let c2_i32_51 : BitVec 32 := 2#32
  let v88 : BitVec 1 := Scalar.cmpi .sge v87 c2_i32_51
  let c0_i32_52 : BitVec 32 := 0#32
  let v89 : BitVec 32 := Scalar.select v88 c0_i32_52 v87
  let c8192_i32_53 : BitVec 32 := 8192#32
  let v90 : BitVec 32 := Scalar.muli v89 c8192_i32_53
  v90
def k0_mult5 : BitVec 32 :=
  let c2_i32_19 : BitVec 32 := 2#32
  let c0_i32_18 : BitVec 32 := 0#32
  let v34 : BitVec 32 := Scalar.muli c2_i32_19 c0_i32_18
  let c1_i32_65 : BitVec 32 := 1#32
  let v105 : BitVec 32 := Scalar.addi v34 c1_i32_65
  let c8192_i32_66 : BitVec 32 := 8192#32
  let v106 : BitVec 32 := Scalar.muli v105 c8192_i32_66
  v106
def k0_off7 : Fin 2 → Nat :=
  let c0_67 : Index := 0#32
  let c2_i32_19 : BitVec 32 := 2#32
  let c0_i32_18 : BitVec 32 := 0#32
  let v34 : BitVec 32 := Scalar.muli c2_i32_19 c0_i32_18
  let c1_i32_65 : BitVec 32 := 1#32
  let v105 : BitVec 32 := Scalar.addi v34 c1_i32_65
  let c8192_i32_66 : BitVec 32 := 8192#32
  let v106 : BitVec 32 := Scalar.muli v105 c8192_i32_66
  let v107 : BitVec 32 := v106
  let v108 : Index := Scalar.indexCast v107
  ![0, v108.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.addi arg1 c1_i32
  let c31_i32 : BitVec 32 := 31#32
  let v2 : BitVec 32 := Scalar.minsi v1 c31_i32
  let c0_i32_0 : BitVec 32 := 0#32
  let c0_i32_1 : BitVec 32 := 0#32
  ![v0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S1x16384x16x192 : Shape := ⟨4, ![1, 16384, 16, 192]⟩
abbrev S1x16384x16x128 : Shape := ⟨4, ![1, 16384, 16, 128]⟩
abbrev S1x16x16384x16384 : Shape := ⟨4, ![1, 16, 16384, 16384]⟩
abbrev S_ : Shape := ⟨0, ![]⟩
abbrev S1x16x16384 : Shape := ⟨3, ![1, 16, 16384]⟩
abbrev S1x16x16384x1 : Shape := ⟨4, ![1, 16, 16384, 1]⟩
abbrev S1x16x128x16384 : Shape := ⟨4, ![1, 16, 128, 16384]⟩
abbrev S16384x2048 : Shape := ⟨2, ![16384, 2048]⟩

abbrev nBuf : Space → Nat
  | .hbm => 29
  | .vmem => 0
  | .smem => 0
  | _ => 0

abbrev bufTy : (tb : Table) → Fin (tcTables nBuf tb) → BufTy
  | .hbm, ⟨0, _⟩ => ⟨S1x16384x16x192, .bf16⟩
  | .hbm, ⟨1, _⟩ => ⟨S1x16384x16x192, .bf16⟩
  | .hbm, ⟨2, _⟩ => ⟨S1x16384x16x128, .bf16⟩
  | .hbm, ⟨3, _⟩ => ⟨S1x16384x16x192, .f32⟩
  | .hbm, ⟨4, _⟩ => ⟨S1x16384x16x192, .f32⟩
  | .hbm, ⟨5, _⟩ => ⟨S1x16x16384x16384, .f32⟩
  | .hbm, ⟨6, _⟩ => ⟨S_, .f32⟩
  | .hbm, ⟨7, _⟩ => ⟨S_, .f32⟩
  | .hbm, ⟨8, _⟩ => ⟨S1x16x16384x16384, .f32⟩
  | .hbm, ⟨9, _⟩ => ⟨S1x16x16384x16384, .f32⟩
  | .hbm, ⟨10, _⟩ => ⟨S_, .f32⟩
  | .hbm, ⟨11, _⟩ => ⟨S1x16x16384, .f32⟩
  | .hbm, ⟨12, _⟩ => ⟨S_, .f32⟩
  | .hbm, ⟨13, _⟩ => ⟨S1x16x16384, .f32⟩
  | .hbm, ⟨14, _⟩ => ⟨S1x16x16384, .f32⟩
  | .hbm, ⟨15, _⟩ => ⟨S1x16x16384x1, .f32⟩
  | .hbm, ⟨16, _⟩ => ⟨S1x16x16384x16384, .f32⟩
  | .hbm, ⟨17, _⟩ => ⟨S1x16x16384x16384, .f32⟩
  | .hbm, ⟨18, _⟩ => ⟨S1x16x16384x16384, .f32⟩
  | .hbm, ⟨19, _⟩ => ⟨S_, .f32⟩
  | .hbm, ⟨20, _⟩ => ⟨S1x16x16384, .f32⟩
  | .hbm, ⟨21, _⟩ => ⟨S1x16x16384x1, .f32⟩
  | .hbm, ⟨22, _⟩ => ⟨S1x16x16384x16384, .f32⟩
  | .hbm, ⟨23, _⟩ => ⟨S1x16x16384x16384, .f32⟩
  | .hbm, ⟨24, _⟩ => ⟨S1x16384x16x128, .f32⟩
  | .hbm, ⟨25, _⟩ => ⟨S1x16x128x16384, .f32⟩
  | .hbm, ⟨26, _⟩ => ⟨S1x16384x16x128, .f32⟩
  | .hbm, ⟨27, _⟩ => ⟨S16384x2048, .f32⟩
  | .hbm, ⟨28, _⟩ => ⟨S16384x2048, .bf16⟩
  | _, _ => ⟨S1x16384x16x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel4.lean ====
abbrev S1x16384x8x128 : Shape := ⟨4, ![1, 16384, 8, 128]⟩
abbrev S1x16384x2x128 : Shape := ⟨4, ![1, 16384, 2, 128]⟩
abbrev S1x16384x16x128 : Shape := ⟨4, ![1, 16384, 16, 128]⟩
abbrev S16384x8x128 : Shape := ⟨3, ![16384, 8, 128]⟩
abbrev S8x16384x128 : Shape := ⟨3, ![8, 16384, 128]⟩
abbrev S16384x2x128 : Shape := ⟨3, ![16384, 2, 128]⟩
abbrev S2x16384x128 : Shape := ⟨3, ![2, 16384, 128]⟩
abbrev S16384x16x128 : Shape := ⟨3, ![16384, 16, 128]⟩
abbrev S16x16384x128 : Shape := ⟨3, ![16, 16384, 128]⟩
abbrev S26x16384x128 : Shape := ⟨3, ![26, 16384, 128]⟩
abbrev S16384x256 : Shape := ⟨2, ![16384, 256]⟩
abbrev S256x16384 : Shape := ⟨2, ![256, 16384]⟩
abbrev S16384x1024 : Shape := ⟨2, ![16384, 1024]⟩
abbrev S4x128x128 : Shape := ⟨3, ![4, 128, 128]⟩
abbrev S1x16384x128 : Shape := ⟨3, ![1, 16384, 128]⟩
abbrev S128x16384 : Shape := ⟨2, ![128, 16384]⟩
abbrev S128x512 : Shape := ⟨2, ![128, 512]⟩
abbrev S2x128x512 : Shape := ⟨3, ![2, 128, 512]⟩
abbrev S2x8192x512 : Shape := ⟨3, ![2, 8192, 512]⟩
abbrev S1x512 : Shape := ⟨2, ![1, 512]⟩
abbrev S512x128 : Shape := ⟨2, ![512, 128]⟩
abbrev S1x128x512 : Shape := ⟨3, ![1, 128, 512]⟩
abbrev S1x8192x128 : Shape := ⟨3, ![1, 8192, 128]⟩
abbrev S8192x128 : Shape := ⟨2, ![8192, 128]⟩
abbrev S8192x512 : Shape := ⟨2, ![8192, 512]⟩
abbrev S1x8192x512 : Shape := ⟨3, ![1, 8192, 512]⟩
abbrev S128x8192 : Shape := ⟨2, ![128, 8192]⟩
abbrev S512 : Shape := ⟨1, ![512]⟩
abbrev S128x128 : Shape := ⟨2, ![128, 128]⟩

abbrev nBuf : Space → Nat
  | .hbm => 15
  | .vmem => 15
  | .smem => 0
  | _ => 0

abbrev bufTy : (tb : Table) → Fin (tcTables nBuf tb) → BufTy
  | .hbm, ⟨0, _⟩ => ⟨S1x16384x8x128, .bf16⟩
  | .hbm, ⟨1, _⟩ => ⟨S1x16384x2x128, .bf16⟩
  | .hbm, ⟨2, _⟩ => ⟨S1x16384x16x128, .bf16⟩
  | .hbm, ⟨3, _⟩ => ⟨S1x16384x2x128, .bf16⟩
  | .hbm, ⟨4, _⟩ => ⟨S16384x8x128, .bf16⟩
  | .hbm, ⟨5, _⟩ => ⟨S8x16384x128, .bf16⟩
  | .hbm, ⟨6, _⟩ => ⟨S16384x2x128, .bf16⟩
  | .hbm, ⟨7, _⟩ => ⟨S2x16384x128, .bf16⟩
  | .hbm, ⟨8, _⟩ => ⟨S16384x16x128, .bf16⟩
  | .hbm, ⟨9, _⟩ => ⟨S16x16384x128, .bf16⟩
  | .hbm, ⟨10, _⟩ => ⟨S26x16384x128, .bf16⟩
  | .hbm, ⟨11, _⟩ => ⟨S16384x2x128, .bf16⟩
  | .hbm, ⟨12, _⟩ => ⟨S16384x256, .bf16⟩
  | .hbm, ⟨13, _⟩ => ⟨S256x16384, .bf16⟩
  | .hbm, ⟨14, _⟩ => ⟨S16384x1024, .bf16⟩
  | .local _ .vmem, ⟨0, _⟩ => ⟨S4x128x128, .bf16⟩
  | .local _ .vmem, ⟨1, _⟩ => ⟨S4x128x128, .bf16⟩
  | .local _ .vmem, ⟨2, _⟩ => ⟨S4x128x128, .bf16⟩
  | .local _ .vmem, ⟨3, _⟩ => ⟨S4x128x128, .bf16⟩
  | .local _ .vmem, ⟨4, _⟩ => ⟨S1x16384x128, .bf16⟩
  | .local _ .vmem, ⟨5, _⟩ => ⟨S1x16384x128, .bf16⟩
  | .local _ .vmem, ⟨6, _⟩ => ⟨S128x16384, .bf16⟩
  | .local _ .vmem, ⟨7, _⟩ => ⟨S128x16384, .bf16⟩
  | .local _ .vmem, ⟨8, _⟩ => ⟨S128x512, .bf16⟩
  | .local _ .vmem, ⟨9, _⟩ => ⟨S128x512, .bf16⟩
  | .local _ .vmem, ⟨10, _⟩ => ⟨S2x128x512, .bf16⟩
  | .local _ .vmem, ⟨11, _⟩ => ⟨S2x8192x512, .f32⟩
  | .local _ .vmem, ⟨12, _⟩ => ⟨S1x512, .f32⟩
  | .local _ .vmem, ⟨13, _⟩ => ⟨S1x512, .f32⟩
  | .local _ .vmem, ⟨14, _⟩ => ⟨S128x512, .f32⟩
  | _, _ => ⟨S1x16384x8x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 128], ![false, false]⟩

def k0_cond1 (i : grid0.Coords) : BitVec 1 :=
  let arg1 : BitVec 32 := BitVec.ofNat 32 (i 1).val
  let c0_i32_4 : BitVec 32 := 0#32
  let v11 : BitVec 1 := Scalar.cmpi .eq arg1 c0_i32_4
  let v12 : BitVec 32 := Scalar.extui v11
  let c0_i32_5 : BitVec 32 := 0#32
  let v13 : BitVec 1 := Scalar.cmpi .ne v12 c0_i32_5
  v13

def k0_mult1 : BitVec 32 :=
  let v_false : BitVec 1 := 0#1
  let c0_i32_99 : BitVec 32 := 0#32
  let c0_i32_100 : BitVec 32 := 0#32
  let v164 : BitVec 32 := Scalar.select v_false c0_i32_99 c0_i32_100
  let c8192_i32_101 : BitVec 32 := 8192#32
  let v165 : BitVec 32 := Scalar.muli v164 c8192_i32_101
  v165
def k0_off1 : Fin 3 → Nat :=
  let c0_102 : Index := 0#32
  let v_false : BitVec 1 := 0#1
  let c0_i32_99 : BitVec 32 := 0#32
  let c0_i32_100 : BitVec 32 := 0#32
  let v164 : BitVec 32 := Scalar.select v_false c0_i32_99 c0_i32_100
  let c8192_i32_101 : BitVec 32 := 8192#32
  let v165 : BitVec 32 := Scalar.muli v164 c8192_i32_101
  let v166 : BitVec 32 := v165
  let v167 : Index := Scalar.indexCast v166
  let c0_103 : Index := 0#32
  ![0, v167.toNat, 0]
def k0_off2 (i : grid0.Coords) : Fin 3 → Nat :=
  let false_104 : BitVec 1 := 0#1
  let c1_i32_3 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v170 : BitVec 32 := Scalar.select false_104 v10 v9
  let v171 : Index := Scalar.indexCast v170
  let c0_105 : Index := 0#32
  let c0_106 : Index := 0#32
  ![v171.toNat, 0, 0]
def k0_off3 (i : grid0.Coords) : Fin 3 → Nat :=
  let c1_i32_3 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v18 : Index := Scalar.indexCast v10
  let c0_8 : Index := 0#32
  let c0_9 : Index := 0#32
  ![v18.toNat, 0, 0]
def k0_mult2 : BitVec 32 :=
  let c2_i32_19 : BitVec 32 := 2#32
  let c0_i32_18 : BitVec 32 := 0#32
  let v34 : BitVec 32 := Scalar.muli c2_i32_19 c0_i32_18
  let c1_i32_20 : BitVec 32 := 1#32
  let v35 : BitVec 32 := Scalar.addi v34 c1_i32_20
  let c2_i32_21 : BitVec 32 := 2#32
  let v36 : BitVec 1 := Scalar.cmpi .sge v35 c2_i32_21
  let c0_i32_22 : BitVec 32 := 0#32
  let v37 : BitVec 32 := Scalar.select v36 c0_i32_22 v35
  let c8192_i32 : BitVec 32 := 8192#32
  let v38 : BitVec 32 := Scalar.muli v37 c8192_i32
  v38
def k0_off4 (c1_i32_20 : BitVec 32) : Fin 3 → Nat :=
  let c0_23 : Index := 0#32
  let c2_i32_19 : BitVec 32 := 2#32
  let c0_i32_18 : BitVec 32 := 0#32
  let v34 : BitVec 32 := Scalar.muli c2_i32_19 c0_i32_18
  let v35 : BitVec 32 := Scalar.addi v34 c1_i32_20
  let c2_i32_21 : BitVec 32 := 2#32
  let v36 : BitVec 1 := Scalar.cmpi .sge v35 c2_i32_21
  let c0_i32_22 : BitVec 32 := 0#32
  let v37 : BitVec 32 := Scalar.select v36 c0_i32_22 v35
  let c8192_i32 : BitVec 32 := 8192#32
  let v38 : BitVec 32 := Scalar.muli v37 c8192_i32
  let v39 : BitVec 32 := v38
  let v40 : Index := Scalar.indexCast v39
  let c0_24 : Index := 0#32
  ![0, v40.toNat, 0]
def k0_off5 (i : grid0.Coords) (c1_i32_20 : BitVec 32) : Fin 3 → Nat :=
  let c2_i32_19 : BitVec 32 := 2#32
  let c0_i32_18 : BitVec 32 := 0#32
  let v34 : BitVec 32 := Scalar.muli c2_i32_19 c0_i32_18
  let v35 : BitVec 32 := Scalar.addi v34 c1_i32_20
  let c2_i32_21 : BitVec 32 := 2#32
  let v36 : BitVec 1 := Scalar.cmpi .sge v35 c2_i32_21
  let c1_i32_3 : BitVec 32 := 1#32
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v43 : BitVec 32 := Scalar.select v36 v10 v9
  let v44 : Index := Scalar.indexCast v43
  let c0_25 : Index := 0#32
  let c0_26 : Index := 0#32
  ![v44.toNat, 0, 0]
def k0_mult3 : BitVec 32 :=
  let c2_i32_19 : BitVec 32 := 2#32
  let c0_i32_18 : BitVec 32 := 0#32
  let v34 : BitVec 32 := Scalar.muli c2_i32_19 c0_i32_18
  let c8192_i32_33 : BitVec 32 := 8192#32
  let v53 : BitVec 32 := Scalar.muli v34 c8192_i32_33
  v53
def k0_off6 : Fin 2 → Nat :=
  let c0_34 : Index := 0#32
  let c2_i32_19 : BitVec 32 := 2#32
  let c0_i32_18 : BitVec 32 := 0#32
  let v34 : BitVec 32 := Scalar.muli c2_i32_19 c0_i32_18
  let c8192_i32_33 : BitVec 32 := 8192#32
  let v53 : BitVec 32 := Scalar.muli v34 c8192_i32_33
  let v54 : BitVec 32 := v53
  let v55 : Index := Scalar.indexCast v54
  ![0, v55.toNat]
def k0_mult4 : BitVec 32 :=
  let c2_i32_19 : BitVec 32 := 2#32
  let c0_i32_18 : BitVec 32 := 0#32
  let v34 : BitVec 32 := Scalar.muli c2_i32_19 c0_i32_18
  let c2_i32_50 : BitVec 32 := 2#32
  let v87 : BitVec 32 := Scalar.addi v34 c2_i32_50
  let c2_i32_51 : BitVec 32 := 2#32
  let v88 : BitVec 1 := Scalar.cmpi .sge v87 c2_i32_51
  let c0_i32_52 : BitVec 32 := 0#32
  let v89 : BitVec 32 := Scalar.select v88 c0_i32_52 v87
  let c8192_i32_53 : BitVec 32 := 8192#32
  let v90 : BitVec 32 := Scalar.muli v89 c8192_i32_53
  v90
def k0_mult5 : BitVec 32 :=
  let c2_i32_19 : BitVec 32 := 2#32
  let c0_i32_18 : BitVec 32 := 0#32
  let v34 : BitVec 32 := Scalar.muli c2_i32_19 c0_i32_18
  let c1_i32_65 : BitVec 32 := 1#32
  let v105 : BitVec 32 := Scalar.addi v34 c1_i32_65
  let c8192_i32_66 : BitVec 32 := 8192#32
  let v106 : BitVec 32 := Scalar.muli v105 c8192_i32_66
  v106
def k0_off7 : Fin 2 → Nat :=
  let c0_67 : Index := 0#32
  let c2_i32_19 : BitVec 32 := 2#32
  let c0_i32_18 : BitVec 32 := 0#32
  let v34 : BitVec 32 := Scalar.muli c2_i32_19 c0_i32_18
  let c1_i32_65 : BitVec 32 := 1#32
  let v105 : BitVec 32 := Scalar.addi v34 c1_i32_65
  let c8192_i32_66 : BitVec 32 := 8192#32
  let v106 : BitVec 32 := Scalar.muli v105 c8192_i32_66
  let v107 : BitVec 32 := v106
  let v108 : Index := Scalar.indexCast v107
  ![0, v108.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.addi arg1 c1_i32
  let c127_i32 : BitVec 32 := 127#32
  let v2 : BitVec 32 := Scalar.minsi v1 c127_i32
  let c0_i32_0 : BitVec 32 := 0#32
  let c0_i32_1 : BitVec 32 := 0#32
  ![v0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S1x16384x8x128 : Shape := ⟨4, ![1, 16384, 8, 128]⟩
abbrev S1x16384x2x128 : Shape := ⟨4, ![1, 16384, 2, 128]⟩
abbrev S1x16384x16x128 : Shape := ⟨4, ![1, 16384, 16, 128]⟩
abbrev S1x16384x2x4x128 : Shape := ⟨5, ![1, 16384, 2, 4, 128]⟩
abbrev S1x2x16384x16384x4 : Shape := ⟨5, ![1, 2, 16384, 16384, 4]⟩
abbrev S1x2x4x16384x16384 : Shape := ⟨5, ![1, 2, 4, 16384, 16384]⟩
abbrev S_ : Shape := ⟨0, ![]⟩
abbrev S1x2x4x16384 : Shape := ⟨4, ![1, 2, 4, 16384]⟩
abbrev S1x2x4x16384x1 : Shape := ⟨5, ![1, 2, 4, 16384, 1]⟩
abbrev S1x2x128x4x16384 : Shape := ⟨5, ![1, 2, 128, 4, 16384]⟩
abbrev S16384x1024 : Shape := ⟨2, ![16384, 1024]⟩

abbrev nBuf : Space → Nat
  | .hbm => 32
  | .vmem => 0
  | .smem => 0
  | _ => 0

abbrev bufTy : (tb : Table) → Fin (tcTables nBuf tb) → BufTy
  | .hbm, ⟨0, _⟩ => ⟨S1x16384x8x128, .bf16⟩
  | .hbm, ⟨1, _⟩ => ⟨S1x16384x2x128, .bf16⟩
  | .hbm, ⟨2, _⟩ => ⟨S1x16384x16x128, .bf16⟩
  | .hbm, ⟨3, _⟩ => ⟨S1x16384x2x128, .bf16⟩
  | .hbm, ⟨4, _⟩ => ⟨S1x16384x2x4x128, .bf16⟩
  | .hbm, ⟨5, _⟩ => ⟨S1x16384x2x4x128, .f32⟩
  | .hbm, ⟨6, _⟩ => ⟨S1x16384x2x128, .f32⟩
  | .hbm, ⟨7, _⟩ => ⟨S1x2x16384x16384x4, .f32⟩
  | .hbm, ⟨8, _⟩ => ⟨S1x2x4x16384x16384, .f32⟩
  | .hbm, ⟨9, _⟩ => ⟨S_, .f32⟩
  | .hbm, ⟨10, _⟩ => ⟨S_, .f32⟩
  | .hbm, ⟨11, _⟩ => ⟨S1x2x4x16384x16384, .f32⟩
  | .hbm, ⟨12, _⟩ => ⟨S1x2x4x16384x16384, .f32⟩
  | .hbm, ⟨13, _⟩ => ⟨S_, .f32⟩
  | .hbm, ⟨14, _⟩ => ⟨S1x2x4x16384, .f32⟩
  | .hbm, ⟨15, _⟩ => ⟨S_, .f32⟩
  | .hbm, ⟨16, _⟩ => ⟨S1x2x4x16384, .f32⟩
  | .hbm, ⟨17, _⟩ => ⟨S1x2x4x16384, .f32⟩
  | .hbm, ⟨18, _⟩ => ⟨S1x2x4x16384x1, .f32⟩
  | .hbm, ⟨19, _⟩ => ⟨S1x2x4x16384x16384, .f32⟩
  | .hbm, ⟨20, _⟩ => ⟨S1x2x4x16384x16384, .f32⟩
  | .hbm, ⟨21, _⟩ => ⟨S1x2x4x16384x16384, .f32⟩
  | .hbm, ⟨22, _⟩ => ⟨S_, .f32⟩
  | .hbm, ⟨23, _⟩ => ⟨S1x2x4x16384, .f32⟩
  | .hbm, ⟨24, _⟩ => ⟨S1x2x4x16384x1, .f32⟩
  | .hbm, ⟨25, _⟩ => ⟨S1x2x4x16384x16384, .f32⟩
  | .hbm, ⟨26, _⟩ => ⟨S1x2x4x16384x16384, .f32⟩
  | .hbm, ⟨27, _⟩ => ⟨S1x16384x2x128, .f32⟩
  | .hbm, ⟨28, _⟩ => ⟨S1x2x128x4x16384, .f32⟩
  | .hbm, ⟨29, _⟩ => ⟨S1x16384x2x4x128, .f32⟩
  | .hbm, ⟨30, _⟩ => ⟨S16384x1024, .f32⟩
  | .hbm, ⟨31, _⟩ => ⟨S16384x1024, .bf16⟩
  | _, _ => ⟨S1x16384x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Pre.lean ====
/- The precondition `routed`, read at an index: what it says of the token index `idx`, the slot table `pos` and the
   window starts `off` as numbers. -/
module

public import proofs.«01_k».proof.Pre_routed
public import proofs.«01_k».proof.Proof.Gen.Pre_routed
public import Idealize.ShloMosaic.Lib.StableHlo.Predicate
public import Idealize.ShloMosaic.Lib.PointwiseCore
public import Idealize.ShloMosaic.Lib.Tactic.WordOmega

@[expose] public section

namespace Cert.Routed

open Idealize.ShloMosaic Cert.Pre_routed

/-- The slot of token `s` at expert `e`: the table `pos` holds 128 consecutive tokens of one expert a row. -/
def posAt (pos : IVec S2048x128 32) (e : Fin 16) (s : Fin 16384) : BitVec 32 :=
  pos (ix2 (⟨e.val * 128 + s.val / 128, by omega⟩ : Fin 2048) (⟨s.val % 128, by omega⟩ : Fin 128))

theorem posAt_of (pos : IVec S2048x128 32) (e : Fin 16) (s : Fin 16384) {a : Fin 2048} {b : Fin 128}
    (ha : a.val = e.val * 128 + s.val / 128) (hb : b.val = s.val % 128) : pos (ix2 a b) = posAt pos e s := by
  have h1 : a = (⟨e.val * 128 + s.val / 128, by omega⟩ : Fin 2048) := Fin.ext ha
  have h2 : b = (⟨s.val % 128, by omega⟩ : Fin 128) := Fin.ext hb
  rw [h1, h2, posAt]

/-- What `routed` says, entry by entry: `idx` and the slots are inverse to each other, and the slots of 128 consecutive
    tokens at one expert lie in the 128 places from the block's start. -/
structure Routed (idx : IVec S16x2048 32) (pos off : IVec S2048x128 32) : Prop where
  idx_lt : ∀ e k, (idx (ix2 e k)).toNat < 16384
  back : ∀ e k (h : (idx (ix2 e k)).toNat < 16384), posAt pos e ⟨(idx (ix2 e k)).toNat, h⟩ = BitVec.ofNat 32 k.val
  there : ∀ e s (h : (posAt pos e s).toNat < 2048), idx (ix2 e ⟨(posAt pos e s).toNat, h⟩) = BitVec.ofNat 32 s.val
  start : ∀ r : Fin 2048, (off (ix2 r (0 : Fin 128))).toNat ≤ 2048
  slot : ∀ (r : Fin 2048) (l : Fin 128), 2 ^ 31 ≤ (pos (ix2 r l)).toNat ∨
    ((off (ix2 r (0 : Fin 128))).toNat ≤ (pos (ix2 r l)).toNat ∧ (pos (ix2 r l)).toNat < (off (ix2 r (0 : Fin 128))).toNat + 128 ∧ (pos (ix2 r l)).toNat < 2048)

theorem ix2_of_val {n0 n1 : Nat} {a a' : Fin n0} {b b' : Fin n1} (ha : a.val = a'.val) (hb : b.val = b'.val) : ix2 a b = ix2 a' b' := by
  rw [Fin.ext ha, Fin.ext hb]

/-- The place of entry `w` of row `e` in the rows laid end to end, as a signed word. -/
theorem flat_word {n : Nat} (e : Fin 16) (w : BitVec 32) (hw : w.toNat < n) (hn : n ≤ 16384) :
    (IntOp.addi (IntOp.muli (BitVec.ofNat 32 e.val) (BitVec.ofNat 32 n)) w).toInt.toNat = e.val * n + w.toNat := by
  have he := e.isLt
  have hm : e.val * n ≤ 15 * n := Nat.mul_le_mul_right n (by omega)
  have h : (IntOp.addi (IntOp.muli (BitVec.ofNat 32 e.val) (BitVec.ofNat 32 n)) w).toNat = e.val * n + w.toNat := by
    show (BitVec.ofNat 32 e.val * BitVec.ofNat 32 n + w).toNat = _
    rw [BitVec.toNat_add, BitVec.toNat_mul, BitVec.toNat_ofNat, BitVec.toNat_ofNat, Nat.mod_eq_of_lt (a := e.val) (by omega),
      Nat.mod_eq_of_lt (a := n) (by omega), Nat.mod_eq_of_lt (a := e.val * n) (by omega), Nat.mod_eq_of_lt (by omega)]
  rw [StableHlo.Predicate.toInt_eq_toNat_of_lt (by omega), h, Int.toNat_natCast]

variable {F : FTy → Type} [FloatOps F]

section
variable (idx : IVec S16x2048 32) (pos off : IVec S2048x128 32) (ye : FVec F S16x2048x2048 .bf16)
    (x : FVec F S16384x2048 .f32) (g b : FVec F S1x2048 .f32)
include ye x g b

theorem idx_lt_of (h : (Cert.Pre_routed.fn (F := F) idx pos off ye x g b).1 = fun _ => 1#1) (e : Fin 16) (k : Fin 2048) :
    (idx (ix2 e k)).toNat < 16384 := by
  have h1 := congrFun h (ix2 e k)
  simp only [fn, fn_part1, fn_part2] at h1
  pointwise at h1
  clear h
  word_omega

theorem start_of (h : (Cert.Pre_routed.fn (F := F) idx pos off ye x g b).2.2.2.1 = fun _ => 1#1) (r : Fin 2048) :
    (off (ix2 r (0 : Fin 128))).toNat ≤ 2048 := by
  have h1 := congrFun h (ix2 r (0 : Fin 1))
  simp only [fn, fn_part1, fn_part2] at h1
  pointwise at h1
  clear h
  word_omega

theorem slot_of (h : (Cert.Pre_routed.fn (F := F) idx pos off ye x g b).2.2.2.2 = fun _ => 1#1) (r : Fin 2048) (l : Fin 128)
    (hs : (off (ix2 r (0 : Fin 128))).toNat ≤ 2048) : 2 ^ 31 ≤ (pos (ix2 r l)).toNat ∨
    ((off (ix2 r (0 : Fin 128))).toNat ≤ (pos (ix2 r l)).toNat ∧ (pos (ix2 r l)).toNat < (off (ix2 r (0 : Fin 128))).toNat + 128 ∧ (pos (ix2 r l)).toNat < 2048) := by
  have h1 := congrFun h (ix2 r l)
  simp only [fn, fn_part1, fn_part2] at h1
  pointwise at h1
  clear h
  word_omega

theorem back_of (h : (Cert.Pre_routed.fn (F := F) idx pos off ye x g b).2.1 = fun _ => 1#1) (e : Fin 16) (k : Fin 2048)
    (hi : (idx (ix2 e k)).toNat < 16384) : posAt pos e ⟨(idx (ix2 e k)).toNat, hi⟩ = BitVec.ofNat 32 k.val := by
  have h1 := congrFun h (ix2 e k)
  simp only [fn, fn_part1, fn_part2, fn_take] at h1
  change IntOp.cmpi .eq (Host.gather (ValueIdx.takeDims 262144 16 2048 _) _ _ _) _ = 1#1 at h1
  rw [ValueIdx.gather_take_apply (by norm_num), StableHlo.Predicate.cmpi_eq_iff] at h1
  pointwise at h1
  clear h
  have he := e.isLt
  have hw := flat_word (n := 16384) e (idx (ix2 e k)) hi (by norm_num)
  rw [← h1, posAt]
  congr 2
  · ext; show _ = min _ _ / 128; rw [hw]; show _ + (idx (ix2 e k)).toNat / 128 = _; omega
  · ext; show _ = min _ _ % 128; rw [hw]; show (idx (ix2 e k)).toNat % 128 = _; omega

theorem there_of (h : (Cert.Pre_routed.fn (F := F) idx pos off ye x g b).2.2.1 = fun _ => 1#1) (e : Fin 16) (s : Fin 16384)
    (hi : (posAt pos e s).toNat < 2048) : idx (ix2 e ⟨(posAt pos e s).toNat, hi⟩) = BitVec.ofNat 32 s.val := by
  have h1 := congrFun h (ix2 e s)
  have hz : ∀ z : BitVec 1, IntOp.ori 0#1 z = z := by decide
  simp only [fn, fn_part1, fn_part2, fn_take_0] at h1
  clear h
  obtain ⟨Q, hQd⟩ : ∃ Q : IVec S16x16384 32, Q = shapeCast S16x16384 pos Facts.shapeCasts_S2048x128_S16x16384 := ⟨_, rfl⟩
  have hQ : Q (ix2 e s) = posAt pos e s := by
    rw [hQd]
    pointwise
    exact congrArg pos (ix2_of_val (by dsimp only) (by dsimp only))
  rw [← hQd] at h1
  clear hQd
  change IntOp.ori _ (IntOp.cmpi .eq (Host.gather (ValueIdx.takeDims 32768 16 16384 _) _ _ _) _) = 1#1 at h1
  rw [ValueIdx.gather_take_apply (by norm_num)] at h1
  pointwise at h1
  suffices H : ∀ hi, idx (ix2 e ⟨(Q (ix2 e s)).toNat, hi⟩) = BitVec.ofNat 32 s.val by
    simp only [hQ] at H
    exact H hi
  clear hQ hi
  intro hi
  have he := e.isLt
  have hw := flat_word (n := 2048) e (Q (ix2 e s)) hi (by norm_num)
  have h0 : IntOp.cmpi .slt (Q (ix2 e s)) 0#32 = 0#1 := by
    clear h1 hw
    simp only [IntOp.cmpi, BitVec.slt, StableHlo.Predicate.toInt_eq_toNat_of_lt (show (Q (ix2 e s)).toNat < 2 ^ 31 by omega)]
    rw [decide_eq_false (by simp)]; rfl
  rw [h0, hz, StableHlo.Predicate.cmpi_eq_iff] at h1
  refine (congrArg idx (ix2_of_val ?_ ?_)).trans h1
  · show e.val = min _ 32767 / 2048; rw [hw]; omega
  · show (Q (ix2 e s)).toNat = min _ 32767 % 2048; rw [hw]; omega
end

theorem routed_of (idx : IVec S16x2048 32) (pos off : IVec S2048x128 32) (ye : FVec F S16x2048x2048 .bf16)
    (x : FVec F S16384x2048 .f32) (g b : FVec F S1x2048 .f32)
    (h : (Cert.Pre_routed.fn (F := F) idx pos off ye x g b).1 = (fun _ => 1#1)
      ∧ (Cert.Pre_routed.fn (F := F) idx pos off ye x g b).2.1 = (fun _ => 1#1)
      ∧ (Cert.Pre_routed.fn (F := F) idx pos off ye x g b).2.2.1 = (fun _ => 1#1)
      ∧ (Cert.Pre_routed.fn (F := F) idx pos off ye x g b).2.2.2.1 = (fun _ => 1#1)
      ∧ (Cert.Pre_routed.fn (F := F) idx pos off ye x g b).2.2.2.2 = (fun _ => 1#1)) : Routed idx pos off :=
  ⟨idx_lt_of idx pos off ye x g b h.1, back_of idx pos off ye x g b h.2.1, there_of idx pos off ye x g b h.2.2.1,
    start_of idx pos off ye x g b h.2.2.2.1, fun r l => slot_of idx pos off ye x g b h.2.2.2.2 r l (start_of idx pos off ye x g b h.2.2.2.1 r)⟩

end Cert.Routed
-- ==== Proof.Table.lean ====
/- What the host operations before the kernel prepare: the table of window starts, and the slots by token. -/
module

public import proofs.«01_k».proof.Proof.Gen.KernelIdeal.Frame.Runs
public import proofs.«01_k».proof.Proof.Pre
public import Idealize.ShloMosaic.Lib.StableHlo.ReadAt
public import Idealize.ShloMosaic.Lib.Routing.Words

@[expose] public section

namespace Cert.Routed

open Idealize.ShloMosaic

/-- A word's start rounded down to 16 rows, and no later than the last window of 144 rows. -/
def win (n : Nat) : Nat := min (n / 16 * 16) 1904

theorem win_mul (n : Nat) : win n = 16 * min (n / 16) 119 := by unfold win; omega

/-- The host's floor division by 16 of a start, times 16, capped at 1904. -/
theorem host_win (w : BitVec 32) (h : w.toNat ≤ 2048) :
    IntOp.minsi (IntOp.muli (Scalar.select
      (IntOp.andi (IntOp.cmpi .ne (if w = 0 then (0 : BitVec 32) else if w.msb = true then -1 else 1) (1 : BitVec 32))
        (IntOp.cmpi .ne (IntOp.remsi .host w 16#32) 0#32))
      (IntOp.subi (IntOp.divsi .host w 16#32) 1#32) (IntOp.divsi .host w 16#32)) 16#32) 1904#32 = BitVec.ofNat 32 (win w.toNat) := by
  obtain ⟨n, hn, rfl⟩ : ∃ n, n ≤ 2048 ∧ w = BitVec.ofNat 32 n := ⟨w.toNat, h, by simp⟩
  have hd : IntOp.divsi .host (BitVec.ofNat 32 n) 16#32 = BitVec.ofNat 32 (n / 16) := Routing.divsi_word .host (by omega) (by norm_num) (by norm_num)
  have hr : IntOp.remsi .host (BitVec.ofNat 32 n) 16#32 = BitVec.ofNat 32 (n % 16) := Routing.remsi_word .host (by omega) (by norm_num) (by norm_num)
  have hs : IntOp.andi (IntOp.cmpi .ne (if BitVec.ofNat 32 n = 0 then (0 : BitVec 32) else if (BitVec.ofNat 32 n).msb = true then -1 else 1) (1 : BitVec 32))
        (IntOp.cmpi .ne (BitVec.ofNat 32 (n % 16)) 0#32) = 0#1 := by
    rcases Nat.eq_zero_or_pos n with h0 | h0
    · subst h0; decide
    · have hm : (BitVec.ofNat 32 n).msb = false := by
        rw [BitVec.msb_eq_decide]; simp; omega
      have hz : ¬ BitVec.ofNat 32 n = 0 := by
        intro hh
        have := congrArg BitVec.toNat hh
        simp at this; omega
      rw [if_neg hz, hm]
      simp only [Bool.false_eq_true, if_false]
      rw [show IntOp.cmpi .ne (1 : BitVec 32) 1 = 0#1 from by decide]
      exact BitVec.zero_and
  rw [hr, hd, hs]
  show IntOp.minsi (BitVec.ofNat 32 (n / 16) * 16#32) 1904#32 = _
  have hn' : (BitVec.ofNat 32 n).toNat = n := by rw [BitVec.toNat_ofNat]; omega
  have hm : (BitVec.ofNat 32 (n / 16) * 16#32) = BitVec.ofNat 32 (n / 16 * 16) := by
    apply BitVec.eq_of_toNat_eq; simp [BitVec.toNat_mul]
  rw [hm, hn']
  show (if (BitVec.ofNat 32 (n / 16 * 16)).slt 1904#32 then _ else _) = _
  rw [BitVec.slt, StableHlo.Predicate.toInt_ofNat_small _ (by omega), show (1904#32 : BitVec 32).toInt = 1904 from by decide]
  unfold win
  by_cases hc : n / 16 * 16 < 1904
  · rw [if_pos (by simpa using by exact_mod_cast hc), Nat.min_eq_left (by omega)]
  · rw [if_neg (by simpa using by exact_mod_cast (not_lt.mp hc)), Nat.min_eq_right (by omega)]

/-- The same as the host prints it, the divisor a word `z` that is 16. -/
theorem host_win_at (w z : BitVec 32) (hz : z = 16#32) (h : w.toNat ≤ 2048) :
    IntOp.minsi (IntOp.muli (Scalar.select
      (IntOp.andi (IntOp.cmpi .ne (if w = 0 then (0 : BitVec 32) else if w.msb = true then -1 else 1)
          (if z = 0 then (0 : BitVec 32) else if z.msb = true then -1 else 1))
        (IntOp.cmpi .ne (IntOp.remsi .host w z) 0#32))
      (IntOp.subi (IntOp.divsi .host w z) 1#32) (IntOp.divsi .host w z)) 16#32) 1904#32 = BitVec.ofNat 32 (win w.toNat) := by
  subst hz
  rw [show (if (16#32 : BitVec 32) = 0 then (0 : BitVec 32) else if (16#32 : BitVec 32).msb = true then -1 else 1) = 1 from by decide]
  exact host_win w h

/-- The kernel's own floor division by 16 of a table word, as its index maps print it. -/
abbrev fdiv (w : BitVec 32) : BitVec 32 :=
  Scalar.select (Scalar.andi
      (Scalar.cmpi .ne (Scalar.subi (Scalar.extui (Scalar.cmpi .sgt w 0#32)) (Scalar.extui (Scalar.cmpi .slt w 0#32)))
        (Scalar.subi (Scalar.extui (Scalar.cmpi .sgt (16#32 : BitVec 32) 0#32)) (Scalar.extui (Scalar.cmpi .slt (16#32 : BitVec 32) 0#32))) : BitVec 1)
      (Scalar.cmpi .ne (Scalar.remsi w 16#32) 0#32))
    (Scalar.subi (Scalar.divsi w 16#32) 1#32) (Scalar.divsi w 16#32)

set_option maxRecDepth 4000 in
theorem fdiv_mul : ∀ n : Fin 120, Scalar.muli (fdiv (BitVec.ofNat 32 (16 * n.val))) 16#32 = BitVec.ofNat 32 (16 * n.val) := by
  decide +kernel

theorem fdiv_win (n : Nat) : Scalar.muli (fdiv (BitVec.ofNat 32 (win n))) 16#32 = BitVec.ofNat 32 (win n) := by
  rw [win_mul]; exact fdiv_mul ⟨min (n / 16) 119, by omega⟩

end Cert.Routed

namespace Cert.KernelIdeal.Gen

open Idealize.ShloMosaic Idealize.ShloMosaic.TcCoe Cert.Routed

variable {F : FTy → Type} [FloatOps F]

/-- The window's first row for expert `e` and token block `t`. -/
def winN (off : IVec S2048x128 32) (e : Fin 16) (t : Fin 128) : Nat :=
  win (off (ix2 (⟨e.val * 128 + t.val, by omega⟩ : Fin 2048) (0 : Fin 128))).toNat

section
variable (m : (ℓ : Loc nD τ sig) → Buf (Elt F) ℓ)

theorem tbl_at (c : Dev nD) (h : ∀ r : Fin 2048, ((m ((c : Thread nD τ).loc main_arg2) : IVec S2048x128 32) (ix2 r (0 : Fin 128))).toNat ≤ 2048)
    (e : Fin 16) (t : Fin 128) : (V m c main_v9 : IVec S16x128 32) (ix2 e t) = BitVec.ofNat 32 (winN (m ((c : Thread nD τ).loc main_arg2)) e t) := by
  unfold V
  after_reads_at
  exact host_win_at _ _ rfl (h _)

theorem slots_at (c : Dev nD) (e : Fin 16) (s : Fin 16384) :
    (V m c main_v4 : IVec S16384x16 32) (ix2 s e) = posAt (m ((c : Thread nD τ).loc main_arg1)) e s := by
  unfold V
  after_reads_at
  refine posAt_of _ e s ?_ ?_ <;> dsimp only
end

/-! ## The index maps at a table of multiples of 16 -/

/-- The row of the table the index maps of expert `J` read. -/
abbrev rowW (J : BitVec 32) (i : grid0.Coords) : BitVec 32 := Scalar.addi (Scalar.muli (BitVec.ofNat 32 (i 1).val) 16#32) J
/-- Where in the table the index maps of expert `J` read. -/
abbrev offW (J : BitVec 32) (i : grid0.Coords) : Fin 2 → Nat :=
  ![(Scalar.indexCast (rowW J i) : Index).toNat, (Scalar.indexCast (BitVec.ofNat 32 (i 0).val) : Index).toNat]

theorem rowW_eq (J : Fin 16) (i : grid0.Coords) : rowW (BitVec.ofNat 32 J.val) i = BitVec.ofNat 32 J.val := by
  have h1 : (i 1).val = 0 := by have := (i 1).isLt; exact Nat.lt_one_iff.mp this
  unfold rowW
  rw [h1]
  revert J; decide

theorem offW_eq (J : Fin 16) (i : grid0.Coords) : offW (BitVec.ofNat 32 J.val) i = ![J.val, (i 0).val] := by
  have hJ : ∀ J : Fin 16, (Scalar.indexCast (BitVec.ofNat 32 J.val) : Index).toNat = J.val := by decide
  have hi : ∀ t : Fin 128, (Scalar.indexCast (BitVec.ofNat 32 t.val) : Index).toNat = t.val := by decide
  unfold offW
  rw [rowW_eq, hJ, hi (i 0)]

section
variable (pf : pre0.Contents (Elt F)) (n : Fin 16 → Fin 128 → Nat)

/-- The table holds the starts `n`. -/
abbrev Holds : Prop := ∀ e t, (pf 0 : IVec S16x128 32) (ix2 e t) = BitVec.ofNat 32 (win (n e t))

variable {pf n} (hpf : Holds pf n)
include hpf

theorem mult_eq (J : Fin 16) (i : grid0.Coords) :
    Scalar.muli (fdiv (pf.atD 0 (offW (BitVec.ofNat 32 J.val) i))) 16#32 = BitVec.ofNat 32 (win (n J (i 0))) := by
  have hJ := J.isLt
  have hi := (i 0).isLt
  have h : pf.atD 0 (offW (BitVec.ofNat 32 J.val) i) = BitVec.ofNat 32 (win (n J (i 0))) := by
    rw [offW_eq]
    unfold Pipeline.Prefetch.Contents.atD
    rw [dif_pos (by intro a; match a with | ⟨0, _⟩ => exact hJ | ⟨1, _⟩ => exact hi)]
    exact Eq.trans (congrArg (pf 0) (funext fun a => by match a with | ⟨0, _⟩ => rfl | ⟨1, _⟩ => rfl)) (hpf J (i 0))
  rw [h, fdiv_win]

theorem mult_dvd (J : Fin 16) (i : grid0.Coords) :
    (16 : Int) ∣ (Scalar.muli (fdiv (pf.atD 0 (offW (BitVec.ofNat 32 J.val) i))) 16#32).toInt := by
  rw [mult_eq hpf, StableHlo.Predicate.toInt_ofNat_small _ (by have := win_mul (n J (i 0)); omega), win_mul]
  exact ⟨(min (n J (i 0) / 16) 119 : Nat), by push_cast; ring⟩

theorem start_eq (J : Fin 16) (i : grid0.Coords) (hin : ∀ a, offW (BitVec.ofNat 32 J.val) i a + S1x1.size a ≤ S16x128.size a) (h1 : S1x1.numel = 1) :
    Scalar.muli (fdiv (pf.at 0 (Rect.unit (s := S16x128) (offW (BitVec.ofNat 32 J.val) i) S1x1.size hin) h1)) 16#32 = BitVec.ofNat 32 (win (n J (i 0))) := by
  have h : pf.at 0 (Rect.unit (s := S16x128) (offW (BitVec.ofNat 32 J.val) i) S1x1.size hin) h1 = BitVec.ofNat 32 (win (n J (i 0))) := by
    unfold Pipeline.Prefetch.Contents.at
    refine Eq.trans (congrArg (pf 0) (funext fun a => Fin.ext ?_)) (hpf J (i 0))
    have ho := congrFun (offW_eq J i) a
    match a with
    | ⟨0, _⟩ => exact ho
    | ⟨1, _⟩ => exact ho
  rw [h, fdiv_win]

/-- The element offsets of expert `J`'s window, as its index map prints them. -/
abbrev trW (J : Fin 16) (i : grid0.Coords) (hin : ∀ a, offW (BitVec.ofNat 32 J.val) i a + S1x1.size a ≤ S16x128.size a) (h1 : S1x1.numel = 1) : Fin 3 → Nat :=
  ![(rowW (BitVec.ofNat 32 J.val) i).toNat,
    (Scalar.muli (fdiv (pf.at 0 (Rect.unit (s := S16x128) (offW (BitVec.ofNat 32 J.val) i) S1x1.size hin) h1)) 16#32).toNat, (0#32).toNat]

theorem trW_eq (J : Fin 16) (i : grid0.Coords) (hin) (h1) : trW (pf := pf) J i hin h1 = ![J.val, win (n J (i 0)), 0] := by
  unfold trW
  have hJ := J.isLt
  rw [start_eq hpf, rowW_eq, BitVec.toNat_ofNat, BitVec.toNat_ofNat, Nat.mod_eq_of_lt (by omega),
    Nat.mod_eq_of_lt (by have := win_mul (n J (i 0)); omega)]
  rfl

theorem tr_ok (J : Fin 16) (i : grid0.Coords) (hin) (h1) :
    ∃ h : (∀ a, trW (pf := pf) J i hin h1 a + S1x144x2048.size a ≤ S16x2048x2048.size a), EltTy.bits .bf16 = 32 ∨
      (Rect.unit (s := S16x2048x2048) (trW (pf := pf) J i hin h1) S1x144x2048.size h).WholeWords (EltTy.packing .bf16) := by
  rw [trW_eq hpf]
  have hJ := J.isLt
  have hw := win_mul (n J (i 0))
  refine ⟨fun a => ?_, Or.inr (Rect.PackedRows.wholeWords (Or.inr ⟨by decide, rfl, Or.inl ⟨?_, ?_⟩⟩))⟩
  · match a with
    | ⟨0, _⟩ => show J.val + 1 ≤ 16; omega
    | ⟨1, _⟩ => show win _ + 144 ≤ 2048; omega
    | ⟨2, _⟩ => show 0 + 2048 ≤ 2048; omega
  · show 2 ∣ win _; omega
  · show 2 ∣ 144; norm_num

theorem ok_of_holds : ok0 pf :=
  ⟨mult_dvd hpf 0, mult_dvd hpf 1, mult_dvd hpf 2, mult_dvd hpf 3, mult_dvd hpf 4, mult_dvd hpf 5, mult_dvd hpf 6, mult_dvd hpf 7,
    mult_dvd hpf 8, mult_dvd hpf 9, mult_dvd hpf 10, mult_dvd hpf 11, mult_dvd hpf 12, mult_dvd hpf 13, mult_dvd hpf 14, mult_dvd hpf 15,
    fun i => tr_ok hpf 0 i _ _, fun i => tr_ok hpf 1 i _ _, fun i => tr_ok hpf 2 i _ _, fun i => tr_ok hpf 3 i _ _,
    fun i => tr_ok hpf 4 i _ _, fun i => tr_ok hpf 5 i _ _, fun i => tr_ok hpf 6 i _ _, fun i => tr_ok hpf 7 i _ _,
    fun i => tr_ok hpf 8 i _ _, fun i => tr_ok hpf 9 i _ _, fun i => tr_ok hpf 10 i _ _, fun i => tr_ok hpf 11 i _ _,
    fun i => tr_ok hpf 12 i _ _, fun i => tr_ok hpf 13 i _ _, fun i => tr_ok hpf 14 i _ _, fun i => tr_ok hpf 15 i _ _⟩

end

/-- Starts of at most 2048 make every window lie inside the experts' outputs, at a multiple of 16 rows. -/
theorem ok_of_start (m : (ℓ : Loc nD τ sig) → Buf (Elt F) ℓ)
    (h : ∀ r : Fin 2048, ((m (((0 : Dev nD) : Thread nD τ).loc main_arg2) : IVec S2048x128 32) (ix2 r (0 : Fin 128))).toNat ≤ 2048) : Ok m :=
  ok_of_holds (fun e t => tbl_at m 0 h e t)

end Cert.KernelIdeal.Gen
-- ==== Proof.Run.lean ====
/- The kernel's body run once on whole staging buffers: the stores it leaves in the outputs'. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S1x144x2048 .bf16) (harg3 : arg3.IsWhole) (arg4 : Memref sig .tc .vmem S1x144x2048 .bf16) (harg4 : arg4.IsWhole) (arg5 : Memref sig .tc .vmem S1x144x2048 .bf16) (harg5 : arg5.IsWhole) (arg6 : Memref sig .tc .vmem S1x144x2048 .bf16) (harg6 : arg6.IsWhole) (arg7 : Memref sig .tc .vmem S1x144x2048 .bf16) (harg7 : arg7.IsWhole) (arg8 : Memref sig .tc .vmem S1x144x2048 .bf16) (harg8 : arg8.IsWhole) (arg9 : Memref sig .tc .vmem S1x144x2048 .bf16) (harg9 : arg9.IsWhole) (arg10 : Memref sig .tc .vmem S1x144x2048 .bf16) (harg10 : arg10.IsWhole) (arg11 : Memref sig .tc .vmem S1x144x2048 .bf16) (harg11 : arg11.IsWhole) (arg12 : Memref sig .tc .vmem S1x144x2048 .bf16) (harg12 : arg12.IsWhole) (arg13 : Memref sig .tc .vmem S1x144x2048 .bf16) (harg13 : arg13.IsWhole) (arg14 : Memref sig .tc .vmem S1x144x2048 .bf16) (harg14 : arg14.IsWhole) (arg15 : Memref sig .tc .vmem S1x144x2048 .bf16) (harg15 : arg15.IsWhole) (arg16 : Memref sig .tc .vmem S1x144x2048 .bf16) (harg16 : arg16.IsWhole) (arg17 : Memref sig .tc .vmem S1x144x2048 .bf16) (harg17 : arg17.IsWhole) (arg18 : Memref sig .tc .vmem S1x144x2048 .bf16) (harg18 : arg18.IsWhole) (arg19 : Memref sig .tc .vmem S128x16 .i32) (harg19 : arg19.IsWhole) (arg20 : Memref sig .tc .vmem S128x2048 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S128x2048 .f32) (harg23 : arg23.IsWhole) (arg24 : Memref sig .tc .vmem S128x2048 .bf16) (harg24 : arg24.IsWhole) (arg25 : Memref sig .tc .vmem S128x2048 .f32) (harg25 : arg25.IsWhole) (hc0 : cond0_0 i) (hc1 : cond0_1 i)
    (x0 : Vec F S1x144x2048 .bf16) (x1 : Vec F S1x144x2048 .bf16) (x2 : Vec F S1x144x2048 .bf16) (x3 : Vec F S1x144x2048 .bf16) (x4 : Vec F S1x144x2048 .bf16) (x5 : Vec F S1x144x2048 .bf16) (x6 : Vec F S1x144x2048 .bf16) (x7 : Vec F S1x144x2048 .bf16) (x8 : Vec F S1x144x2048 .bf16) (x9 : Vec F S1x144x2048 .bf16) (x10 : Vec F S1x144x2048 .bf16) (x11 : Vec F S1x144x2048 .bf16) (x12 : Vec F S1x144x2048 .bf16) (x13 : Vec F S1x144x2048 .bf16) (x14 : Vec F S1x144x2048 .bf16) (x15 : Vec F S1x144x2048 .bf16) (x16 : Vec F S128x16 .i32) (x17 : Vec F S128x2048 .f32) (x18 : Vec F S1x2048 .f32) (x19 : Vec F S1x2048 .f32) (xt0 : TbBuf0 (F := F) c tbM0_0) :
    Σ' (L20 : List (View.Piece (Elt F) S128x2048 .f32)), Σ' (L21 : List (View.Piece (Elt F) S128x2048 .bf16)), { LT0 : List (View.Piece (Elt F) S128x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ (∃ d, owns (c : Thread nD τ) arg23 fullShare d) ∗ (∃ d, owns (c : Thread nD τ) arg24 fullShare d) ∗ (∃ d, owns (c : Thread nD τ) arg25 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ (∃ f, arg23.view.loc (c : Thread nD τ) ↦[arg23.view.set]{fullShare} arg23.view.writes (Elt F) f L20) ∗ (∃ f, arg24.view.loc (c : Thread nD τ) ↦[arg24.view.set]{fullShare} arg24.view.writes (Elt F) f L21) ∗ (∃ f, arg25.view.loc (c : Thread nD τ) ↦[arg25.view.set]{fullShare} arg25.view.writes (Elt F) f LT0) ∗ tbPt0 c tbM0_0 xt0) -∗ K ⟨⟩))
          ⊢ wp frame (wpE (defs₀ (F := F)) Variants.none c none) E (cc0_combine_ln i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, fun E K => ?run⟩
  case run =>
    simp only [cc0_combine_ln_eq_skeleton]; unfold cc0_combine_ln_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]; · iexists _; iexact H20
    isplitl [H21]; · iexists _; iexact H21
    isplitl [HS0]; · iexists _; iexact HS0
    iexact HT0

end Cert.KernelIdeal.Gen

end
-- ==== Proof.RunFrame.lean ====
/- The kernel's whole run: what every grid point leaves in the outputs' buffers, and the run's final state. -/
module

public import proofs.«01_k».proof.Proof.Run
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 20 tile its block (1 store of `S128x2048`, checked by the kernel's evaluation: Lib/Ring.lean `Piece.tiledL`, linear in the pieces, through a loop's `@[irreducible]` trip theorem too), so they cover it. -/
theorem cover0_A_20 (c : Dev nD) (i : grid0.Coords) (arg3 : Memref sig .tc .vmem S1x144x2048 .bf16) (harg3 : arg3.IsWhole) (arg4 : Memref sig .tc .vmem S1x144x2048 .bf16) (harg4 : arg4.IsWhole) (arg5 : Memref sig .tc .vmem S1x144x2048 .bf16) (harg5 : arg5.IsWhole) (arg6 : Memref sig .tc .vmem S1x144x2048 .bf16) (harg6 : arg6.IsWhole) (arg7 : Memref sig .tc .vmem S1x144x2048 .bf16) (harg7 : arg7.IsWhole) (arg8 : Memref sig .tc .vmem S1x144x2048 .bf16) (harg8 : arg8.IsWhole) (arg9 : Memref sig .tc .vmem S1x144x2048 .bf16) (harg9 : arg9.IsWhole) (arg10 : Memref sig .tc .vmem S1x144x2048 .bf16) (harg10 : arg10.IsWhole) (arg11 : Memref sig .tc .vmem S1x144x2048 .bf16) (harg11 : arg11.IsWhole) (arg12 : Memref sig .tc .vmem S1x144x2048 .bf16) (harg12 : arg12.IsWhole) (arg13 : Memref sig .tc .vmem S1x144x2048 .bf16) (harg13 : arg13.IsWhole) (arg14 : Memref sig .tc .vmem S1x144x2048 .bf16) (harg14 : arg14.IsWhole) (arg15 : Memref sig .tc .vmem S1x144x2048 .bf16) (harg15 : arg15.IsWhole) (arg16 : Memref sig .tc .vmem S1x144x2048 .bf16) (harg16 : arg16.IsWhole) (arg17 : Memref sig .tc .vmem S1x144x2048 .bf16) (harg17 : arg17.IsWhole) (arg18 : Memref sig .tc .vmem S1x144x2048 .bf16) (harg18 : arg18.IsWhole) (arg19 : Memref sig .tc .vmem S128x16 .i32) (harg19 : arg19.IsWhole) (arg20 : Memref sig .tc .vmem S128x2048 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S128x2048 .f32) (harg23 : arg23.IsWhole) (arg24 : Memref sig .tc .vmem S128x2048 .bf16) (harg24 : arg24.IsWhole) (arg25 : Memref sig .tc .vmem S128x2048 .f32) (harg25 : arg25.IsWhole) (hc0 : cond0_0 i) (hc1 : cond0_1 i)
    (x0 : Vec F S1x144x2048 .bf16) (x1 : Vec F S1x144x2048 .bf16) (x2 : Vec F S1x144x2048 .bf16) (x3 : Vec F S1x144x2048 .bf16) (x4 : Vec F S1x144x2048 .bf16) (x5 : Vec F S1x144x2048 .bf16) (x6 : Vec F S1x144x2048 .bf16) (x7 : Vec F S1x144x2048 .bf16) (x8 : Vec F S1x144x2048 .bf16) (x9 : Vec F S1x144x2048 .bf16) (x10 : Vec F S1x144x2048 .bf16) (x11 : Vec F S1x144x2048 .bf16) (x12 : Vec F S1x144x2048 .bf16) (x13 : Vec F S1x144x2048 .bf16) (x14 : Vec F S1x144x2048 .bf16) (x15 : Vec F S1x144x2048 .bf16) (x16 : Vec F S128x16 .i32) (x17 : Vec F S128x2048 .f32) (x18 : Vec F S1x2048 .f32) (x19 : Vec F S1x2048 .f32) (xt0 : TbBuf0 (F := F) c tbM0_0) (y : S128x2048.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xt0).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xt0).1 S128x2048.size (by sl_kernel_rfl) y

/-- What the run leaves in output 20's staging buffer: its pieces read back over junk. -/
def out0_A_20 (c : Dev nD) (i : grid0.Coords) (arg3 : Memref sig .tc .vmem S1x144x2048 .bf16) (harg3 : arg3.IsWhole) (arg4 : Memref sig .tc .vmem S1x144x2048 .bf16) (harg4 : arg4.IsWhole) (arg5 : Memref sig .tc .vmem S1x144x2048 .bf16) (harg5 : arg5.IsWhole) (arg6 : Memref sig .tc .vmem S1x144x2048 .bf16) (harg6 : arg6.IsWhole) (arg7 : Memref sig .tc .vmem S1x144x2048 .bf16) (harg7 : arg7.IsWhole) (arg8 : Memref sig .tc .vmem S1x144x2048 .bf16) (harg8 : arg8.IsWhole) (arg9 : Memref sig .tc .vmem S1x144x2048 .bf16) (harg9 : arg9.IsWhole) (arg10 : Memref sig .tc .vmem S1x144x2048 .bf16) (harg10 : arg10.IsWhole) (arg11 : Memref sig .tc .vmem S1x144x2048 .bf16) (harg11 : arg11.IsWhole) (arg12 : Memref sig .tc .vmem S1x144x2048 .bf16) (harg12 : arg12.IsWhole) (arg13 : Memref sig .tc .vmem S1x144x2048 .bf16) (harg13 : arg13.IsWhole) (arg14 : Memref sig .tc .vmem S1x144x2048 .bf16) (harg14 : arg14.IsWhole) (arg15 : Memref sig .tc .vmem S1x144x2048 .bf16) (harg15 : arg15.IsWhole) (arg16 : Memref sig .tc .vmem S1x144x2048 .bf16) (harg16 : arg16.IsWhole) (arg17 : Memref sig .tc .vmem S1x144x2048 .bf16) (harg17 : arg17.IsWhole) (arg18 : Memref sig .tc .vmem S1x144x2048 .bf16) (harg18 : arg18.IsWhole) (arg19 : Memref sig .tc .vmem S128x16 .i32) (harg19 : arg19.IsWhole) (arg20 : Memref sig .tc .vmem S128x2048 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S128x2048 .f32) (harg23 : arg23.IsWhole) (arg24 : Memref sig .tc .vmem S128x2048 .bf16) (harg24 : arg24.IsWhole) (arg25 : Memref sig .tc .vmem S128x2048 .f32) (harg25 : arg25.IsWhole) (hc0 : cond0_0 i) (hc1 : cond0_1 i)
    (x0 : Vec F S1x144x2048 .bf16) (x1 : Vec F S1x144x2048 .bf16) (x2 : Vec F S1x144x2048 .bf16) (x3 : Vec F S1x144x2048 .bf16) (x4 : Vec F S1x144x2048 .bf16) (x5 : Vec F S1x144x2048 .bf16) (x6 : Vec F S1x144x2048 .bf16) (x7 : Vec F S1x144x2048 .bf16) (x8 : Vec F S1x144x2048 .bf16) (x9 : Vec F S1x144x2048 .bf16) (x10 : Vec F S1x144x2048 .bf16) (x11 : Vec F S1x144x2048 .bf16) (x12 : Vec F S1x144x2048 .bf16) (x13 : Vec F S1x144x2048 .bf16) (x14 : Vec F S1x144x2048 .bf16) (x15 : Vec F S1x144x2048 .bf16) (x16 : Vec F S128x16 .i32) (x17 : Vec F S128x2048 .f32) (x18 : Vec F S1x2048 .f32) (x19 : Vec F S1x2048 .f32) (xt0 : TbBuf0 (F := F) c tbM0_0) : Vec F S128x2048 .f32 :=
  VO0_20.read (Elt F) (VO0_20.writes (Elt F) VO0_20.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xt0).1)

/-- The run's pieces for output 21 tile its block (1 store of `S128x2048`, checked by the kernel's evaluation: Lib/Ring.lean `Piece.tiledL`, linear in the pieces, through a loop's `@[irreducible]` trip theorem too), so they cover it. -/
theorem cover0_A_21 (c : Dev nD) (i : grid0.Coords) (arg3 : Memref sig .tc .vmem S1x144x2048 .bf16) (harg3 : arg3.IsWhole) (arg4 : Memref sig .tc .vmem S1x144x2048 .bf16) (harg4 : arg4.IsWhole) (arg5 : Memref sig .tc .vmem S1x144x2048 .bf16) (harg5 : arg5.IsWhole) (arg6 : Memref sig .tc .vmem S1x144x2048 .bf16) (harg6 : arg6.IsWhole) (arg7 : Memref sig .tc .vmem S1x144x2048 .bf16) (harg7 : arg7.IsWhole) (arg8 : Memref sig .tc .vmem S1x144x2048 .bf16) (harg8 : arg8.IsWhole) (arg9 : Memref sig .tc .vmem S1x144x2048 .bf16) (harg9 : arg9.IsWhole) (arg10 : Memref sig .tc .vmem S1x144x2048 .bf16) (harg10 : arg10.IsWhole) (arg11 : Memref sig .tc .vmem S1x144x2048 .bf16) (harg11 : arg11.IsWhole) (arg12 : Memref sig .tc .vmem S1x144x2048 .bf16) (harg12 : arg12.IsWhole) (arg13 : Memref sig .tc .vmem S1x144x2048 .bf16) (harg13 : arg13.IsWhole) (arg14 : Memref sig .tc .vmem S1x144x2048 .bf16) (harg14 : arg14.IsWhole) (arg15 : Memref sig .tc .vmem S1x144x2048 .bf16) (harg15 : arg15.IsWhole) (arg16 : Memref sig .tc .vmem S1x144x2048 .bf16) (harg16 : arg16.IsWhole) (arg17 : Memref sig .tc .vmem S1x144x2048 .bf16) (harg17 : arg17.IsWhole) (arg18 : Memref sig .tc .vmem S1x144x2048 .bf16) (harg18 : arg18.IsWhole) (arg19 : Memref sig .tc .vmem S128x16 .i32) (harg19 : arg19.IsWhole) (arg20 : Memref sig .tc .vmem S128x2048 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S128x2048 .f32) (harg23 : arg23.IsWhole) (arg24 : Memref sig .tc .vmem S128x2048 .bf16) (harg24 : arg24.IsWhole) (arg25 : Memref sig .tc .vmem S128x2048 .f32) (harg25 : arg25.IsWhole) (hc0 : cond0_0 i) (hc1 : cond0_1 i)
    (x0 : Vec F S1x144x2048 .bf16) (x1 : Vec F S1x144x2048 .bf16) (x2 : Vec F S1x144x2048 .bf16) (x3 : Vec F S1x144x2048 .bf16) (x4 : Vec F S1x144x2048 .bf16) (x5 : Vec F S1x144x2048 .bf16) (x6 : Vec F S1x144x2048 .bf16) (x7 : Vec F S1x144x2048 .bf16) (x8 : Vec F S1x144x2048 .bf16) (x9 : Vec F S1x144x2048 .bf16) (x10 : Vec F S1x144x2048 .bf16) (x11 : Vec F S1x144x2048 .bf16) (x12 : Vec F S1x144x2048 .bf16) (x13 : Vec F S1x144x2048 .bf16) (x14 : Vec F S1x144x2048 .bf16) (x15 : Vec F S1x144x2048 .bf16) (x16 : Vec F S128x16 .i32) (x17 : Vec F S128x2048 .f32) (x18 : Vec F S1x2048 .f32) (x19 : Vec F S1x2048 .f32) (xt0 : TbBuf0 (F := F) c tbM0_0) (y : S128x2048.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xt0).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xt0).2.1 S128x2048.size (by sl_kernel_rfl) y

/-- What the run leaves in output 21's staging buffer: its pieces read back over junk. -/
def out0_A_21 (c : Dev nD) (i : grid0.Coords) (arg3 : Memref sig .tc .vmem S1x144x2048 .bf16) (harg3 : arg3.IsWhole) (arg4 : Memref sig .tc .vmem S1x144x2048 .bf16) (harg4 : arg4.IsWhole) (arg5 : Memref sig .tc .vmem S1x144x2048 .bf16) (harg5 : arg5.IsWhole) (arg6 : Memref sig .tc .vmem S1x144x2048 .bf16) (harg6 : arg6.IsWhole) (arg7 : Memref sig .tc .vmem S1x144x2048 .bf16) (harg7 : arg7.IsWhole) (arg8 : Memref sig .tc .vmem S1x144x2048 .bf16) (harg8 : arg8.IsWhole) (arg9 : Memref sig .tc .vmem S1x144x2048 .bf16) (harg9 : arg9.IsWhole) (arg10 : Memref sig .tc .vmem S1x144x2048 .bf16) (harg10 : arg10.IsWhole) (arg11 : Memref sig .tc .vmem S1x144x2048 .bf16) (harg11 : arg11.IsWhole) (arg12 : Memref sig .tc .vmem S1x144x2048 .bf16) (harg12 : arg12.IsWhole) (arg13 : Memref sig .tc .vmem S1x144x2048 .bf16) (harg13 : arg13.IsWhole) (arg14 : Memref sig .tc .vmem S1x144x2048 .bf16) (harg14 : arg14.IsWhole) (arg15 : Memref sig .tc .vmem S1x144x2048 .bf16) (harg15 : arg15.IsWhole) (arg16 : Memref sig .tc .vmem S1x144x2048 .bf16) (harg16 : arg16.IsWhole) (arg17 : Memref sig .tc .vmem S1x144x2048 .bf16) (harg17 : arg17.IsWhole) (arg18 : Memref sig .tc .vmem S1x144x2048 .bf16) (harg18 : arg18.IsWhole) (arg19 : Memref sig .tc .vmem S128x16 .i32) (harg19 : arg19.IsWhole) (arg20 : Memref sig .tc .vmem S128x2048 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S128x2048 .f32) (harg23 : arg23.IsWhole) (arg24 : Memref sig .tc .vmem S128x2048 .bf16) (harg24 : arg24.IsWhole) (arg25 : Memref sig .tc .vmem S128x2048 .f32) (harg25 : arg25.IsWhole) (hc0 : cond0_0 i) (hc1 : cond0_1 i)
    (x0 : Vec F S1x144x2048 .bf16) (x1 : Vec F S1x144x2048 .bf16) (x2 : Vec F S1x144x2048 .bf16) (x3 : Vec F S1x144x2048 .bf16) (x4 : Vec F S1x144x2048 .bf16) (x5 : Vec F S1x144x2048 .bf16) (x6 : Vec F S1x144x2048 .bf16) (x7 : Vec F S1x144x2048 .bf16) (x8 : Vec F S1x144x2048 .bf16) (x9 : Vec F S1x144x2048 .bf16) (x10 : Vec F S1x144x2048 .bf16) (x11 : Vec F S1x144x2048 .bf16) (x12 : Vec F S1x144x2048 .bf16) (x13 : Vec F S1x144x2048 .bf16) (x14 : Vec F S1x144x2048 .bf16) (x15 : Vec F S1x144x2048 .bf16) (x16 : Vec F S128x16 .i32) (x17 : Vec F S128x2048 .f32) (x18 : Vec F S1x2048 .f32) (x19 : Vec F S1x2048 .f32) (xt0 : TbBuf0 (F := F) c tbM0_0) : Vec F S128x2048 .bf16 :=
  VO0_21.read (Elt F) (VO0_21.writes (Elt F) VO0_21.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xt0).2.1)

/-! ## What the outputs hold after each point -/

/-- What the outputs' staging buffers hold after the body at point `t` (as a tuple, in window order): the run's contents at
    the point's memrefs and input blocks. -/
def outsAt0 (hO : Ok m) (c : Dev nD) (t : Fin (cfgM m hO).N) : Vec F S128x2048 .f32 × Vec F S128x2048 .bf16 :=
  (out0_A_20 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) (hcond0_0 t) (hcond0_1 t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0), out0_A_21 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) scM0_0 (Memref.isWhole_whole _) (hcond0_0 t) (hcond0_1 t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => (outsAt0 m hO c t).1
    | ⟨21, _⟩ => (outsAt0 m hO c t).2
    | ⟨_ + 22, h⟩ => absurd h (Nat.not_lt.2 (Nat.le_add_left _ _))
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = (outsAt0 m hO c t).1 := by dsimp only [dats]; try rfl
theorem after0_21 (hO : Ok m) (c : Dev nD) (t : Fin (cfgM m hO).N) : (dats m hO 0 c).after 21 t = (outsAt0 m hO c t).2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (dats m hO 0 c).leavesExact 13 t
    ∗ (dats m hO 0 c).leavesExact 14 t
    ∗ (dats m hO 0 c).leavesExact 15 t
    ∗ (dats m hO 0 c).leavesExact 16 t
    ∗ (dats m hO 0 c).leavesExact 17 t
    ∗ (dats m hO 0 c).leavesExact 18 t
    ∗ (dats m hO 0 c).leavesExact 19 t
    ∗ (dats m hO 0 c).leavesExact 20 t
    ∗ (dats m hO 0 c).leavesExact 21 t)

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  rw [show (dats m hO 0 c).leavesExact 0 t = owns (c : Thread nD τ) (ms0_0 m hO t) fullShare ((dats m hO 0 c).after 0 t) from by
      unfold Dat.leavesExact; rw [liveAt0_0 m hO t]; try rfl, after0_0]
  rw [show (dats m hO 0 c).leavesExact 1 t = owns (c : Thread nD τ) (ms0_1 m hO t) fullShare ((dats m hO 0 c).after 1 t) from by
      unfold Dat.leavesExact; rw [liveAt0_1 m hO t]; try rfl, after0_1]
  rw [show (dats m hO 0 c).leavesExact 2 t = owns (c : Thread nD τ) (ms0_2 m hO t) fullShare ((dats m hO 0 c).after 2 t) from by
      unfold Dat.leavesExact; rw [liveAt0_2 m hO t]; try rfl, after0_2]
  rw [show (dats m hO 0 c).leavesExact 3 t = owns (c : Thread nD τ) (ms0_3 m hO t) fullShare ((dats m hO 0 c).after 3 t) from by
      unfold Dat.leavesExact; rw [liveAt0_3 m hO t]; try rfl, after0_3]
  rw [show (dats m hO 0 c).leavesExact 4 t = owns (c : Thread nD τ) (ms0_4 m hO t) fullShare ((dats m hO 0 c).after 4 t) from by
      unfold Dat.leavesExact; rw [liveAt0_4 m hO t]; try rfl, after0_4]
  rw [show (dats m hO 0 c).leavesExact 5 t = owns (c : Thread nD τ) (ms0_5 m hO t) fullShare ((dats m hO 0 c).after 5 t) from by
      unfold Dat.leavesExact; rw [liveAt0_5 m hO t]; try rfl, after0_5]
  rw [show (dats m hO 0 c).leavesExact 6 t = owns (c : Thread nD τ) (ms0_6 m hO t) fullShare ((dats m hO 0 c).after 6 t) from by
      unfold Dat.leavesExact; rw [liveAt0_6 m hO t]; try rfl, after0_6]
  rw [show (dats m hO 0 c).leavesExact 7 t = owns (c : Thread nD τ) (ms0_7 m hO t) fullShare ((dats m hO 0 c).after 7 t) from by
      unfold Dat.leavesExact; rw [liveAt0_7 m hO t]; try rfl, after0_7]
  rw [show (dats m hO 0 c).leavesExact 8 t = owns (c : Thread nD τ) (ms0_8 m hO t) fullShare ((dats m hO 0 c).after 8 t) from by
      unfold Dat.leavesExact; rw [liveAt0_8 m hO t]; try rfl, after0_8]
  rw [show (dats m hO 0 c).leavesExact 9 t = owns (c : Thread nD τ) (ms0_9 m hO t) fullShare ((dats m hO 0 c).after 9 t) from by
      unfold Dat.leavesExact; rw [liveAt0_9 m hO t]; try rfl, after0_9]
  rw [show (dats m hO 0 c).leavesExact 10 t = owns (c : Thread nD τ) (ms0_10 m hO t) fullShare ((dats m hO 0 c).after 10 t) from by
      unfold Dat.leavesExact; rw [liveAt0_10 m hO t]; try rfl, after0_10]
  rw [show (dats m hO 0 c).leavesExact 11 t = owns (c : Thread nD τ) (ms0_11 m hO t) fullShare ((dats m hO 0 c).after 11 t) from by
      unfold Dat.leavesExact; rw [liveAt0_11 m hO t]; try rfl, after0_11]
  rw [show (dats m hO 0 c).leavesExact 12 t = owns (c : Thread nD τ) (ms0_12 m hO t) fullShare ((dats m hO 0 c).after 12 t) from by
      unfold Dat.leavesExact; rw [liveAt0_12 m hO t]; try rfl, after0_12]
  rw [show (dats m hO 0 c).leavesExact 13 t = owns (c : Thread nD τ) (ms0_13 m hO t) fullShare ((dats m hO 0 c).after 13 t) from by
      unfold Dat.leavesExact; rw [liveAt0_13 m hO t]; try rfl, after0_13]
  rw [show (dats m hO 0 c).leavesExact 14 t = owns (c : Thread nD τ) (ms0_14 m hO t) fullShare ((dats m hO 0 c).after 14 t) from by
      unfold Dat.leavesExact; rw [liveAt0_14 m hO t]; try rfl, after0_14]
  rw [show (dats m hO 0 c).leavesExact 15 t = owns (c : Thread nD τ) (ms0_15 m hO t) fullShare ((dats m hO 0 c).after 15 t) from by
      unfold Dat.leavesExact; rw [liveAt0_15 m hO t]; try rfl, after0_15]
  rw [show (dats m hO 0 c).leavesExact 16 t = owns (c : Thread nD τ) (ms0_16 m hO t) fullShare ((dats m hO 0 c).after 16 t) from by
      unfold Dat.leavesExact; rw [liveAt0_16 m hO t]; try rfl, after0_16]
  rw [show (dats m hO 0 c).leavesExact 17 t = owns (c : Thread nD τ) (ms0_17 m hO t) fullShare ((dats m hO 0 c).after 17 t) from by
      unfold Dat.leavesExact; rw [liveAt0_17 m hO t]; try rfl, after0_17]
  rw [show (dats m hO 0 c).leavesExact 18 t = owns (c : Thread nD τ) (ms0_18 m hO t) fullShare ((dats m hO 0 c).after 18 t) from by
      unfold Dat.leavesExact; rw [liveAt0_18 m hO t]; try rfl, after0_18]
  rw [show (dats m hO 0 c).leavesExact 19 t = owns (c : Thread nD τ) (ms0_19 m hO t) fullShare ((dats m hO 0 c).after 19 t) from by
      unfold Dat.leavesExact; rw [liveAt0_19 m hO t]; try rfl, after0_19]
  rw [show (dats m hO 0 c).leavesExact 20 t = owns (c : Thread nD τ) (ms0_20 m hO t) fullShare ((dats m hO 0 c).after 20 t) from by
      unfold Dat.leavesExact; rw [liveAt0_20_A m hO t (hcond0_0 t) (hcond0_1 t)]; try rfl, after0_20]
  rw [show (dats m hO 0 c).leavesExact 21 t = owns (c : Thread nD τ) (ms0_21 m hO t) fullShare ((dats m hO 0 c).after 21 t) from by
      unfold Dat.leavesExact; rw [liveAt0_21_A m hO t (hcond0_0 t) (hcond0_1 t)]; try rfl, after0_21]
  unfold outsAt0
  unfold out0_A_20 out0_A_21; (try dsimp only)
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((kernelRun0_A c (grid0.coords t) _ _ _ _ _ _ _ _ _ _ _ _ _ _ _ _ _ _ _ _ _ _ _ _ _ _ _ _ _ _ _ _ _ _ _ _ _ _ _ _ _ _ _ _ _ _ (hcond0_0 t) (hcond0_1 t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (tbl m 0)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [HS0]; · iexact HS0
  isplitl [HT0]; · iexact HT0
  iintro ⟨H0, H1, H2, H3, H4, H5, H6, H7, H8, H9, H10, H11, H12, H13, H14, H15, H16, H17, H18, H19, ⟨%e20, H20⟩, ⟨%e21, H21⟩, ⟨%fT0, HS0⟩, HT0⟩
  isplitl [HS0 Hg HT0]
  · isplitl [HS0 Hg]
    · isplitl [HS0]
      · iexists _; unfold owns; iexists _; isplitr
        swap; · iexact HS0
        ipureintro; rfl
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H21
  ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Gen

end
-- ==== Proof.Frames.lean ====
/- The two kernel programs' runs: one proof, read at the words and at the extended reals. -/
module

public import proofs.«01_k».proof.Proof.Table
public import proofs.«01_k».proof.Proof.RunFrame
public import proofs.«01_k».proof.Proof.Gen.Kernel
public import proofs.«01_k».proof.Defs
public import Idealize.ShloMosaic.Lib.Tactic

@[expose] public section

noncomputable section

namespace Cert.Proof

open Idealize.ShloMosaic Idealize.ShloMosaic.TcCoe Idealize.SL.Sem Cert.Routed

theorem ok_of_pre (m : (ℓ : Loc Cert.KernelIdeal.nD Cert.KernelIdeal.τ Cert.KernelIdeal.sig) → Buf (Elt Ideal) ℓ)
    (h : Cert.Pre_KernelIdeal m) : Cert.KernelIdeal.Gen.Ok m :=
  Cert.KernelIdeal.Gen.ok_of_start m (routed_of _ _ _ _ _ _ _ (h 0)).start

theorem quiescent_KernelIdeal : Cert.quiescent_KernelIdeal := fun m ρ h => Cert.KernelIdeal.Gen.frame m ρ (ok_of_pre m h)

/-- The program over words and the program over extended reals have one text, so their runs over words are one. -/
theorem same_run (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩
      = θ_run (Cert.KernelIdeal.defs (F := Bits)) (onTc (τ := Cert.KernelIdeal.τ) (Cert.KernelIdeal.main (F := Bits))) ⟨m, fun _ => 0, g⟩ := by
  sl_kernel_rfl

theorem quiescent_Kernel : Cert.quiescent_Kernel := fun m ρ h =>
  (DFunLike.congr_fun (same_run m ρ) _).mpr
    (Cert.KernelIdeal.Gen.frame (F := Bits) m ρ (Cert.KernelIdeal.Gen.ok_of_start m (routed_of _ _ _ _ _ _ _ (h 0)).start))

end Cert.Proof

end
-- ==== Proof.Spec.lean ====
/- What both programs compute, as extended reals: each token's row plus what its experts give it, layer-normed. -/
module

public import proofs.«01_k».proof.Proof.Pre
public import Idealize.ShloMosaic.Lib.Pointwise

@[expose] public section

noncomputable section

namespace Cert.Routed

open Idealize.ShloMosaic

/-- What expert `e` gives token `s`: its output at the token's slot, nothing where it did not pick the token. -/
def pick (pos : IVec ⟨2, ![2048, 128]⟩ 32) (ye : FVec Ideal ⟨3, ![16, 2048, 2048]⟩ .bf16) (e : Fin 16) (s : Fin 16384) (d : Fin 2048) : EReal :=
  if h : (posAt pos e s).toNat < 2048 then ye (ix3 e ⟨(posAt pos e s).toNat, h⟩ d) else 0

/-- The scaled residual plus the experts' sum. -/
def rowAt (pos : IVec ⟨2, ![2048, 128]⟩ 32) (ye : FVec Ideal ⟨3, ![16, 2048, 2048]⟩ .bf16) (x : FVec Ideal ⟨2, ![16384, 2048]⟩ .f32)
    (s : Fin 16384) (d : Fin 2048) : EReal :=
  Ideal.ofBits .f32 0x3FB504F3#32 * x (ix2 s d) + ∑ e : Fin 16, pick pos ye e s d

/-- A row's mean. -/
def meanOf (row : Fin 2048 → EReal) : EReal := Ideal.div (∑ k, row k) (Ideal.ofBits .f32 0x45000000#32)

/-- A row's layer norm at `d`, with the scale `g` and the shift `b` there. -/
def normAt (row : Fin 2048 → EReal) (g b : EReal) (d : Fin 2048) : EReal :=
  (row d - meanOf row) * Ideal.rsqrt (Ideal.div (∑ k, (row k - meanOf row) * (row k - meanOf row)) (Ideal.ofBits .f32 0x45000000#32)
    + Ideal.ofBits .f32 0x3727C5AC#32) * g + b

/-- The layer's result. -/
def outAt (pos : IVec ⟨2, ![2048, 128]⟩ 32) (ye : FVec Ideal ⟨3, ![16, 2048, 2048]⟩ .bf16) (x : FVec Ideal ⟨2, ![16384, 2048]⟩ .f32)
    (g b : FVec Ideal ⟨2, ![1, 2048]⟩ .f32) (s : Fin 16384) (d : Fin 2048) : EReal :=
  normAt (rowAt pos ye x s) (g (ix2 0 d)) (b (ix2 0 d)) d

end Cert.Routed

end
-- ==== Proof.Body.lean ====
/- The kernel's body at one grid point as named stages, and what they are at an index as extended reals. -/
module

public import proofs.«01_k».proof.Proof.RunFrame
public import proofs.«01_k».proof.Proof.Table
public import proofs.«01_k».proof.Proof.Spec
public import Idealize.ShloMosaic.Lib.Pipeline.ValueKit.Acc
public import Idealize.ShloMosaic.Lib.Pointwise

@[expose] public section

noncomputable section

namespace Cert.KernelIdeal.Gen

open Idealize.ShloMosaic Idealize.ShloMosaic.TcCoe Cert.Routed

section
variable {F : FTy → Type} [FloatOps F]

/-- The slots of one expert: the lane `k` of each token's row, picked by a sum. -/
def colOf (k : BitVec 32) (v : FVec F S128x16 .f32) : IVec S128x1 32 :=
  fptosi 32 (shapeCast S128x1 (multiReduction .add [1] S128
    (select (cmpi .eq (iota .tc S128x16 32 [1] iota_S128x16_d1_w32) (broadcast S128x16 k)) v
      (broadcast S128x16 (Scalar.ofBits .f32 0x00000000#32 : F .f32))) 0x00000000#32 reduces_S128x16_S128 (.inl rfl) rfl) shapeCasts_S128_S128x1)

/-- The one-hot rows of one expert: column `c` of token `r` is 1 where the token's slot is row `c` of the window. -/
def hitOf (v : IVec S128x1 32) (w : BitVec 32) : FVec F S128x144 .bf16 :=
  truncf .bf16 (sitofp .f32 (extui 32 (cmpi .eq (broadcastTo S128x144 (subi v (broadcast S128x1 w)) broadcasts_S128x1_S128x144)
    (iota .tc S128x144 32 [1] iota_S128x144_d1_w32)) natLt_1_32)) bitsLt_bf16_f32

/-- One expert's product: the one-hot rows times the window's block of its outputs. -/
def partOf (v : IVec S128x1 32) (w : BitVec 32) (y : FVec F S1x144x2048 .bf16) : FVec F S128x2048 .f32 :=
  matmul dot_S128x144_S144x2048_S128x2048_1_0_0_1_n_n none (hitOf v w) (shapeCast S144x2048 y shapeCasts_S1x144x2048_S144x2048)
    (constant S128x2048 .f32 0x00000000#32)

end

theorem hitOf_apply (v : IVec S128x1 32) (w : BitVec 32) (r : Fin 128) (k : Fin 144) :
    hitOf (F := Ideal) v w (ix2 r k) = if v (ix2 r 0) - w = BitVec.ofNat 32 k.val then 1 else 0 := by
  unfold hitOf
  pointwise
  change (((BitVec.setWidth 32 (IntOp.cmpi .eq (v (ix2 r 0) - w) (BitVec.ofNat 32 k.val))).toInt : ℝ) : EReal) = _
  split_ifs with h
  · rw [StableHlo.Predicate.cmpi_eq_iff.2 h]; norm_num
  · rw [show IntOp.cmpi .eq (v (ix2 r 0) - w) (BitVec.ofNat 32 k.val) = 0#1 from by
      rcases (by decide : ∀ q : BitVec 1, q = 0#1 ∨ q = 1#1) (IntOp.cmpi .eq (v (ix2 r 0) - w) (BitVec.ofNat 32 k.val)) with q | q
      · exact q
      · exact absurd (StableHlo.Predicate.cmpi_eq_iff.1 q) h]
    norm_num

/-- A word read exactly and rounded back is the word. -/
theorem word_back (w : BitVec 32) : Ideal.fptosi 32 ((w.toInt : ℝ) : EReal) = w := by
  unfold Ideal.fptosi
  rw [Ideal.toIntClamped_coe]
  have h1 := BitVec.toInt_lt (x := w)
  have h2 := BitVec.le_toInt (x := w)
  rw [Int.floor_intCast, Int.ceil_intCast, ite_self, min_eq_right (by push_cast; omega), max_eq_right (by push_cast; omega), BitVec.ofInt_toInt]

theorem select_eq {α : Type} (a b : BitVec 32) (x y : α) : Scalar.select (IntOp.cmpi .eq a b) x y = if a = b then x else y :=
  if_congr StableHlo.Predicate.cmpi_eq_iff rfl rfl

theorem colOf_apply (j : Fin 16) (p : IVec S128x16 32) (r : Fin 128) :
    colOf (F := Ideal) (BitVec.ofNat 32 j.val) (sitofp .f32 p) (ix2 r 0) = p (ix2 r j) := by
  unfold colOf
  pointwise
  rw [Finset.sum_eq_single j (fun k _ hk => ?_) (fun h => absurd (Finset.mem_univ j) h)]
  · rw [select_eq, if_pos rfl]
    exact word_back _
  · rw [select_eq, if_neg fun q => hk ?_]
    have := congrArg BitVec.toNat q
    simp only [BitVec.toNat_ofNat] at this
    apply Fin.ext
    omega

theorem partOf_apply (v : IVec S128x1 32) (w : BitVec 32) (y : FVec Ideal S1x144x2048 .bf16) (r : Fin 128) (d : Fin 2048) :
    partOf (F := Ideal) v w y (ix2 r d) = ∑ k : Fin 144, hitOf (F := Ideal) v w (ix2 r k) * y (ix3 0 k d) := by
  unfold partOf
  pointwise

theorem pay2_apply (x a : FVec Ideal S128x2048 .f32) (g b : FVec Ideal S1x2048 .f32) (r : Fin 128) (d : Fin 2048) :
    k0_pay2 (F := Ideal) x a g b (ix2 r d)
      = normAt (fun k => Ideal.ofBits .f32 0x3FB504F3#32 * x (ix2 r k) + a (ix2 r k)) (g (ix2 0 d)) (b (ix2 0 d)) d := by
  unfold k0_pay2
  pointwise
  rfl

section
variable {F : FTy → Type} [FloatOps F]

/-- The table's word for expert `k` at a grid point. -/
def wordAt (c : Dev nD) (xt0 : TbBuf0 (F := F) c tbM0_0) (i : grid0.Coords) (k : Fin 16) : BitVec 32 :=
  View.ld (View.read (Elt F) tbM0_0.view xt0 : IVec S16x128 32) (Rect.unit (s := S16x128) (k0_off1 i (BitVec.ofNat 32 k.val)) S1x1.size (k0_off1_inb i k))
    (Shape.Idx.first (by change 0 < S1x1.numel; decide))

/-- Expert `k`'s part at a grid point. -/
def partAt (c : Dev nD) (xt0 : TbBuf0 (F := F) c tbM0_0) (i : grid0.Coords) (p : IVec S128x16 32) (y : Fin 16 → FVec F S1x144x2048 .bf16) (k : Fin 16) :
    FVec F S128x2048 .f32 :=
  partOf (colOf (Scalar.addi (Scalar.muli (BitVec.ofNat 32 (i 1).val) 16#32) (BitVec.ofNat 32 k.val)) (sitofp (F := F) .f32 p)) (wordAt c xt0 i k) (y k)

/-- The experts' parts added up in order. -/
def partsSum (P : Fin 16 → FVec F S128x2048 .f32) : FVec F S128x2048 .f32 :=
  addf (addf (addf (addf (addf (addf (addf (addf (addf (addf (addf (addf (addf (addf (addf (P 0) (P 1)) (P 2)) (P 3)) (P 4)) (P 5)) (P 6)) (P 7)) (P 8)) (P 9)) (P 10)) (P 11)) (P 12)) (P 13)) (P 14)) (P 15)

/-- What the body leaves in the first result's buffer. -/
def bodyOut (c : Dev nD) (xt0 : TbBuf0 (F := F) c tbM0_0) (i : grid0.Coords) (p : IVec S128x16 32) (y : Fin 16 → FVec F S1x144x2048 .bf16)
    (x : FVec F S128x2048 .f32) (g b : FVec F S1x2048 .f32) : FVec F S128x2048 .f32 :=
  k0_pay2 x (addf (broadcast S128x2048 (Scalar.ofBits .f32 0x00000000#32 : F .f32)) (partsSum (partAt c xt0 i p y))) g b

theorem pay10_eq (a : BitVec 32) (v : FVec F S128x16 .f32) (q : FVec F S128x2048 .f32) (w w' : BitVec 32) (y y' : FVec F S1x144x2048 .bf16) :
    k0_pay10 a v (iota .tc S128x16 32 [1] iota_S128x16_d1_w32) (iota .tc S128x144 32 [1] iota_S128x144_d1_w32) q (k0_pay9 (F := F) a v (iota .tc S128x16 32 [1] iota_S128x16_d1_w32)) w y w' y' = addf (addf q (partOf (colOf (Scalar.addi (Scalar.muli a 16#32) 3#32) v) w y)) (partOf (colOf (Scalar.addi (Scalar.muli a 16#32) 4#32) v) w' y') := rfl

theorem pay12_eq (a : BitVec 32) (v : FVec F S128x16 .f32) (q : FVec F S128x2048 .f32) (w w' : BitVec 32) (y y' : FVec F S1x144x2048 .bf16) :
    k0_pay12 a v (iota .tc S128x16 32 [1] iota_S128x16_d1_w32) (iota .tc S128x144 32 [1] iota_S128x144_d1_w32) q (k0_pay11 (F := F) a v (iota .tc S128x16 32 [1] iota_S128x16_d1_w32)) w y w' y' = addf (addf q (partOf (colOf (Scalar.addi (Scalar.muli a 16#32) 5#32) v) w y)) (partOf (colOf (Scalar.addi (Scalar.muli a 16#32) 6#32) v) w' y') := rfl

theorem pay14_eq (a : BitVec 32) (v : FVec F S128x16 .f32) (q : FVec F S128x2048 .f32) (w w' : BitVec 32) (y y' : FVec F S1x144x2048 .bf16) :
    k0_pay14 a v (iota .tc S128x16 32 [1] iota_S128x16_d1_w32) (iota .tc S128x144 32 [1] iota_S128x144_d1_w32) q (k0_pay13 (F := F) a v (iota .tc S128x16 32 [1] iota_S128x16_d1_w32)) w y w' y' = addf (addf q (partOf (colOf (Scalar.addi (Scalar.muli a 16#32) 7#32) v) w y)) (partOf (colOf (Scalar.addi (Scalar.muli a 16#32) 8#32) v) w' y') := rfl

theorem pay16_eq (a : BitVec 32) (v : FVec F S128x16 .f32) (q : FVec F S128x2048 .f32) (w w' : BitVec 32) (y y' : FVec F S1x144x2048 .bf16) :
    k0_pay16 a v (iota .tc S128x16 32 [1] iota_S128x16_d1_w32) (iota .tc S128x144 32 [1] iota_S128x144_d1_w32) q (k0_pay15 a (iota .tc S128x16 32 [1] iota_S128x16_d1_w32)) (Scalar.ofBits .f32 0x00000000#32 : F .f32) w y w' y' = addf (addf q (partOf (colOf (Scalar.addi (Scalar.muli a 16#32) 9#32) v) w y)) (partOf (colOf (Scalar.addi (Scalar.muli a 16#32) 10#32) v) w' y') := rfl

theorem pay18_eq (a : BitVec 32) (v : FVec F S128x16 .f32) (q : FVec F S128x2048 .f32) (w w' : BitVec 32) (y y' : FVec F S1x144x2048 .bf16) :
    k0_pay18 a v (iota .tc S128x16 32 [1] iota_S128x16_d1_w32) (iota .tc S128x144 32 [1] iota_S128x144_d1_w32) q (k0_pay17 a) w y w' y' = addf (addf q (partOf (colOf (Scalar.addi (Scalar.muli a 16#32) 11#32) v) w y)) (partOf (colOf (Scalar.addi (Scalar.muli a 16#32) 12#32) v) w' y') := rfl

theorem pay19_eq (a : BitVec 32) (v : FVec F S128x16 .f32) (q : FVec F S128x2048 .f32) (w w' : BitVec 32) (y y' : FVec F S1x144x2048 .bf16) :
    k0_pay19 a v (iota .tc S128x16 32 [1] iota_S128x16_d1_w32) (iota .tc S128x144 32 [1] iota_S128x144_d1_w32) q (Scalar.muli a 16#32) 13#32 w y w' y' = addf (addf q (partOf (colOf (Scalar.addi (Scalar.muli a 16#32) 13#32) v) w y)) (partOf (colOf (Scalar.addi (Scalar.muli a 16#32) 14#32) v) w' y') := rfl

theorem pay1_eq (a : BitVec 32) (v : FVec F S128x16 .f32) (q z : FVec F S128x2048 .f32) (w : BitVec 32) (y : FVec F S1x144x2048 .bf16) :
    k0_pay1 a v (iota .tc S128x16 32 [1] iota_S128x16_d1_w32) (iota .tc S128x144 32 [1] iota_S128x144_d1_w32) q 16#32 w y z = addf z (addf q (partOf (colOf (Scalar.addi (Scalar.muli a 16#32) 15#32) v) w y)) := by
  unfold k0_pay1
  dsimp only
  rw [shapeCast_self]
  rfl

theorem pay5_eq (p : IVec S128x16 32) : k0_pay5 (F := F) p = sitofp .f32 p := by
  unfold k0_pay5
  rw [shapeCast_self]

theorem pay4_eq : k0_pay4 (F := F) = broadcast S128x2048 (Scalar.ofBits .f32 0x00000000#32 : F .f32) := by
  unfold k0_pay4
  dsimp only
  rw [shapeCast_self]

theorem pay6_eq (i : grid0.Coords) (p : IVec S128x16 32) (w : BitVec 32) (y : FVec F S1x144x2048 .bf16) :
    k0_pay6 (F := F) i p w y = partOf (colOf (Scalar.addi (Scalar.muli (BitVec.ofNat 32 (i 1).val) 16#32) 0#32) (k0_pay5 (F := F) p)) w y := rfl

theorem pay8_eq (i : grid0.Coords) (p : IVec S128x16 32) (q : FVec F S128x2048 .f32) (w w' : BitVec 32) (y y' : FVec F S1x144x2048 .bf16) :
    k0_pay8 (F := F) (BitVec.ofNat 32 (i 1).val) (k0_pay5 (F := F) p) (iota .tc S128x16 32 [1] iota_S128x16_d1_w32) (iota .tc S128x144 32 [1] iota_S128x144_d1_w32) q (k0_pay7 (F := F) i p) w y w' y' = addf (addf q (partOf (colOf (Scalar.addi (Scalar.muli (BitVec.ofNat 32 (i 1).val) 16#32) 1#32) (k0_pay5 (F := F) p)) w y)) (partOf (colOf (Scalar.addi (Scalar.muli (BitVec.ofNat 32 (i 1).val) 16#32) 2#32) (k0_pay5 (F := F) p)) w' y') := rfl

end

end Cert.KernelIdeal.Gen

end
-- ==== Proof.BodyAt.lean ====
/- The body's result at an index, from what its blocks hold: the layer's result there. -/
module

public import proofs.«01_k».proof.Proof.Body

@[expose] public section

noncomputable section

namespace Cert.KernelIdeal.Gen

open Idealize.ShloMosaic Idealize.ShloMosaic.TcCoe Cert.Routed

theorem partsSum_apply (P : Fin 16 → FVec Ideal S128x2048 .f32) (j : S128x2048.Idx) : partsSum (F := Ideal) P j = ∑ e, P e j := by
  simp only [Fin.sum_univ_castSucc, Finset.univ_eq_empty, Finset.sum_empty, zero_add]
  rfl

theorem win_le (n : Nat) : win n ≤ 1904 := by unfold win; omega

/-- Row `k` of a window inside the experts' rows. -/
def rowIn (n : Nat) (k : Fin 144) : Fin 2048 := ⟨win n + k.val, by have := win_le n; omega⟩

/-- A token's one-hot row times the window's rows is the row at the token's slot, or zero where there is none. -/
theorem hits_sum (p : BitVec 32) (n : Nat) (hn : n ≤ 2048) (f : Fin 2048 → EReal)
    (hp : 2 ^ 31 ≤ p.toNat ∨ (n ≤ p.toNat ∧ p.toNat < n + 128 ∧ p.toNat < 2048)) :
    ∑ k : Fin 144, (if p - BitVec.ofNat 32 (win n) = BitVec.ofNat 32 k.val then (1 : EReal) else 0) * f (rowIn n k)
      = if h : p.toNat < 2048 then f ⟨p.toNat, h⟩ else 0 := by
  have hw := win_le n
  have hlt := p.isLt
  have key : ∀ k : Fin 144, p - BitVec.ofNat 32 (win n) = BitVec.ofNat 32 k.val ↔ p.toNat = win n + k.val := fun k => by
    have hk := k.isLt
    rw [← BitVec.toNat_inj, BitVec.toNat_sub, BitVec.toNat_ofNat, BitVec.toNat_ofNat]
    rcases hp with h | h <;> omega
  rcases hp with h | ⟨h1, h2, h3⟩
  · rw [dif_neg (by omega)]
    refine Finset.sum_eq_zero fun k _ => ?_
    rw [if_neg (by rw [key]; omega), zero_mul]
  · have hwin : win n ≤ p.toNat ∧ p.toNat < win n + 144 := by unfold win; omega
    rw [dif_pos h3, Finset.sum_eq_single (⟨p.toNat - win n, by omega⟩ : Fin 144)]
    · rw [if_pos ((key _).2 (by dsimp only; omega)), one_mul]
      exact congrArg f (Fin.ext (by show win n + (p.toNat - win n) = p.toNat; omega))
    · intro k _ hk
      rw [if_neg (fun q => hk (Fin.ext (by have := (key k).1 q; dsimp only; omega))), zero_mul]
    · exact fun h => absurd (Finset.mem_univ _) h

/-- Token `r` of block `t`. -/
def tok (t r : Fin 128) : Fin 16384 := ⟨128 * t.val + r.val, by omega⟩

section
variable {idx : IVec S16x2048 32} {pos off : IVec S2048x128 32} {ye : FVec Ideal S16x2048x2048 .bf16} {X : FVec Ideal S16384x2048 .f32}
  {G B : FVec Ideal S1x2048 .f32} (hR : Routed idx pos off)

/-- Where the block of expert `e` at block of tokens `t` starts. -/
abbrev startAt (off : IVec S2048x128 32) (e : Fin 16) (t : Fin 128) : Nat :=
  (off (ix2 (⟨e.val * 128 + t.val, by omega⟩ : Fin 2048) (0 : Fin 128))).toNat

include hR in
theorem slot_at (e : Fin 16) (t r : Fin 128) : 2 ^ 31 ≤ (posAt pos e (tok t r)).toNat ∨
    (startAt off e t ≤ (posAt pos e (tok t r)).toNat ∧ (posAt pos e (tok t r)).toNat < startAt off e t + 128 ∧ (posAt pos e (tok t r)).toNat < 2048) := by
  have h := hR.slot (⟨e.val * 128 + t.val, by omega⟩ : Fin 2048) r
  rwa [posAt_of pos e (tok t r) (by show e.val * 128 + t.val = e.val * 128 + (128 * t.val + r.val) / 128; omega)
    (by show r.val = (128 * t.val + r.val) % 128; omega)] at h

include hR in
theorem bodyOut_apply (c : Dev nD) (xt0 : TbBuf0 (F := Ideal) c tbM0_0) (i : grid0.Coords) (p : IVec S128x16 32)
    (y : Fin 16 → FVec Ideal S1x144x2048 .bf16) (x : FVec Ideal S128x2048 .f32) (g b : FVec Ideal S1x2048 .f32) (t : Fin 128)
    (hw : ∀ e, wordAt c xt0 i e = BitVec.ofNat 32 (winN off e t)) (hp : ∀ e r, p (ix2 r e) = posAt pos e (tok t r))
    (hy : ∀ e k d, y e (ix3 0 k d) = ye (ix3 e (rowIn (startAt off e t) k) d)) (hx : ∀ r d, x (ix2 r d) = X (ix2 (tok t r) d))
    (hg : ∀ d, g (ix2 0 d) = G (ix2 0 d)) (hb : ∀ d, b (ix2 0 d) = B (ix2 0 d)) (r : Fin 128) (d : Fin 2048) :
    bodyOut (F := Ideal) c xt0 i p y x g b (ix2 r d) = outAt pos ye X G B (tok t r) d := by
  have part : ∀ e k, partAt (F := Ideal) c xt0 i p y e (ix2 r k) = pick pos ye e (tok t r) k := fun e k => by
    unfold partAt
    rw [partOf_apply]
    have hrow : Scalar.addi (Scalar.muli (BitVec.ofNat 32 (i 1).val) 16#32) (BitVec.ofNat 32 e.val) = BitVec.ofNat 32 e.val := rowW_eq e i
    rw [hrow]
    simp only [hitOf_apply, colOf_apply, hw, hp, hy]
    exact hits_sum _ _ (hR.start _) (fun n => ye (ix3 e n k)) (slot_at hR e t r)
  unfold bodyOut
  rw [pay2_apply]
  unfold outAt
  rw [hg, hb]
  refine congrArg (fun row => normAt row (G (ix2 0 d)) (B (ix2 0 d)) d) (funext fun k => ?_)
  rw [hx]
  unfold rowAt
  refine congrArg (Ideal.ofBits .f32 0x3FB504F3#32 * X (ix2 (tok t r) k) + ·) ?_
  change Ideal.ofBits .f32 0x00000000#32 + partsSum (F := Ideal) (partAt c xt0 i p y) (ix2 r k) = _
  rw [partsSum_apply, Ideal.ofBits_zero_f32, zero_add]
  exact Finset.sum_congr rfl fun e _ => part e k

end

end Cert.KernelIdeal.Gen

end
-- ==== Proof.Blocks.lean ====
/- The windows' blocks at an index, from the arguments. -/
module

public import proofs.«01_k».proof.Proof.BodyAt

@[expose] public section

noncomputable section

namespace Cert.KernelIdeal.Gen

open Idealize.ShloMosaic Idealize.ShloMosaic.TcCoe Cert.Routed

theorem block_at {α : Type} (f : S16x2048x2048.Idx → α) (o : Fin 3 → Nat) (hin : ∀ a, o a + S1x144x2048.size a ≤ S16x2048x2048.size a)
    (k : Fin 144) (d : Fin 2048) (e : Fin 16) (n : Nat) (ho : o = ![e.val, win n, 0]) :
    f ((Rect.unit (s := S16x2048x2048) o S1x144x2048.size hin).emb (ix3 0 k d)) = f (ix3 e (rowIn n k) d) := by
  subst ho
  refine congrArg f (funext fun a => Fin.ext ?_)
  match a with
  | ⟨0, _⟩ => show e.val + 1 * 0 = e.val; omega
  | ⟨1, _⟩ => show win n + 1 * k.val = win n + k.val; omega
  | ⟨2, _⟩ => show 0 + 1 * d.val = d.val; omega

variable (m : (ℓ : Loc nD τ sig) → Buf (Elt Ideal) ℓ)

/-- The block starts. -/
abbrev offs : IVec S2048x128 32 := m (((0 : Dev nD) : Thread nD τ).loc main_arg2)

variable (hO : Ok m) (hs : ∀ r : Fin 2048, (offs m (ix2 r (0 : Fin 128))).toNat ≤ 2048)

/-- The block of tokens of a grid point. -/
abbrev tb {hO : Ok m} (t : Fin (cfgM m hO).N) : Fin 128 := grid0.coords t 0

theorem arg3_eq (c : Dev nD) : V m c main_arg3 = m ((c : Thread nD τ).loc main_arg3) := rfl
theorem arg4_eq (c : Dev nD) : V m c main_arg4 = m ((c : Thread nD τ).loc main_arg4) := rfl
theorem arg5_eq (c : Dev nD) : V m c main_arg5 = m ((c : Thread nD τ).loc main_arg5) := rfl
theorem arg6_eq (c : Dev nD) : V m c main_arg6 = m ((c : Thread nD τ).loc main_arg6) := rfl

include hs in
theorem holds : Holds (tbl m) (startAt (offs m)) := fun e t => tbl_at m 0 hs e t

include hs

theorem yblk_0 (c : Dev nD) (t : Fin (cfgM m hO).N) (k : Fin 144) (d : Fin 2048) :
    (iblk m hO c 0 t : FVec Ideal S1x144x2048 .bf16) (ix3 0 k d) = (m ((c : Thread nD τ).loc main_arg3) : FVec Ideal S16x2048x2048 .bf16) (ix3 0 (rowIn (startAt (offs m) 0 (tb m t)) k) d) :=
  (block_at (V m c main_arg3 : S16x2048x2048.Idx → Elt Ideal .bf16) _ _ k d 0 _ (trW_eq (holds m hs) 0 _ _ _)).trans (congrFun (arg3_eq m c) _)

theorem yblk_1 (c : Dev nD) (t : Fin (cfgM m hO).N) (k : Fin 144) (d : Fin 2048) :
    (iblk m hO c 1 t : FVec Ideal S1x144x2048 .bf16) (ix3 0 k d) = (m ((c : Thread nD τ).loc main_arg3) : FVec Ideal S16x2048x2048 .bf16) (ix3 1 (rowIn (startAt (offs m) 1 (tb m t)) k) d) :=
  (block_at (V m c main_arg3 : S16x2048x2048.Idx → Elt Ideal .bf16) _ _ k d 1 _ (trW_eq (holds m hs) 1 _ _ _)).trans (congrFun (arg3_eq m c) _)

theorem yblk_2 (c : Dev nD) (t : Fin (cfgM m hO).N) (k : Fin 144) (d : Fin 2048) :
    (iblk m hO c 2 t : FVec Ideal S1x144x2048 .bf16) (ix3 0 k d) = (m ((c : Thread nD τ).loc main_arg3) : FVec Ideal S16x2048x2048 .bf16) (ix3 2 (rowIn (startAt (offs m) 2 (tb m t)) k) d) :=
  (block_at (V m c main_arg3 : S16x2048x2048.Idx → Elt Ideal .bf16) _ _ k d 2 _ (trW_eq (holds m hs) 2 _ _ _)).trans (congrFun (arg3_eq m c) _)

theorem yblk_3 (c : Dev nD) (t : Fin (cfgM m hO).N) (k : Fin 144) (d : Fin 2048) :
    (iblk m hO c 3 t : FVec Ideal S1x144x2048 .bf16) (ix3 0 k d) = (m ((c : Thread nD τ).loc main_arg3) : FVec Ideal S16x2048x2048 .bf16) (ix3 3 (rowIn (startAt (offs m) 3 (tb m t)) k) d) :=
  (block_at (V m c main_arg3 : S16x2048x2048.Idx → Elt Ideal .bf16) _ _ k d 3 _ (trW_eq (holds m hs) 3 _ _ _)).trans (congrFun (arg3_eq m c) _)

theorem yblk_4 (c : Dev nD) (t : Fin (cfgM m hO).N) (k : Fin 144) (d : Fin 2048) :
    (iblk m hO c 4 t : FVec Ideal S1x144x2048 .bf16) (ix3 0 k d) = (m ((c : Thread nD τ).loc main_arg3) : FVec Ideal S16x2048x2048 .bf16) (ix3 4 (rowIn (startAt (offs m) 4 (tb m t)) k) d) :=
  (block_at (V m c main_arg3 : S16x2048x2048.Idx → Elt Ideal .bf16) _ _ k d 4 _ (trW_eq (holds m hs) 4 _ _ _)).trans (congrFun (arg3_eq m c) _)

theorem yblk_5 (c : Dev nD) (t : Fin (cfgM m hO).N) (k : Fin 144) (d : Fin 2048) :
    (iblk m hO c 5 t : FVec Ideal S1x144x2048 .bf16) (ix3 0 k d) = (m ((c : Thread nD τ).loc main_arg3) : FVec Ideal S16x2048x2048 .bf16) (ix3 5 (rowIn (startAt (offs m) 5 (tb m t)) k) d) :=
  (block_at (V m c main_arg3 : S16x2048x2048.Idx → Elt Ideal .bf16) _ _ k d 5 _ (trW_eq (holds m hs) 5 _ _ _)).trans (congrFun (arg3_eq m c) _)

theorem yblk_6 (c : Dev nD) (t : Fin (cfgM m hO).N) (k : Fin 144) (d : Fin 2048) :
    (iblk m hO c 6 t : FVec Ideal S1x144x2048 .bf16) (ix3 0 k d) = (m ((c : Thread nD τ).loc main_arg3) : FVec Ideal S16x2048x2048 .bf16) (ix3 6 (rowIn (startAt (offs m) 6 (tb m t)) k) d) :=
  (block_at (V m c main_arg3 : S16x2048x2048.Idx → Elt Ideal .bf16) _ _ k d 6 _ (trW_eq (holds m hs) 6 _ _ _)).trans (congrFun (arg3_eq m c) _)

theorem yblk_7 (c : Dev nD) (t : Fin (cfgM m hO).N) (k : Fin 144) (d : Fin 2048) :
    (iblk m hO c 7 t : FVec Ideal S1x144x2048 .bf16) (ix3 0 k d) = (m ((c : Thread nD τ).loc main_arg3) : FVec Ideal S16x2048x2048 .bf16) (ix3 7 (rowIn (startAt (offs m) 7 (tb m t)) k) d) :=
  (block_at (V m c main_arg3 : S16x2048x2048.Idx → Elt Ideal .bf16) _ _ k d 7 _ (trW_eq (holds m hs) 7 _ _ _)).trans (congrFun (arg3_eq m c) _)

theorem yblk_8 (c : Dev nD) (t : Fin (cfgM m hO).N) (k : Fin 144) (d : Fin 2048) :
    (iblk m hO c 8 t : FVec Ideal S1x144x2048 .bf16) (ix3 0 k d) = (m ((c : Thread nD τ).loc main_arg3) : FVec Ideal S16x2048x2048 .bf16) (ix3 8 (rowIn (startAt (offs m) 8 (tb m t)) k) d) :=
  (block_at (V m c main_arg3 : S16x2048x2048.Idx → Elt Ideal .bf16) _ _ k d 8 _ (trW_eq (holds m hs) 8 _ _ _)).trans (congrFun (arg3_eq m c) _)

theorem yblk_9 (c : Dev nD) (t : Fin (cfgM m hO).N) (k : Fin 144) (d : Fin 2048) :
    (iblk m hO c 9 t : FVec Ideal S1x144x2048 .bf16) (ix3 0 k d) = (m ((c : Thread nD τ).loc main_arg3) : FVec Ideal S16x2048x2048 .bf16) (ix3 9 (rowIn (startAt (offs m) 9 (tb m t)) k) d) :=
  (block_at (V m c main_arg3 : S16x2048x2048.Idx → Elt Ideal .bf16) _ _ k d 9 _ (trW_eq (holds m hs) 9 _ _ _)).trans (congrFun (arg3_eq m c) _)

theorem yblk_10 (c : Dev nD) (t : Fin (cfgM m hO).N) (k : Fin 144) (d : Fin 2048) :
    (iblk m hO c 10 t : FVec Ideal S1x144x2048 .bf16) (ix3 0 k d) = (m ((c : Thread nD τ).loc main_arg3) : FVec Ideal S16x2048x2048 .bf16) (ix3 10 (rowIn (startAt (offs m) 10 (tb m t)) k) d) :=
  (block_at (V m c main_arg3 : S16x2048x2048.Idx → Elt Ideal .bf16) _ _ k d 10 _ (trW_eq (holds m hs) 10 _ _ _)).trans (congrFun (arg3_eq m c) _)

theorem yblk_11 (c : Dev nD) (t : Fin (cfgM m hO).N) (k : Fin 144) (d : Fin 2048) :
    (iblk m hO c 11 t : FVec Ideal S1x144x2048 .bf16) (ix3 0 k d) = (m ((c : Thread nD τ).loc main_arg3) : FVec Ideal S16x2048x2048 .bf16) (ix3 11 (rowIn (startAt (offs m) 11 (tb m t)) k) d) :=
  (block_at (V m c main_arg3 : S16x2048x2048.Idx → Elt Ideal .bf16) _ _ k d 11 _ (trW_eq (holds m hs) 11 _ _ _)).trans (congrFun (arg3_eq m c) _)

theorem yblk_12 (c : Dev nD) (t : Fin (cfgM m hO).N) (k : Fin 144) (d : Fin 2048) :
    (iblk m hO c 12 t : FVec Ideal S1x144x2048 .bf16) (ix3 0 k d) = (m ((c : Thread nD τ).loc main_arg3) : FVec Ideal S16x2048x2048 .bf16) (ix3 12 (rowIn (startAt (offs m) 12 (tb m t)) k) d) :=
  (block_at (V m c main_arg3 : S16x2048x2048.Idx → Elt Ideal .bf16) _ _ k d 12 _ (trW_eq (holds m hs) 12 _ _ _)).trans (congrFun (arg3_eq m c) _)

theorem yblk_13 (c : Dev nD) (t : Fin (cfgM m hO).N) (k : Fin 144) (d : Fin 2048) :
    (iblk m hO c 13 t : FVec Ideal S1x144x2048 .bf16) (ix3 0 k d) = (m ((c : Thread nD τ).loc main_arg3) : FVec Ideal S16x2048x2048 .bf16) (ix3 13 (rowIn (startAt (offs m) 13 (tb m t)) k) d) :=
  (block_at (V m c main_arg3 : S16x2048x2048.Idx → Elt Ideal .bf16) _ _ k d 13 _ (trW_eq (holds m hs) 13 _ _ _)).trans (congrFun (arg3_eq m c) _)

theorem yblk_14 (c : Dev nD) (t : Fin (cfgM m hO).N) (k : Fin 144) (d : Fin 2048) :
    (iblk m hO c 14 t : FVec Ideal S1x144x2048 .bf16) (ix3 0 k d) = (m ((c : Thread nD τ).loc main_arg3) : FVec Ideal S16x2048x2048 .bf16) (ix3 14 (rowIn (startAt (offs m) 14 (tb m t)) k) d) :=
  (block_at (V m c main_arg3 : S16x2048x2048.Idx → Elt Ideal .bf16) _ _ k d 14 _ (trW_eq (holds m hs) 14 _ _ _)).trans (congrFun (arg3_eq m c) _)

theorem yblk_15 (c : Dev nD) (t : Fin (cfgM m hO).N) (k : Fin 144) (d : Fin 2048) :
    (iblk m hO c 15 t : FVec Ideal S1x144x2048 .bf16) (ix3 0 k d) = (m ((c : Thread nD τ).loc main_arg3) : FVec Ideal S16x2048x2048 .bf16) (ix3 15 (rowIn (startAt (offs m) 15 (tb m t)) k) d) :=
  (block_at (V m c main_arg3 : S16x2048x2048.Idx → Elt Ideal .bf16) _ _ k d 15 _ (trW_eq (holds m hs) 15 _ _ _)).trans (congrFun (arg3_eq m c) _)

end Cert.KernelIdeal.Gen

end
-- ==== Proof.BodyOut.lean ====
/- The run's body at one grid point is the named stages. -/
module

public import proofs.«01_k».proof.Proof.Body
public import Idealize.ShloMosaic.Lib.Tactic

@[expose] public section

noncomputable section

namespace Cert.KernelIdeal.Gen

open Idealize.ShloMosaic Idealize.ShloMosaic.TcCoe Cert.Routed

variable {F : FTy → Type} [FloatOps F]

theorem out20_eq (c : Dev nD) (i : grid0.Coords) (arg3 : Memref sig .tc .vmem S1x144x2048 .bf16) (harg3 : arg3.IsWhole) (arg4 : Memref sig .tc .vmem S1x144x2048 .bf16) (harg4 : arg4.IsWhole) (arg5 : Memref sig .tc .vmem S1x144x2048 .bf16) (harg5 : arg5.IsWhole) (arg6 : Memref sig .tc .vmem S1x144x2048 .bf16) (harg6 : arg6.IsWhole) (arg7 : Memref sig .tc .vmem S1x144x2048 .bf16) (harg7 : arg7.IsWhole) (arg8 : Memref sig .tc .vmem S1x144x2048 .bf16) (harg8 : arg8.IsWhole) (arg9 : Memref sig .tc .vmem S1x144x2048 .bf16) (harg9 : arg9.IsWhole) (arg10 : Memref sig .tc .vmem S1x144x2048 .bf16) (harg10 : arg10.IsWhole) (arg11 : Memref sig .tc .vmem S1x144x2048 .bf16) (harg11 : arg11.IsWhole) (arg12 : Memref sig .tc .vmem S1x144x2048 .bf16) (harg12 : arg12.IsWhole) (arg13 : Memref sig .tc .vmem S1x144x2048 .bf16) (harg13 : arg13.IsWhole) (arg14 : Memref sig .tc .vmem S1x144x2048 .bf16) (harg14 : arg14.IsWhole) (arg15 : Memref sig .tc .vmem S1x144x2048 .bf16) (harg15 : arg15.IsWhole) (arg16 : Memref sig .tc .vmem S1x144x2048 .bf16) (harg16 : arg16.IsWhole) (arg17 : Memref sig .tc .vmem S1x144x2048 .bf16) (harg17 : arg17.IsWhole) (arg18 : Memref sig .tc .vmem S1x144x2048 .bf16) (harg18 : arg18.IsWhole) (arg19 : Memref sig .tc .vmem S128x16 .i32) (harg19 : arg19.IsWhole) (arg20 : Memref sig .tc .vmem S128x2048 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S128x2048 .f32) (harg23 : arg23.IsWhole) (arg24 : Memref sig .tc .vmem S128x2048 .bf16) (harg24 : arg24.IsWhole) (arg25 : Memref sig .tc .vmem S128x2048 .f32) (harg25 : arg25.IsWhole) (hc0 : cond0_0 i) (hc1 : cond0_1 i)
    (x0 : Vec F S1x144x2048 .bf16) (x1 : Vec F S1x144x2048 .bf16) (x2 : Vec F S1x144x2048 .bf16) (x3 : Vec F S1x144x2048 .bf16) (x4 : Vec F S1x144x2048 .bf16) (x5 : Vec F S1x144x2048 .bf16) (x6 : Vec F S1x144x2048 .bf16) (x7 : Vec F S1x144x2048 .bf16) (x8 : Vec F S1x144x2048 .bf16) (x9 : Vec F S1x144x2048 .bf16) (x10 : Vec F S1x144x2048 .bf16) (x11 : Vec F S1x144x2048 .bf16) (x12 : Vec F S1x144x2048 .bf16) (x13 : Vec F S1x144x2048 .bf16) (x14 : Vec F S1x144x2048 .bf16) (x15 : Vec F S1x144x2048 .bf16) (x16 : Vec F S128x16 .i32) (x17 : Vec F S128x2048 .f32) (x18 : Vec F S1x2048 .f32) (x19 : Vec F S1x2048 .f32) (xt0 : TbBuf0 (F := F) c tbM0_0) :
    out0_A_20 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xt0 = bodyOut c xt0 i x16 ![x0, x1, x2, x3, x4, x5, x6, x7, x8, x9, x10, x11, x12, x13, x14, x15] x17 x18 x19 := by
  frame_out
  rw [pay1_eq, pay19_eq, pay18_eq, pay16_eq, pay14_eq, pay12_eq, pay10_eq, pay8_eq, pay6_eq, pay4_eq]
  simp only [pay5_eq]
  sl_kernel_rfl

theorem out21_eq (c : Dev nD) (i : grid0.Coords) (arg3 : Memref sig .tc .vmem S1x144x2048 .bf16) (harg3 : arg3.IsWhole) (arg4 : Memref sig .tc .vmem S1x144x2048 .bf16) (harg4 : arg4.IsWhole) (arg5 : Memref sig .tc .vmem S1x144x2048 .bf16) (harg5 : arg5.IsWhole) (arg6 : Memref sig .tc .vmem S1x144x2048 .bf16) (harg6 : arg6.IsWhole) (arg7 : Memref sig .tc .vmem S1x144x2048 .bf16) (harg7 : arg7.IsWhole) (arg8 : Memref sig .tc .vmem S1x144x2048 .bf16) (harg8 : arg8.IsWhole) (arg9 : Memref sig .tc .vmem S1x144x2048 .bf16) (harg9 : arg9.IsWhole) (arg10 : Memref sig .tc .vmem S1x144x2048 .bf16) (harg10 : arg10.IsWhole) (arg11 : Memref sig .tc .vmem S1x144x2048 .bf16) (harg11 : arg11.IsWhole) (arg12 : Memref sig .tc .vmem S1x144x2048 .bf16) (harg12 : arg12.IsWhole) (arg13 : Memref sig .tc .vmem S1x144x2048 .bf16) (harg13 : arg13.IsWhole) (arg14 : Memref sig .tc .vmem S1x144x2048 .bf16) (harg14 : arg14.IsWhole) (arg15 : Memref sig .tc .vmem S1x144x2048 .bf16) (harg15 : arg15.IsWhole) (arg16 : Memref sig .tc .vmem S1x144x2048 .bf16) (harg16 : arg16.IsWhole) (arg17 : Memref sig .tc .vmem S1x144x2048 .bf16) (harg17 : arg17.IsWhole) (arg18 : Memref sig .tc .vmem S1x144x2048 .bf16) (harg18 : arg18.IsWhole) (arg19 : Memref sig .tc .vmem S128x16 .i32) (harg19 : arg19.IsWhole) (arg20 : Memref sig .tc .vmem S128x2048 .f32) (harg20 : arg20.IsWhole) (arg21 : Memref sig .tc .vmem S1x2048 .f32) (harg21 : arg21.IsWhole) (arg22 : Memref sig .tc .vmem S1x2048 .f32) (harg22 : arg22.IsWhole) (arg23 : Memref sig .tc .vmem S128x2048 .f32) (harg23 : arg23.IsWhole) (arg24 : Memref sig .tc .vmem S128x2048 .bf16) (harg24 : arg24.IsWhole) (arg25 : Memref sig .tc .vmem S128x2048 .f32) (harg25 : arg25.IsWhole) (hc0 : cond0_0 i) (hc1 : cond0_1 i)
    (x0 : Vec F S1x144x2048 .bf16) (x1 : Vec F S1x144x2048 .bf16) (x2 : Vec F S1x144x2048 .bf16) (x3 : Vec F S1x144x2048 .bf16) (x4 : Vec F S1x144x2048 .bf16) (x5 : Vec F S1x144x2048 .bf16) (x6 : Vec F S1x144x2048 .bf16) (x7 : Vec F S1x144x2048 .bf16) (x8 : Vec F S1x144x2048 .bf16) (x9 : Vec F S1x144x2048 .bf16) (x10 : Vec F S1x144x2048 .bf16) (x11 : Vec F S1x144x2048 .bf16) (x12 : Vec F S1x144x2048 .bf16) (x13 : Vec F S1x144x2048 .bf16) (x14 : Vec F S1x144x2048 .bf16) (x15 : Vec F S1x144x2048 .bf16) (x16 : Vec F S128x16 .i32) (x17 : Vec F S128x2048 .f32) (x18 : Vec F S1x2048 .f32) (x19 : Vec F S1x2048 .f32) (xt0 : TbBuf0 (F := F) c tbM0_0) :
    out0_A_21 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 xt0 = truncf .bf16 (bodyOut c xt0 i x16 ![x0, x1, x2, x3, x4, x5, x6, x7, x8, x9, x10, x11, x12, x13, x14, x15] x17 x18 x19) bitsLt_bf16_f32 := by
  frame_out
  unfold k0_pay3
  dsimp only
  rw [pay1_eq, pay19_eq, pay18_eq, pay16_eq, pay14_eq, pay12_eq, pay10_eq, pay8_eq, pay6_eq, pay4_eq]
  simp only [pay5_eq]
  sl_kernel_rfl
end Cert.KernelIdeal.Gen

end
-- ==== Proof.Point.lean ====
/- What the body leaves at a grid point, and the final arrays. -/
module

public import proofs.«01_k».proof.Proof.Blocks
public import proofs.«01_k».proof.Proof.BodyOut

@[expose] public section

noncomputable section

namespace Cert.KernelIdeal.Gen

open Idealize.ShloMosaic Idealize.ShloMosaic.TcCoe Cert.Routed

theorem vec16_at {α : Type} (P : Fin 16 → α → Prop) (x0 x1 x2 x3 x4 x5 x6 x7 x8 x9 x10 x11 x12 x13 x14 x15 : α) (h0 : P 0 x0) (h1 : P 1 x1) (h2 : P 2 x2) (h3 : P 3 x3) (h4 : P 4 x4) (h5 : P 5 x5) (h6 : P 6 x6) (h7 : P 7 x7) (h8 : P 8 x8) (h9 : P 9 x9) (h10 : P 10 x10) (h11 : P 11 x11) (h12 : P 12 x12) (h13 : P 13 x13) (h14 : P 14 x14) (h15 : P 15 x15) :
    ∀ e, P e (![x0, x1, x2, x3, x4, x5, x6, x7, x8, x9, x10, x11, x12, x13, x14, x15] e) := fun e => by
  fin_cases e <;> assumption

variable (m : (ℓ : Loc nD τ sig) → Buf (Elt Ideal) ℓ) (hO : Ok m)

theorem pblk (c : Dev nD) (t : Fin (cfgM m hO).N) (r : Fin 128) (e : Fin 16) :
    (iblk m hO c 16 t : IVec S128x16 32) (ix2 r e) = posAt (m ((c : Thread nD τ).loc main_arg1)) e (tok (tb m t) r) := by
  unfold iblk
  refine Eq.trans (congrArg (V m c main_v4 : S16384x16.Idx → Elt Ideal .i32) (a₁ := (((cfgM m hO).win 16).blk t).view.emb (ix2 r e)) (funext fun a => Fin.ext ?_)) (slots_at m c e _)
  match a with
  | ⟨0, _⟩ =>
    show (BitVec.ofNat 32 (tb m t).val).toNat * 128 + 1 * r.val = 128 * (tb m t).val + r.val
    have h := (tb m t).isLt
    rw [BitVec.toNat_ofNat, Nat.mod_eq_of_lt (by omega)]
    omega
  | ⟨1, _⟩ => show 0 * 16 + 1 * e.val = e.val; omega

theorem xblk (c : Dev nD) (t : Fin (cfgM m hO).N) (r : Fin 128) (d : Fin 2048) :
    (iblk m hO c 17 t : FVec Ideal S128x2048 .f32) (ix2 r d) = (m ((c : Thread nD τ).loc main_arg4) : FVec Ideal S16384x2048 .f32) (ix2 (tok (tb m t) r) d) := by
  unfold iblk
  refine Eq.trans (congrArg (V m c main_arg4 : S16384x2048.Idx → Elt Ideal .f32) (a₁ := (((cfgM m hO).win 17).blk t).view.emb (ix2 r d)) (funext fun a => Fin.ext ?_)) (congrFun (arg4_eq m c) _)
  match a with
  | ⟨0, _⟩ =>
    show (BitVec.ofNat 32 (tb m t).val).toNat * 128 + 1 * r.val = 128 * (tb m t).val + r.val
    have h := (tb m t).isLt
    rw [BitVec.toNat_ofNat, Nat.mod_eq_of_lt (by omega)]
    omega
  | ⟨1, _⟩ => show 0 * 2048 + 1 * d.val = d.val; omega

theorem gblk (c : Dev nD) (t : Fin (cfgM m hO).N) (d : Fin 2048) :
    (iblk m hO c 18 t : FVec Ideal S1x2048 .f32) (ix2 0 d) = (m ((c : Thread nD τ).loc main_arg5) : FVec Ideal S1x2048 .f32) (ix2 0 d) := by
  unfold iblk
  refine Eq.trans (congrArg (V m c main_arg5 : S1x2048.Idx → Elt Ideal .f32) (a₁ := (((cfgM m hO).win 18).blk t).view.emb (ix2 0 d)) (funext fun a => Fin.ext ?_)) (congrFun (arg5_eq m c) _)
  match a with
  | ⟨0, _⟩ => rfl
  | ⟨1, _⟩ => show 0 * 2048 + 1 * d.val = d.val; omega

theorem bblk (c : Dev nD) (t : Fin (cfgM m hO).N) (d : Fin 2048) :
    (iblk m hO c 19 t : FVec Ideal S1x2048 .f32) (ix2 0 d) = (m ((c : Thread nD τ).loc main_arg6) : FVec Ideal S1x2048 .f32) (ix2 0 d) := by
  unfold iblk
  refine Eq.trans (congrArg (V m c main_arg6 : S1x2048.Idx → Elt Ideal .f32) (a₁ := (((cfgM m hO).win 19).blk t).view.emb (ix2 0 d)) (funext fun a => Fin.ext ?_)) (congrFun (arg6_eq m c) _)
  match a with
  | ⟨0, _⟩ => rfl
  | ⟨1, _⟩ => show 0 * 2048 + 1 * d.val = d.val; omega

/-- The word the body reads for expert `e`. -/
theorem word_at (hs : ∀ r : Fin 2048, (offs m (ix2 r (0 : Fin 128))).toNat ≤ 2048) (c : Dev nD) (i : grid0.Coords) (e : Fin 16) :
    wordAt (F := Ideal) c (tbl m 0) i e = BitVec.ofNat 32 (winN (offs m) e (i 0)) := by
  have ho := offW_eq e i
  refine Eq.trans ?_ (tbl_at m 0 hs e (i 0))
  refine congrArg (V m 0 main_v9 : S16x128.Idx → Elt Ideal .i32) (funext fun a => Fin.ext ?_)
  have h := congrFun ho a
  match a with
  | ⟨0, _⟩ => exact h
  | ⟨1, _⟩ => exact h

/-- The layer's result from the arguments, as contents of a result array. -/
def finalOut (c : Dev nD) : FVec Ideal S16384x2048 .f32 := fun j =>
  outAt (m ((c : Thread nD τ).loc main_arg1)) (m ((c : Thread nD τ).loc main_arg3)) (m ((c : Thread nD τ).loc main_arg4))
    (m ((c : Thread nD τ).loc main_arg5)) (m ((c : Thread nD τ).loc main_arg6)) (j 0) (j 1)

/-- The experts' blocks at a point. -/
abbrev yblks (c : Dev nD) (t : Fin (cfgM m hO).N) : Fin 16 → FVec Ideal S1x144x2048 .bf16 :=
  ![iblk m hO c 0 t, iblk m hO c 1 t, iblk m hO c 2 t, iblk m hO c 3 t, iblk m hO c 4 t, iblk m hO c 5 t, iblk m hO c 6 t, iblk m hO c 7 t, iblk m hO c 8 t, iblk m hO c 9 t, iblk m hO c 10 t, iblk m hO c 11 t, iblk m hO c 12 t, iblk m hO c 13 t, iblk m hO c 14 t, iblk m hO c 15 t]

theorem yblks_at (hs : ∀ r : Fin 2048, (offs m (ix2 r (0 : Fin 128))).toNat ≤ 2048) (c : Dev nD) (t : Fin (cfgM m hO).N) : ∀ (e : Fin 16) (k : Fin 144) (d : Fin 2048),
    yblks m hO c t e (ix3 0 k d) = (m ((c : Thread nD τ).loc main_arg3) : FVec Ideal S16x2048x2048 .bf16) (ix3 e (rowIn (startAt (offs m) e (tb m t)) k) d) :=
  vec16_at (fun e (y : FVec Ideal S1x144x2048 .bf16) => ∀ (k : Fin 144) (d : Fin 2048), y (ix3 0 k d)
      = (m ((c : Thread nD τ).loc main_arg3) : FVec Ideal S16x2048x2048 .bf16) (ix3 e (rowIn (startAt (offs m) e (tb m t)) k) d)) _ _ _ _ _ _ _ _ _ _ _ _ _ _ _ _
    (yblk_0 m hO hs c t)    (yblk_1 m hO hs c t)    (yblk_2 m hO hs c t)    (yblk_3 m hO hs c t)
    (yblk_4 m hO hs c t)    (yblk_5 m hO hs c t)    (yblk_6 m hO hs c t)    (yblk_7 m hO hs c t)
    (yblk_8 m hO hs c t)    (yblk_9 m hO hs c t)    (yblk_10 m hO hs c t)    (yblk_11 m hO hs c t)
    (yblk_12 m hO hs c t)    (yblk_13 m hO hs c t)    (yblk_14 m hO hs c t)    (yblk_15 m hO hs c t)

/-- The body's result at a point, as a block. -/
abbrev bodyAt (c : Dev nD) (t : Fin (cfgM m hO).N) : FVec Ideal S128x2048 .f32 :=
  bodyOut (F := Ideal) c (tbl m 0) (grid0.coords t) (iblk m hO c 16 t) (yblks m hO c t) (iblk m hO c 17 t) (iblk m hO c 18 t) (iblk m hO c 19 t)

theorem bodyAt_apply (c : Dev nD) (hR : Routed (m ((c : Thread nD τ).loc main_arg0)) (m ((c : Thread nD τ).loc main_arg1)) (m ((c : Thread nD τ).loc main_arg2)))
    (t : Fin (cfgM m hO).N) (r : Fin 128) (d : Fin 2048) : bodyAt m hO c t (ix2 r d) = finalOut m c (ix2 (tok (tb m t) r) d) := by
  obtain rfl : c = 0 := Subsingleton.elim _ _
  exact bodyOut_apply hR 0 _ _ _ _ _ _ _ (tb m t) (word_at m hR.start 0 (grid0.coords t)) (fun e r => pblk m hO 0 t r e)
    (yblks_at m hO hR.start 0 t) (xblk m hO 0 t) (gblk m hO 0 t) (bblk m hO 0 t) r d

theorem outs_fst (c : Dev nD) (t : Fin (cfgM m hO).N) : (outsAt0 m hO c t).1 = bodyAt m hO c t := by
  unfold outsAt0
  dsimp only
  exact out20_eq ..

theorem outs_snd (c : Dev nD) (t : Fin (cfgM m hO).N) : (outsAt0 m hO c t).2 = truncf .bf16 (bodyAt m hO c t) bitsLt_bf16_f32 := by
  unfold outsAt0
  dsimp only
  exact out21_eq ..

end Cert.KernelIdeal.Gen

end
-- ==== Proof.Final.lean ====
/- The final arrays of the two results. -/
module

public import proofs.«01_k».proof.Proof.Point
public import Idealize.ShloMosaic.Lib.Pipeline.ValueKit

@[expose] public section

noncomputable section

namespace Cert.KernelIdeal.Gen

open Idealize.ShloMosaic Idealize.ShloMosaic.TcCoe Cert.Routed

variable (m : (ℓ : Loc nD τ sig) → Buf (Elt Ideal) ℓ) (hO : Ok m)

/-- Where row `r` of the block at a point sits in a result array. -/
theorem out_row (i : grid0.Coords) (r : Fin 128) : (BitVec.ofNat 32 (i 0).val).toNat * 128 + 1 * r.val = 128 * (i 0).val + r.val := by
  have h : (i 0).val < 128 := (i 0).isLt
  rw [BitVec.toNat_ofNat, Nat.mod_eq_of_lt (by omega)]
  omega

theorem emb20 (t : Fin (cfgM m hO).N) (y : S128x2048.Idx) :
    ((((cfgM m hO).win 20).blk t).view.emb y : S16384x2048.Idx) = ix2 (tok (tb m t) (y 0)) (y 1) := funext fun a => Fin.ext (by
  match a with
  | ⟨0, _⟩ => exact out_row (grid0.coords t) (y 0)
  | ⟨1, _⟩ => show 0 * 2048 + 1 * (y 1).val = (y 1).val; omega)

theorem emb21 (t : Fin (cfgM m hO).N) (y : S128x2048.Idx) :
    ((((cfgM m hO).win 21).blk t).view.emb y : S16384x2048.Idx) = ix2 (tok (tb m t) (y 0)) (y 1) := funext fun a => Fin.ext (by
  match a with
  | ⟨0, _⟩ => exact out_row (grid0.coords t) (y 0)
  | ⟨1, _⟩ => show 0 * 2048 + 1 * (y 1).val = (y 1).val; omega)

/-- The grid point of a block of tokens. -/
theorem point_of (b : Fin 128) : ∃ t : Fin grid0.N, grid0.coords t 0 = b := by
  have e0 : ∀ t : Fin grid0.N, (grid0.coords t 0).val = t.val / 1 % 128 := fun t => Pipeline.Grid.coords_val t 0 (by decide) rfl
  refine ⟨⟨b.val, Nat.lt_of_lt_of_eq b.isLt N_0.symm⟩, Fin.ext ((e0 _).trans ?_)⟩
  show b.val / 1 % 128 = b.val
  omega

theorem cover20 (i : S16384x2048.Idx) : ∃ t : Fin (cfgM m hO).N, ((cfgM m hO).win 20).flush t = true ∧ i ∈ (((cfgM m hO).win 20).blk t).view.set := by
  obtain ⟨t, ht⟩ := point_of ⟨(i 0).val / 128, by have h : (i 0).val < 16384 := (i 0).isLt; omega⟩
  refine ⟨t, flush0_20 (adm m hO) t, ?_⟩
  have h : (((cfgM m hO).win 20).blk t).view.emb (ix2 (⟨(i 0).val % 128, by omega⟩ : Fin 128) (i 1) : S128x2048.Idx) = i :=
    (emb20 m hO t _).trans (funext fun a => Fin.ext (by
      match a with
      | ⟨0, _⟩ => show 128 * (grid0.coords t 0).val + (i 0).val % 128 = (i 0).val; rw [ht]; dsimp only; omega
      | ⟨1, _⟩ => rfl))
  exact h ▸ View.emb_mem_set _ _

theorem cover21 (i : S16384x2048.Idx) : ∃ t : Fin (cfgM m hO).N, ((cfgM m hO).win 21).flush t = true ∧ i ∈ (((cfgM m hO).win 21).blk t).view.set := by
  obtain ⟨t, ht⟩ := point_of ⟨(i 0).val / 128, by have h : (i 0).val < 16384 := (i 0).isLt; omega⟩
  refine ⟨t, flush0_21 (adm m hO) t, ?_⟩
  have h : (((cfgM m hO).win 21).blk t).view.emb (ix2 (⟨(i 0).val % 128, by omega⟩ : Fin 128) (i 1) : S128x2048.Idx) = i :=
    (emb21 m hO t _).trans (funext fun a => Fin.ext (by
      match a with
      | ⟨0, _⟩ => show 128 * (grid0.coords t 0).val + (i 0).val % 128 = (i 0).val; rw [ht]; dsimp only; omega
      | ⟨1, _⟩ => rfl))
  exact h ▸ View.emb_mem_set _ _

section
variable (c : Dev nD) (hR : Routed (m ((c : Thread nD τ).loc main_arg0)) (m ((c : Thread nD τ).loc main_arg1)) (m ((c : Thread nD τ).loc main_arg2)))
include hR

theorem outs_fst_at (t : Fin (cfgM m hO).N) (y : S128x2048.Idx) : (outsAt0 m hO c t).1 y = finalOut m c (ix2 (tok (tb m t) (y 0)) (y 1)) := by
  have hy : y = ix2 (y 0) (y 1) := funext fun a => match a with | ⟨0, _⟩ => rfl | ⟨1, _⟩ => rfl
  exact (congrFun (outs_fst m hO c t) y).trans ((congrArg (bodyAt m hO c t) hy).trans (bodyAt_apply m hO c hR t (y 0) (y 1)))

theorem outs_snd_at (t : Fin (cfgM m hO).N) (y : S128x2048.Idx) : (outsAt0 m hO c t).2 y = finalOut m c (ix2 (tok (tb m t) (y 0)) (y 1)) := by
  rw [outs_snd]
  have h := outs_fst_at m hO c hR t y
  rw [outs_fst] at h
  exact h

theorem final20 : ((dats m hO 0 c).arrAt 20 (cfgM m hO).N : FVec Ideal S16384x2048 .f32) = finalOut m c := by
  refine (dats m hO 0 c).arrAt_eq_of_emb 20 _ (fun t _ y => ?_) (cover20 m hO)
  rw [after0_20]
  exact (outs_fst_at m hO c hR t y).trans (congrArg (finalOut m c) (emb20 m hO t y).symm)

theorem final21 : ((dats m hO 0 c).arrAt 21 (cfgM m hO).N : FVec Ideal S16384x2048 .bf16) = (finalOut m c : S16384x2048.Idx → EReal) := by
  refine (dats m hO 0 c).arrAt_eq_of_emb 21 _ (fun t _ y => ?_) (cover21 m hO)
  rw [after0_21]
  exact (outs_snd_at m hO c hR t y).trans (congrArg (finalOut m c) (emb21 m hO t y).symm)
end

end Cert.KernelIdeal.Gen

end
-- ==== Proof.Ref.lean ====
/- The reference's two results at an index: the layer's result there. -/
module

public import proofs.«01_k».proof.Proof.Spec
public import proofs.«01_k».proof.Proof.Gen.ReferenceIdeal.Run
public import proofs.«01_k».proof.Proof.Gen.ReferenceIdeal.Read
public import Idealize.ShloMosaic.Lib.Routing.OpsPair

@[expose] public section

noncomputable section

namespace Cert.ReferenceIdeal.Gen

open Idealize.ShloMosaic Idealize.ShloMosaic.TcCoe Cert.Routed Cert.ReferenceIdeal.Read

/-- Where an expert's row lands: the token its index names, at the same column. -/
theorem lands (idx : IVec S16x2048x1 32) (j : S16x2048x2048.Idx) (s : Fin 16384) (d : Fin 2048) :
    scatter_S16384x2048_S16x2048x1_S16x2048x2048_2_0_0_2.resultIdx? j idx = some (ix2 s d)
      ↔ (idx (ix3 (j 0) (j 1) 0)).toInt = s.val ∧ (j 2).val = d.val := by
  have h0 : scatter_S16384x2048_S16x2048x1_S16x2048x2048_2_0_0_2.start j idx 0 = (idx (ix3 (j 0) (j 1) 0)).toInt := by
    unfold ScatterDims.start
    rw [dif_pos (by decide)]
    refine congrArg (fun q => (idx q).toInt) (funext fun a => Fin.ext ?_)
    match a with
    | ⟨0, _⟩ => rfl
    | ⟨1, _⟩ => rfl
    | ⟨2, _⟩ => rfl
  have h1 : scatter_S16384x2048_S16x2048x1_S16x2048x2048_2_0_0_2.start j idx 1 = 0 := by
    unfold ScatterDims.start
    rw [dif_neg (by decide)]
  have w0 : scatter_S16384x2048_S16x2048x1_S16x2048x2048_2_0_0_2.window j 0 = 0 := by
    unfold ScatterDims.window
    rw [dif_neg (by decide)]
  have w1 : scatter_S16384x2048_S16x2048x1_S16x2048x2048_2_0_0_2.window j 1 = (j 2).val := by
    unfold ScatterDims.window
    rw [dif_pos (by decide)]
    rfl
  refine (Routing.resultIdx?_ix2 _ j idx s d).trans ?_
  refine Iff.trans (Eq.to_iff (congrArg₂ And (congrArg₂ (fun p q => p + ((q : Nat) : Int) = (s.val : Int)) h0 w0)
    (congrArg₂ (fun p q => p + ((q : Nat) : Int) = (d.val : Int)) h1 w1))) ?_
  generalize (idx (ix3 (j 0) (j 1) 0)).toInt = a
  generalize (j 2).val = b
  show a + ((0 : Nat) : Int) = (s.val : Int) ∧ 0 + (b : Int) = (d.val : Int) ↔ a = (s.val : Int) ∧ b = d.val
  omega

section
variable {idx : IVec S16x2048 32} {pos off : IVec ⟨2, ![2048, 128]⟩ 32} (hR : Routed idx pos off)
  (ye : FVec Ideal S16x2048x2048 .bf16) (x : FVec Ideal S16384x2048 .f32) (g b : FVec Ideal S1x2048 .f32)
include hR

theorem words_at (e : Fin 16) (k : Fin 2048) : val_main_v7 (F := Ideal) idx (ix3 e k 0) = idx (ix2 e k) := by
  have hi : idx_main_v7 (ix3 e k 0) = ix2 e k := funext fun a => match a with | ⟨0, _⟩ => rfl | ⟨1, _⟩ => rfl
  have h := hR.idx_lt e k
  rw [val_main_v7_apply, hi, val_main_v6_apply, val_main_v3_apply, val_main_v2_apply, val_main_c_apply]
  exact Routing.wrap_of_lt _ _ (by norm_num; omega)

/-- The word of a row is the token exactly when the token's slot is the row. -/
theorem lands_iff (e : Fin 16) (k : Fin 2048) (s : Fin 16384) : (idx (ix2 e k)).toInt = s.val ↔ (posAt pos e s).toNat = k.val := by
  have h := hR.idx_lt e k
  rw [StableHlo.Predicate.toInt_eq_toNat_of_lt (by omega)]
  constructor
  · intro q
    have q' : (idx (ix2 e k)).toNat = s.val := by exact_mod_cast q
    have hb := hR.back e k h
    rw [show (⟨(idx (ix2 e k)).toNat, h⟩ : Fin 16384) = s from Fin.ext q'] at hb
    rw [hb, BitVec.toNat_ofNat, Nat.mod_eq_of_lt (by omega)]
  · intro q
    have ht := hR.there e s (by omega)
    rw [show (⟨(posAt pos e s).toNat, by omega⟩ : Fin 2048) = k from Fin.ext q] at ht
    rw [ht, BitVec.toNat_ofNat, Nat.mod_eq_of_lt (by omega)]

theorem scatter_at (s : Fin 16384) (d : Fin 2048) : val_main_v8 (F := Ideal) idx ye (ix2 s d) = ∑ e, pick pos ye e s d := by
  have hsc : val_main_v8 (F := Ideal) idx ye (ix2 s d)
      = Ideal.ofBits .f32 0x00000000#32 + ∑ j ∈ Finset.univ.filter (fun j : S16x2048x2048.Idx =>
        scatter_S16384x2048_S16x2048x1_S16x2048x2048_2_0_0_2.resultIdx? j (val_main_v7 (F := Ideal) idx) = some (ix2 s d)), ye j := by
    unfold val_main_v8
    rfl
  rw [hsc, Ideal.ofBits_zero_f32, zero_add, ← Finset.sum_filter_of_ne (s := Finset.univ) (p := fun e => (posAt pos e s).toNat < 2048) (f := fun e => pick pos ye e s d)
    (fun e _ hne => by by_contra q; exact hne (dif_neg q))]
  have mem : ∀ j : S16x2048x2048.Idx, j ∈ Finset.univ.filter (fun j : S16x2048x2048.Idx =>
      scatter_S16384x2048_S16x2048x1_S16x2048x2048_2_0_0_2.resultIdx? j (val_main_v7 (F := Ideal) idx) = some (ix2 s d))
      ↔ (posAt pos (j 0) s).toNat = (j 1).val ∧ (j 2).val = d.val := fun j => by
    refine Finset.mem_filter.trans ((and_iff_right (Finset.mem_univ _)).trans ((lands _ j s d).trans (and_congr_left fun _ => ?_)))
    exact (Eq.to_iff (congrArg (fun w : BitVec 32 => w.toInt = (s.val : Int)) (words_at hR (j 0) (j 1)))).trans (lands_iff hR (j 0) (j 1) s)
  refine Finset.sum_bij' (fun j _ => j 0) (fun e he => ix3 e ⟨(posAt pos e s).toNat, (Finset.mem_filter.1 he).2⟩ d) ?_ ?_ ?_ ?_ ?_
  · intro j hj
    have h := (mem j).1 hj
    have hl : (j 1).val < 2048 := (j 1).isLt
    exact Finset.mem_filter.2 ⟨Finset.mem_univ _, by rw [h.1]; exact hl⟩
  · intro e he
    exact (mem _).2 ⟨rfl, rfl⟩
  · intro j hj
    have h := (mem j).1 hj
    refine funext fun a => Fin.ext ?_
    match a with
    | ⟨0, _⟩ => rfl
    | ⟨1, _⟩ => exact h.1
    | ⟨2, _⟩ => exact h.2.symm
  · intro e he
    rfl
  · intro j hj
    have h := (mem j).1 hj
    have hl : (j 1).val < 2048 := (j 1).isLt
    unfold pick
    rw [dif_pos (show (posAt pos (j 0) s).toNat < 2048 by rw [h.1]; exact hl)]
    refine congrArg ye (funext fun a => Fin.ext ?_)
    match a with
    | ⟨0, _⟩ => rfl
    | ⟨1, _⟩ => exact h.1.symm
    | ⟨2, _⟩ => exact h.2

theorem row_at (s : Fin 16384) (d : Fin 2048) : val_main_v11 (F := Ideal) idx ye x (ix2 s d) = rowAt pos ye x s d := by
  rw [val_main_v11_apply, val_main_v10_apply, val_main_v9_apply, val_main_cst_1_apply, scatter_at hR]
  rfl

theorem mean_at (s : Fin 16384) (j : S16384x1.Idx) (hj : (j 0).val = s.val) : val_main_v15 (F := Ideal) idx ye x j = meanOf (rowAt pos ye x s) := by
  have hi : ∀ k, idx_main_v12 (idx_main_v13 j) k = ix2 s k := fun k => funext fun a => Fin.ext (match a with | ⟨0, _⟩ => hj | ⟨1, _⟩ => rfl)
  rw [val_main_v15_apply, val_main_v13_apply, val_main_v12_apply, val_main_v14_apply, val_main_cst_2_apply, val_main_cst_3_apply]
  simp only [hi, row_at hR]
  show Ideal.div (Ideal.ofBits .f32 0x00000000#32 + _) (Ideal.ofBits .f32 0x45000000#32) = _
  rw [Ideal.ofBits_zero_f32, zero_add]
  rfl

theorem spread_at (s : Fin 16384) (j : S16384x1.Idx) (hj : (j 0).val = s.val) : val_main_v27 (F := Ideal) idx ye x j
    = Ideal.rsqrt (Ideal.div (∑ k, (rowAt pos ye x s k - meanOf (rowAt pos ye x s)) * (rowAt pos ye x s k - meanOf (rowAt pos ye x s))) (Ideal.ofBits .f32 0x45000000#32)
      + Ideal.ofBits .f32 0x3727C5AC#32) := by
  have hi : ∀ k, idx_main_v19 (idx_main_v20 j) k = ix2 s k := fun k => funext fun a => Fin.ext (match a with | ⟨0, _⟩ => hj | ⟨1, _⟩ => rfl)
  have hm : ∀ k, val_main_v18 (F := Ideal) idx ye x (ix2 s k) = (rowAt pos ye x s k - meanOf (rowAt pos ye x s)) * (rowAt pos ye x s k - meanOf (rowAt pos ye x s)) := fun k => by
    rw [val_main_v18_apply, val_main_v17_apply, val_main_v16_apply, row_at hR, mean_at hR ye x s _ rfl]
    rfl
  rw [val_main_v27_apply, val_main_v26_apply, val_main_v22_apply, val_main_v20_apply, val_main_v19_apply, val_main_v21_apply, val_main_v25_apply,
    val_main_cst_4_apply, val_main_cst_5_apply, val_main_cst_6_apply]
  simp only [hi, hm]
  show Ideal.rsqrt (Ideal.div (Ideal.ofBits .f32 0x00000000#32 + _) (Ideal.ofBits .f32 0x45000000#32) + Ideal.ofBits .f32 0x3727C5AC#32) = _
  rw [Ideal.ofBits_zero_f32, zero_add]

theorem out_at (s : Fin 16384) (d : Fin 2048) : val_main_v33 (F := Ideal) idx ye x g b (ix2 s d) = outAt pos ye x g b s d := by
  have hg : idx_main_v30 (ix2 s d) = ix2 0 d := funext fun a => match a with | ⟨0, _⟩ => rfl | ⟨1, _⟩ => rfl
  have hb : idx_main_v32 (ix2 s d) = ix2 0 d := funext fun a => match a with | ⟨0, _⟩ => rfl | ⟨1, _⟩ => rfl
  rw [val_main_v33_apply, val_main_v31_apply, val_main_v29_apply, val_main_v24_apply, val_main_v23_apply, val_main_v28_apply, val_main_v30_apply,
    val_main_v32_apply, row_at hR, mean_at hR ye x s _ rfl, spread_at hR ye x s _ rfl, hg, hb]
  rfl

end

end Cert.ReferenceIdeal.Gen

end
-- ==== Proof.Ffn.Spec.lean ====
/- What one expert's feed-forward computes, as extended reals. -/
module

public import Idealize.ShloMosaic.Lib.Pointwise

@[expose] public section

noncomputable section

namespace Cert.Ffn

open Idealize.ShloMosaic

/-- A token's hidden unit: the gated value, from the token's row and the unit's two columns of weights. -/
def gated (x g u : Fin 2048 → EReal) : EReal :=
  (∑ k, x k * g k) * Ideal.logistic (∑ k, x k * g k) * ∑ k, x k * u k

/-- What a block of 256 hidden units adds to a token's output at one place. -/
def share (x : Fin 2048 → EReal) (g u : Fin 2048 → Fin 256 → EReal) (w : Fin 256 → EReal) : EReal :=
  ∑ f, gated x (fun k => g k f) (fun k => u k f) * w f

/-- Unit `f` of block `s` of hidden units. -/
def unitOf (s : Fin 8) (f : Fin 256) : Fin 2048 := ⟨256 * s.val + f.val, by omega⟩

/-- A sum over all hidden units, block by block. -/
theorem sum_units (h : Fin 2048 → EReal) : ∑ n, h n = ∑ s : Fin 8, ∑ f : Fin 256, h (unitOf s f) := by
  rw [← Fintype.sum_prod_type' (fun (s : Fin 8) (f : Fin 256) => h (unitOf s f))]
  refine (Equiv.sum_comp (finProdFinEquiv (m := 8) (n := 256)) h).symm.trans (Finset.sum_congr rfl fun p _ => congrArg h (Fin.ext ?_))
  show p.2.val + 256 * p.1.val = 256 * p.1.val + p.2.val
  omega

/-- The layer's result: the expert's output for the token at its slot, times the token's gate. -/
def outAt (x : FVec Ideal ⟨3, ![16, 2048, 2048]⟩ .bf16) (g : FVec Ideal ⟨2, ![16, 2048]⟩ .f32)
    (wg wu wd : FVec Ideal ⟨4, ![2, 16, 2048, 2048]⟩ .f32) (e : Fin 16) (r d : Fin 2048) : EReal :=
  (∑ n, gated (fun k => x (ix3 e r k)) (fun k => wg (ix4 0 e k n)) (fun k => wu (ix4 0 e k n)) * wd (ix4 0 e n d)) * g (ix2 e r)

end Cert.Ffn

end
-- ==== Proof.Ffn.Step.lean ====
/- What one grid point adds to the accumulator, and what the last point of a block writes. -/
module

public import proofs.«01_k».proof.Proof.Gen.Kernel2Ideal.Value
public import proofs.«01_k».proof.Proof.Ffn.Spec
public import Idealize.ShloMosaic.Lib.Pipeline.ValueKit.Acc

@[expose] public section

noncomputable section

namespace Cert.Kernel2Ideal.Gen

open Idealize.ShloMosaic Idealize.ShloMosaic.TcCoe Cert.Ffn

/-- The four blocks of rows' stores: 256 rows each. -/
abbrev rows (o : ℕ) (inb : ∀ a, (![o, 0] : Fin 2 → ℕ) a + S256x2048.size a ≤ S1024x2048.size a) : Rect S1024x2048 :=
  Rect.unit (s := S1024x2048) ![o, 0] S256x2048.size inb

theorem mem_rows {o : ℕ} (inb) (y : S1024x2048.Idx) : y ∈ (rows o inb).set ↔ o ≤ (y 0).val ∧ (y 0).val < o + 256 := by
  rw [Rect.mem_set_unit]
  constructor
  · intro h; exact h 0
  · intro h a
    match a with
    | ⟨0, _⟩ => exact h
    | ⟨1, _⟩ => exact ⟨Nat.zero_le _, lt_of_lt_of_eq (y 1).isLt (Nat.zero_add 2048).symm⟩

/-- Row `r` of the block of rows at `o`. -/
def rowAt (o : ℕ) (ho : o ≤ 768) (r : Fin 256) : Fin 1024 := ⟨o + r.val, by omega⟩

theorem rows_emb {o : ℕ} (ho : o ≤ 768) (inb) (r : Fin 256) (d : Fin 2048) : (rows o inb).emb (ix2 r d) = (ix2 (rowAt o ho r) d : S1024x2048.Idx) := by
  refine funext fun a => Fin.ext ?_
  match a with
  | ⟨0, _⟩ => show o + 1 * r.val = o + r.val; omega
  | ⟨1, _⟩ => show 0 + 1 * d.val = d.val; omega

variable {F : FTy → Type} [FloatOps F]

/-- A place the last store covers holds the store's value there. -/
theorem canon_head (G : Vec F S1024x2048 .f32) {o : ℕ} (ho : o ≤ 768) (inb) (w : (rows o inb).shape.Idx → Elt F .f32) (L : List (View.Piece (Elt F) S1024x2048 .f32))
    (hw : ∀ (r : Fin 256) (d : Fin 2048), w (ix2 r d) = G (ix2 (rowAt o ho r) d)) (y : S1024x2048.Idx) (hy : y ∈ (rows o inb).set) :
    View.canon ((⟨rows o inb, w⟩ : View.Piece (Elt F) S1024x2048 .f32) :: L) y = G y := by
  obtain ⟨x, rfl⟩ : ∃ x, (rows o inb).emb x = y := (rows o inb).exists_idx_of_mem hy
  refine (View.canon_cons_emb (Val := Elt F) (rows o inb) w L x).trans ?_
  obtain ⟨r, d, rfl⟩ : ∃ (r : Fin 256) (d : Fin 2048), x = ix2 r d := ⟨x 0, x 1, by funext a; match a with | ⟨0, _⟩ => rfl | ⟨1, _⟩ => rfl⟩
  exact (hw r d).trans (congrArg G (rows_emb ho inb r d).symm)

/-- A place in none of the three upper blocks of rows is in the first one. -/
theorem rest (y : S1024x2048.Idx) (i3 i2 i1 i0) (m3 : y ∉ (rows 768 i3).set) (m2 : y ∉ (rows 512 i2).set) (m1 : y ∉ (rows 256 i1).set) : y ∈ (rows 0 i0).set := by
  have hy : (y 0).val < 1024 := (y 0).isLt
  have n3 : ¬(768 ≤ (y 0).val ∧ (y 0).val < 768 + 256) := fun h => m3 ((mem_rows _ _).2 h)
  have n2 : ¬(512 ≤ (y 0).val ∧ (y 0).val < 512 + 256) := fun h => m2 ((mem_rows _ _).2 h)
  have n1 : ¬(256 ≤ (y 0).val ∧ (y 0).val < 256 + 256) := fun h => m1 ((mem_rows _ _).2 h)
  refine (mem_rows _ _).2 ?_
  clear m3 m2 m1
  generalize (y 0).val = n at *
  omega

/-- Stores over the four blocks of rows leave `G` where each of them holds `G`'s rows, whatever lay there before. -/
theorem canon_rows (G : Vec F S1024x2048 .f32) (i3 i2 i1 i0) (w3 : (rows 768 i3).shape.Idx → Elt F .f32) (w2 : (rows 512 i2).shape.Idx → Elt F .f32)
    (w1 : (rows 256 i1).shape.Idx → Elt F .f32) (w0 : (rows 0 i0).shape.Idx → Elt F .f32) (L : List (View.Piece (Elt F) S1024x2048 .f32))
    (h3 : ∀ (r : Fin 256) (d : Fin 2048), w3 (ix2 r d) = G (ix2 (rowAt 768 (by omega) r) d)) (h2 : ∀ (r : Fin 256) (d : Fin 2048), w2 (ix2 r d) = G (ix2 (rowAt 512 (by omega) r) d))
    (h1 : ∀ (r : Fin 256) (d : Fin 2048), w1 (ix2 r d) = G (ix2 (rowAt 256 (by omega) r) d)) (h0 : ∀ (r : Fin 256) (d : Fin 2048), w0 (ix2 r d) = G (ix2 (rowAt 0 (by omega) r) d)) :
    View.canon ((⟨rows 768 i3, w3⟩ : View.Piece (Elt F) S1024x2048 .f32) :: (⟨rows 512 i2, w2⟩ : View.Piece (Elt F) S1024x2048 .f32)
      :: (⟨rows 256 i1, w1⟩ : View.Piece (Elt F) S1024x2048 .f32) :: (⟨rows 0 i0, w0⟩ : View.Piece (Elt F) S1024x2048 .f32) :: L) = G := by
  funext y
  rcases Classical.em (y ∈ (rows 768 i3).set) with m3 | m3
  · exact canon_head G (by omega) i3 w3 _ h3 y m3
  refine (View.canon_cons_of_not_mem (⟨rows 768 i3, w3⟩ : View.Piece (Elt F) S1024x2048 .f32) _ m3).trans ?_
  rcases Classical.em (y ∈ (rows 512 i2).set) with m2 | m2
  · exact canon_head G (by omega) i2 w2 _ h2 y m2
  refine (View.canon_cons_of_not_mem (⟨rows 512 i2, w2⟩ : View.Piece (Elt F) S1024x2048 .f32) _ m2).trans ?_
  rcases Classical.em (y ∈ (rows 256 i1).set) with m1 | m1
  · exact canon_head G (by omega) i1 w1 _ h1 y m1
  refine (View.canon_cons_of_not_mem (⟨rows 256 i1, w1⟩ : View.Piece (Elt F) S1024x2048 .f32) _ m1).trans ?_
  exact canon_head G (by omega) i0 w0 L h0 y (rest y _ _ _ _ m3 m2 m1)

/-- One block of rows' product: the accumulated rows plus the rows' share of this block of hidden units. -/
def stage (x : FVec F S256x2048 .bf16) (g u : FVec F S2048x256 .bf16) (w : FVec F S256x2048 .bf16) (acc : Vec F S256x2048 .f32) : FVec F S256x2048 .f32 :=
  addf acc (matmul dot_S256x256_S256x2048_S256x2048_1_0_0_1_n_n none
    (truncf .bf16 (mulf (mulf (matmul dot_S256x2048_S2048x256_S256x256_1_0_0_1_n_n none x g (constant S256x256 .f32 0x00000000#32))
        (logistic (matmul dot_S256x2048_S2048x256_S256x256_1_0_0_1_n_n none x g (constant S256x256 .f32 0x00000000#32))))
      (matmul dot_S256x2048_S2048x256_S256x256_1_0_0_1_n_n none x u (constant S256x256 .f32 0x00000000#32))) bitsLt_bf16_f32)
    w (constant S256x2048 .f32 0x00000000#32))

theorem stage_apply (x : FVec Ideal S256x2048 .bf16) (g u : FVec Ideal S2048x256 .bf16) (w : FVec Ideal S256x2048 .bf16) (acc : Vec Ideal S256x2048 .f32)
    (r : Fin 256) (d : Fin 2048) :
    stage (F := Ideal) x g u w acc (ix2 r d)
      = acc (ix2 r d) + share (fun k => x (ix2 r k)) (fun k f => g (ix2 k f)) (fun k f => u (ix2 k f)) (fun f => w (ix2 f d)) := by
  unfold stage share gated
  pointwise

theorem same_shape (x : FVec F S256x2048 .f32) : shapeCast S256x2048 x shapeCasts_S256x2048_S256x2048 = x := by
  funext j
  exact shapeCast_apply _ _ _ _ rfl

theorem pay7_eq (v3 : Vec F S1x1x2048x256 .f32) (v6 : Vec F S1x1x2048x256 .f32) (v9 : Vec F S1x1x256x2048 .f32) (v12 : Vec F S1x256x2048 .bf16) (v20 : Vec F S256x2048 .f32) :
    k0_pay7 v3 v6 v9 v12 v20 = stage (k0_pay8 v12) (k0_pay4 v3) (k0_pay5 v6) (k0_pay6 v9) v20 := same_shape _
theorem pay9_eq (v5 v8 : FVec F S2048x256 .bf16) (v11 v27 : FVec F S256x2048 .bf16) (v34 : Vec F S256x2048 .f32) :
    k0_pay9 v5 v8 v11 v27 v34 = stage v27 v5 v8 v11 v34 := same_shape _
theorem pay10_eq (v5 v8 : FVec F S2048x256 .bf16) (v11 : FVec F S256x2048 .bf16) (v40 : Vec F S1x256x2048 .bf16) (v48 : Vec F S256x2048 .f32) :
    k0_pay10 v5 v8 v11 v40 v48 = stage (k0_pay8 v40) v5 v8 v11 v48 := same_shape _
theorem pay1_eq (v5 v8 : FVec F S2048x256 .bf16) (v11 : FVec F S256x2048 .bf16) (v54 : Vec F S1x256x2048 .bf16) (v62 : Vec F S256x2048 .f32) :
    k0_pay1 v11 (k0_pay11 v5 v8 v54) v62 = stage (k0_pay8 v54) v5 v8 v11 v62 := same_shape _

/-- What a grid point adds at a row and a column, from its blocks. -/
def addend (x0 : Vec Ideal S1x1024x2048 .bf16) (x1 x2 : Vec Ideal S1x1x2048x256 .f32) (x3 : Vec Ideal S1x1x256x2048 .f32) : Vec Ideal S1024x2048 .f32 := fun j =>
  share (fun k => x0 (ix3 0 (j 0 : Fin 1024) k)) (fun k f => x1 (ix4 0 0 k f)) (fun k f => x2 (ix4 0 0 k f)) (fun f => x3 (ix4 0 0 f (j 1 : Fin 2048)))

/-- A block of rows' stage, from the point's blocks. -/
theorem stage_rows {o : ℕ} (ho : o ≤ 768) (inx) (x0 : Vec Ideal S1x1024x2048 .bf16) (x1 x2 : Vec Ideal S1x1x2048x256 .f32) (x3 : Vec Ideal S1x1x256x2048 .f32)
    (acc : Vec Ideal S256x2048 .f32) (a : EReal) (r : Fin 256) (d : Fin 2048) (e1 : acc (ix2 r d) = a) :
    stage (F := Ideal) (k0_pay8 (View.ld x0 (Rect.unit (s := S1x1024x2048) ![0, o, 0] S1x256x2048.size inx))) (k0_pay4 x1) (k0_pay5 x2) (k0_pay6 x3) acc (ix2 r d)
      = a + addend x0 x1 x2 x3 (ix2 (rowAt o ho r) d) := by
  rw [stage_apply]
  have e2 : ∀ k : Fin 2048, (k0_pay8 (View.ld x0 (Rect.unit (s := S1x1024x2048) ![0, o, 0] S1x256x2048.size inx)) : FVec Ideal S256x2048 .bf16) (ix2 r k) = x0 (ix3 0 (rowAt o ho r) k) := by
    intro k
    unfold k0_pay8
    pointwise
    rfl
  have e4 : ∀ (k : Fin 2048) (f : Fin 256), (k0_pay4 x1 : FVec Ideal S2048x256 .bf16) (ix2 k f) = x1 (ix4 0 0 k f) := by
    intro k f; unfold k0_pay4; pointwise
  have e5 : ∀ (k : Fin 2048) (f : Fin 256), (k0_pay5 x2 : FVec Ideal S2048x256 .bf16) (ix2 k f) = x2 (ix4 0 0 k f) := by
    intro k f; unfold k0_pay5; pointwise
  have e6 : ∀ (f : Fin 256) (d : Fin 2048), (k0_pay6 x3 : FVec Ideal S256x2048 .bf16) (ix2 f d) = x3 (ix4 0 0 f d) := by
    intro k f; unfold k0_pay6; pointwise
  rw [e1]
  simp only [e2, e4, e5, e6]
  rfl

theorem load_rows {o : ℕ} (ho : o ≤ 768) (inb) (xs : Vec Ideal S1024x2048 .f32) (r : Fin 256) (d : Fin 2048) :
    View.ld xs (rows o inb) (ix2 r d) = xs (ix2 (rowAt o ho r) d) := congrArg xs (rows_emb ho inb r d)

/-- The same load, of rows the run itself has stored. -/
theorem loadCov_rows {o : ℕ} (ho : o ≤ 768) (inb) (a : Memref sig .tc .vmem S1024x2048 .f32) (L : List (View.Piece (Elt Ideal) S1024x2048 .f32)) (r : Fin 256) (d : Fin 2048) :
    a.view.readCov L (rows o inb).toLoadRect (ix2 r d) = View.canon L (ix2 (rowAt o ho r) d) :=
  (congrFun (View.readCov_eq_canon' a.view L (rows o inb).toLoadRect) (ix2 r d)).trans (congrArg (View.canon L) (rows_emb ho inb r d))

theorem skip_rows {o o' : ℕ} (ho : o ≤ 768) (inb) (w : (rows o' inb).shape.Idx → Elt Ideal .f32) (L : List (View.Piece (Elt Ideal) S1024x2048 .f32)) (r : Fin 256) (d : Fin 2048)
    (h : o' + 256 ≤ o) :
    View.canon ((⟨rows o' inb, w⟩ : View.Piece (Elt Ideal) S1024x2048 .f32) :: L) (ix2 (rowAt o ho r) d) = View.canon L (ix2 (rowAt o ho r) d) :=
  View.canon_cons_of_not_mem (⟨rows o' inb, w⟩ : View.Piece (Elt Ideal) S1024x2048 .f32) L fun q => by
    have q' : o + r.val < o' + 256 := ((mem_rows inb _).1 q).2
    omega

theorem loadCov_whole (inb) (a : Memref sig .tc .vmem S1024x2048 .f32) (L : List (View.Piece (Elt Ideal) S1024x2048 .f32)) (r : Fin 1024) (d : Fin 2048) :
    a.view.readCov L (Rect.unit (s := S1024x2048) ![0, 0] S1024x2048.size inb).toLoadRect (ix2 r d) = View.canon L (ix2 r d) :=
  (congrFun (View.readCov_eq_canon' a.view L (Rect.unit (s := S1024x2048) ![0, 0] S1024x2048.size inb).toLoadRect) (ix2 r d)).trans (congrArg (View.canon L) (by
    refine funext fun a => Fin.ext ?_
    match a with
    | ⟨0, _⟩ => show 0 + 1 * r.val = r.val; omega
    | ⟨1, _⟩ => show 0 + 1 * d.val = d.val; omega))

theorem zeroed (inb) (y : S1024x2048.Idx) :
    View.canon [(⟨Rect.unit (s := S1024x2048) ![0, 0] S1024x2048.size inb, k0_pay3 (F := Ideal)⟩ : View.Piece (Elt Ideal) S1024x2048 .f32)] y = (0 : EReal) := by
  refine (congrFun (View.canon_cons_unit_lit (S := S1024x2048) (Val := Elt Ideal) inb _ [] (fun a => by match a with | ⟨0, _⟩ => rfl | ⟨1, _⟩ => rfl)) y).trans ?_
  unfold k0_pay3
  pointwise

variable (c : Dev nD) (i : grid0.Coords) (arg3 : Memref sig .tc .vmem S1x1024x2048 .bf16) (harg3 : arg3.IsWhole) (arg4 : Memref sig .tc .vmem S1x1x2048x256 .f32) (harg4 : arg4.IsWhole) (arg5 : Memref sig .tc .vmem S1x1x2048x256 .f32) (harg5 : arg5.IsWhole) (arg6 : Memref sig .tc .vmem S1x1x256x2048 .f32) (harg6 : arg6.IsWhole) (arg7 : Memref sig .tc .vmem S1x1024x128 .f32) (harg7 : arg7.IsWhole) (arg8 : Memref sig .tc .vmem S1x1024x2048 .bf16) (harg8 : arg8.IsWhole) (arg9 : Memref sig .tc .vmem S1024x2048 .f32) (harg9 : arg9.IsWhole)
    (x0 : Vec Ideal S1x1024x2048 .bf16) (x1 : Vec Ideal S1x1x2048x256 .f32) (x2 : Vec Ideal S1x1x2048x256 .f32) (x3 : Vec Ideal S1x1x256x2048 .f32) (x4 : Vec Ideal S1x1024x128 .f32)

theorem sout_B (hc0 : ¬cond0_0 i) (hc1 : ¬cond0_1 i) (xs : Vec Ideal S1024x2048 .f32) :
    sout0_B_0 c i arg3 harg3 arg4 harg4 arg5 harg5 arg6 harg6 arg7 harg7 arg8 harg8 arg9 harg9 hc0 hc1 x0 x1 x2 x3 x4 xs = fun j => (xs j + addend x0 x1 x2 x3 j : EReal) := by
  frame_out
  rw [pay1_eq, pay10_eq, pay9_eq, pay7_eq]
  exact canon_rows (F := Ideal) _ _ _ _ _ _ _ _ _ _ (fun r d => stage_rows _ _ _ _ _ _ _ _ r d (load_rows _ _ _ r d)) (fun r d => stage_rows _ _ _ _ _ _ _ _ r d (load_rows _ _ _ r d))
    (fun r d => stage_rows _ _ _ _ _ _ _ _ r d (load_rows _ _ _ r d)) (fun r d => stage_rows _ _ _ _ _ _ _ _ r d (load_rows _ _ _ r d))

theorem sout_C (hc0 : ¬cond0_0 i) (hc1 : cond0_1 i) (xs : Vec Ideal S1024x2048 .f32) :
    sout0_C_0 c i arg3 harg3 arg4 harg4 arg5 harg5 arg6 harg6 arg7 harg7 arg8 harg8 arg9 harg9 hc0 hc1 x0 x1 x2 x3 x4 xs = fun j => (xs j + addend x0 x1 x2 x3 j : EReal) := by
  frame_out
  rw [pay1_eq, pay10_eq, pay9_eq, pay7_eq]
  exact canon_rows (F := Ideal) _ _ _ _ _ _ _ _ _ _ (fun r d => stage_rows _ _ _ _ _ _ _ _ r d (load_rows _ _ _ r d)) (fun r d => stage_rows _ _ _ _ _ _ _ _ r d (load_rows _ _ _ r d))
    (fun r d => stage_rows _ _ _ _ _ _ _ _ r d (load_rows _ _ _ r d)) (fun r d => stage_rows _ _ _ _ _ _ _ _ r d (load_rows _ _ _ r d))

theorem sout_A (hc0 : cond0_0 i) (hc1 : ¬cond0_1 i) :
    sout0_A_0 c i arg3 harg3 arg4 harg4 arg5 harg5 arg6 harg6 arg7 harg7 arg8 harg8 arg9 harg9 hc0 hc1 x0 x1 x2 x3 x4 = fun j => (0 + addend x0 x1 x2 x3 j : EReal) := by
  frame_out
  simp only [pay1_eq, pay10_eq, pay9_eq, pay7_eq]
  refine canon_rows (F := Ideal) _ _ _ _ _ _ _ _ _ _ (fun r d => stage_rows _ _ _ _ _ _ _ _ r d ?_) (fun r d => stage_rows _ _ _ _ _ _ _ _ r d ?_)
    (fun r d => stage_rows _ _ _ _ _ _ _ _ r d ?_) (fun r d => stage_rows _ _ _ _ _ _ _ _ r d ?_)
  · refine (loadCov_rows (o := 768) (by omega) _ _ _ r d).trans ?_
    refine (skip_rows (o := 768) (o' := 512) _ _ _ _ r d (by omega)).trans ?_
    refine (skip_rows (o := 768) (o' := 256) _ _ _ _ r d (by omega)).trans ?_
    exact (skip_rows (o := 768) (o' := 0) _ _ _ _ r d (by omega)).trans (zeroed _ _)
  · refine (loadCov_rows (o := 512) (by omega) _ _ _ r d).trans ?_
    refine (skip_rows (o := 512) (o' := 256) _ _ _ _ r d (by omega)).trans ?_
    exact (skip_rows (o := 512) (o' := 0) _ _ _ _ r d (by omega)).trans (zeroed _ _)
  · refine (loadCov_rows (o := 256) (by omega) _ _ _ r d).trans ?_
    exact (skip_rows (o := 256) (o' := 0) _ _ _ _ r d (by omega)).trans (zeroed _ _)
  · exact (loadCov_rows (o := 0) (by omega) _ _ _ r d).trans (zeroed _ _)

theorem pay2_apply (a : Vec Ideal S1024x2048 .f32) (g : Vec Ideal S1x1024x128 .f32) (r : Fin 1024) (d : Fin 2048) :
    (k0_pay2 a g : FVec Ideal S1x1024x2048 .bf16) (ix3 0 r d) = (a (ix2 r d) : EReal) * g (ix3 0 r 0) := by
  unfold k0_pay2
  pointwise

theorem out_C (hc0 : ¬cond0_0 i) (hc1 : cond0_1 i) (xs : Vec Ideal S1024x2048 .f32) (r : Fin 1024) (d : Fin 2048) :
    out0_C_5 c i arg3 harg3 arg4 harg4 arg5 harg5 arg6 harg6 arg7 harg7 arg8 harg8 arg9 harg9 hc0 hc1 x0 x1 x2 x3 x4 xs (ix3 0 r d) = (xs (ix2 r d) + addend x0 x1 x2 x3 (ix2 r d) : EReal) * x4 (ix3 0 r 0) := by
  frame_out
  refine (pay2_apply _ _ r d).trans ?_
  rw [pay1_eq, pay10_eq, pay9_eq, pay7_eq]
  refine congrArg (· * (x4 (ix3 0 r 0) : EReal)) ?_
  refine (loadCov_whole _ arg9 _ r d).trans ?_
  exact congrFun (canon_rows (F := Ideal) (fun j => (xs j + addend x0 x1 x2 x3 j : EReal)) _ _ _ _ _ _ _ _ _ (fun r d => stage_rows _ _ _ _ _ _ _ _ r d (load_rows _ _ _ r d)) (fun r d => stage_rows _ _ _ _ _ _ _ _ r d (load_rows _ _ _ r d))
    (fun r d => stage_rows _ _ _ _ _ _ _ _ r d (load_rows _ _ _ r d)) (fun r d => stage_rows _ _ _ _ _ _ _ _ r d (load_rows _ _ _ r d))) (ix2 r d)

end Cert.Kernel2Ideal.Gen

end
-- ==== Proof.Ffn.Blocks.lean ====
/- The windows' blocks at an index, from the arguments. -/
module

public import proofs.«01_k».proof.Proof.Ffn.Step

@[expose] public section

noncomputable section

namespace Cert.Kernel2Ideal.Gen

open Idealize.ShloMosaic Idealize.ShloMosaic.TcCoe Cert.Ffn

/-- The grid point of an expert, a half of its slots and a block of hidden units. -/
def pt (e : Fin 16) (b : Fin 2) (s : Fin 8) : Fin cfg0.N := ⟨16 * e.val + 8 * b.val + s.val, lt_of_lt_of_eq (by omega) N_0.symm⟩

/-- Slot `r` of a half. -/
def slot (b : Fin 2) (r : Fin 1024) : Fin 2048 := ⟨1024 * b.val + r.val, by omega⟩

theorem ix_0 : ∀ t : Fin cfg0.N, win0_0.index t (0 : Fin 3) = t.val / 16 ∧ win0_0.index t (1 : Fin 3) = t.val / 8 % 2 ∧ win0_0.index t (2 : Fin 3) = 0 :=
  (by decide +kernel : ∀ t : Fin grid0.N, _)
theorem ix_1 : ∀ t : Fin cfg0.N, win0_1.index t (0 : Fin 4) = 0 ∧ win0_1.index t (1 : Fin 4) = t.val / 16 ∧ win0_1.index t (2 : Fin 4) = 0 ∧ win0_1.index t (3 : Fin 4) = t.val % 8 :=
  (by decide +kernel : ∀ t : Fin grid0.N, _)
theorem ix_2 : ∀ t : Fin cfg0.N, win0_2.index t (0 : Fin 4) = 0 ∧ win0_2.index t (1 : Fin 4) = t.val / 16 ∧ win0_2.index t (2 : Fin 4) = 0 ∧ win0_2.index t (3 : Fin 4) = t.val % 8 :=
  (by decide +kernel : ∀ t : Fin grid0.N, _)
theorem ix_3 : ∀ t : Fin cfg0.N, win0_3.index t (0 : Fin 4) = 0 ∧ win0_3.index t (1 : Fin 4) = t.val / 16 ∧ win0_3.index t (2 : Fin 4) = t.val % 8 ∧ win0_3.index t (3 : Fin 4) = 0 :=
  (by decide +kernel : ∀ t : Fin grid0.N, _)
theorem ix_4 : ∀ t : Fin cfg0.N, win0_4.index t (0 : Fin 3) = t.val / 16 ∧ win0_4.index t (1 : Fin 3) = t.val / 8 % 2 ∧ win0_4.index t (2 : Fin 3) = 0 :=
  (by decide +kernel : ∀ t : Fin grid0.N, _)
theorem ix_5 : ∀ t : Fin cfg0.N, win0_5.index t (0 : Fin 3) = t.val / 16 ∧ win0_5.index t (1 : Fin 3) = t.val / 8 % 2 ∧ win0_5.index t (2 : Fin 3) = 0 :=
  (by decide +kernel : ∀ t : Fin grid0.N, _)

theorem pt_val (e : Fin 16) (b : Fin 2) (s : Fin 8) : (pt e b s).val / 16 = e.val ∧ (pt e b s).val / 8 % 2 = b.val ∧ (pt e b s).val % 8 = s.val := by
  have h : (pt e b s).val = 16 * e.val + 8 * b.val + s.val := rfl
  omega

variable (m : (ℓ : Loc nD τ sig) → Buf (Elt Ideal) ℓ) (c : Dev nD) (e : Fin 16) (b : Fin 2) (s : Fin 8)

theorem emb_0 (r : Fin 1024) (k : Fin 2048) : (((cfg0.win 0).blk (pt e b s)).view.emb (ix3 0 r k : S1x1024x2048.Idx) : S16x2048x2048.Idx) = ix3 e (slot b r) k := by
  obtain ⟨q0, q1, q2⟩ := pt_val e b s
  obtain ⟨h0, h1, h2⟩ := ix_0 (pt e b s)
  refine funext fun a => Fin.ext ?_
  match a with
  | ⟨0, _⟩ => show win0_0.index (pt e b s) (0 : Fin 3) * 1 + 1 * 0 = e.val; omega
  | ⟨1, _⟩ => show win0_0.index (pt e b s) (1 : Fin 3) * 1024 + 1 * r.val = 1024 * b.val + r.val; omega
  | ⟨2, _⟩ => show win0_0.index (pt e b s) (2 : Fin 3) * 2048 + 1 * k.val = k.val; omega

theorem emb_1 (k : Fin 2048) (f : Fin 256) : (((cfg0.win 1).blk (pt e b s)).view.emb (ix4 0 0 k f : S1x1x2048x256.Idx) : S2x16x2048x2048.Idx) = ix4 0 e k (unitOf s f) := by
  obtain ⟨q0, q1, q2⟩ := pt_val e b s
  obtain ⟨h0, h1, h2, h3⟩ := ix_1 (pt e b s)
  refine funext fun a => Fin.ext ?_
  match a with
  | ⟨0, _⟩ => show win0_1.index (pt e b s) (0 : Fin 4) * 1 + 1 * 0 = 0; omega
  | ⟨1, _⟩ => show win0_1.index (pt e b s) (1 : Fin 4) * 1 + 1 * 0 = e.val; omega
  | ⟨2, _⟩ => show win0_1.index (pt e b s) (2 : Fin 4) * 2048 + 1 * k.val = k.val; omega
  | ⟨3, _⟩ => show win0_1.index (pt e b s) (3 : Fin 4) * 256 + 1 * f.val = 256 * s.val + f.val; omega

theorem emb_2 (k : Fin 2048) (f : Fin 256) : (((cfg0.win 2).blk (pt e b s)).view.emb (ix4 0 0 k f : S1x1x2048x256.Idx) : S2x16x2048x2048.Idx) = ix4 0 e k (unitOf s f) := by
  obtain ⟨q0, q1, q2⟩ := pt_val e b s
  obtain ⟨h0, h1, h2, h3⟩ := ix_2 (pt e b s)
  refine funext fun a => Fin.ext ?_
  match a with
  | ⟨0, _⟩ => show win0_2.index (pt e b s) (0 : Fin 4) * 1 + 1 * 0 = 0; omega
  | ⟨1, _⟩ => show win0_2.index (pt e b s) (1 : Fin 4) * 1 + 1 * 0 = e.val; omega
  | ⟨2, _⟩ => show win0_2.index (pt e b s) (2 : Fin 4) * 2048 + 1 * k.val = k.val; omega
  | ⟨3, _⟩ => show win0_2.index (pt e b s) (3 : Fin 4) * 256 + 1 * f.val = 256 * s.val + f.val; omega

theorem emb_3 (f : Fin 256) (d : Fin 2048) : (((cfg0.win 3).blk (pt e b s)).view.emb (ix4 0 0 f d : S1x1x256x2048.Idx) : S2x16x2048x2048.Idx) = ix4 0 e (unitOf s f) d := by
  obtain ⟨q0, q1, q2⟩ := pt_val e b s
  obtain ⟨h0, h1, h2, h3⟩ := ix_3 (pt e b s)
  refine funext fun a => Fin.ext ?_
  match a with
  | ⟨0, _⟩ => show win0_3.index (pt e b s) (0 : Fin 4) * 1 + 1 * 0 = 0; omega
  | ⟨1, _⟩ => show win0_3.index (pt e b s) (1 : Fin 4) * 1 + 1 * 0 = e.val; omega
  | ⟨2, _⟩ => show win0_3.index (pt e b s) (2 : Fin 4) * 256 + 1 * f.val = 256 * s.val + f.val; omega
  | ⟨3, _⟩ => show win0_3.index (pt e b s) (3 : Fin 4) * 2048 + 1 * d.val = d.val; omega

theorem emb_4 (r : Fin 1024) (l : Fin 128) : (((cfg0.win 4).blk (pt e b s)).view.emb (ix3 0 r l : S1x1024x128.Idx) : S16x2048x128.Idx) = ix3 e (slot b r) l := by
  obtain ⟨q0, q1, q2⟩ := pt_val e b s
  obtain ⟨h0, h1, h2⟩ := ix_4 (pt e b s)
  refine funext fun a => Fin.ext ?_
  match a with
  | ⟨0, _⟩ => show win0_4.index (pt e b s) (0 : Fin 3) * 1 + 1 * 0 = e.val; omega
  | ⟨1, _⟩ => show win0_4.index (pt e b s) (1 : Fin 3) * 1024 + 1 * r.val = 1024 * b.val + r.val; omega
  | ⟨2, _⟩ => show win0_4.index (pt e b s) (2 : Fin 3) * 128 + 1 * l.val = l.val; omega

theorem emb_5 (r : Fin 1024) (d : Fin 2048) : (((cfg0.win 5).blk (pt e b s)).view.emb (ix3 0 r d : S1x1024x2048.Idx) : S16x2048x2048.Idx) = ix3 e (slot b r) d := by
  obtain ⟨q0, q1, q2⟩ := pt_val e b s
  obtain ⟨h0, h1, h2⟩ := ix_5 (pt e b s)
  refine funext fun a => Fin.ext ?_
  match a with
  | ⟨0, _⟩ => show win0_5.index (pt e b s) (0 : Fin 3) * 1 + 1 * 0 = e.val; omega
  | ⟨1, _⟩ => show win0_5.index (pt e b s) (1 : Fin 3) * 1024 + 1 * r.val = 1024 * b.val + r.val; omega
  | ⟨2, _⟩ => show win0_5.index (pt e b s) (2 : Fin 3) * 2048 + 1 * d.val = d.val; omega

theorem blk_0 (r : Fin 1024) (k : Fin 2048) :
    (iblk m c 0 (pt e b s) : Vec Ideal S1x1024x2048 .bf16) (ix3 0 r k) = (m ((c : Thread nD τ).loc main_arg0) : Vec Ideal S16x2048x2048 .bf16) (ix3 e (slot b r) k) :=
  (congrArg (V m c main_arg0 : S16x2048x2048.Idx → Elt Ideal .bf16) (emb_0 e b s r k)).trans (congrFun (V_main_arg0 m c) _)

theorem blk_1 (k : Fin 2048) (f : Fin 256) :
    (iblk m c 1 (pt e b s) : Vec Ideal S1x1x2048x256 .f32) (ix4 0 0 k f) = (m ((c : Thread nD τ).loc main_arg2) : Vec Ideal S2x16x2048x2048 .f32) (ix4 0 e k (unitOf s f)) :=
  (congrArg (V m c main_arg2 : S2x16x2048x2048.Idx → Elt Ideal .f32) (emb_1 e b s k f)).trans (congrFun (V_main_arg2 m c) _)

theorem blk_2 (k : Fin 2048) (f : Fin 256) :
    (iblk m c 2 (pt e b s) : Vec Ideal S1x1x2048x256 .f32) (ix4 0 0 k f) = (m ((c : Thread nD τ).loc main_arg3) : Vec Ideal S2x16x2048x2048 .f32) (ix4 0 e k (unitOf s f)) :=
  (congrArg (V m c main_arg3 : S2x16x2048x2048.Idx → Elt Ideal .f32) (emb_2 e b s k f)).trans (congrFun (V_main_arg3 m c) _)

theorem blk_3 (f : Fin 256) (d : Fin 2048) :
    (iblk m c 3 (pt e b s) : Vec Ideal S1x1x256x2048 .f32) (ix4 0 0 f d) = (m ((c : Thread nD τ).loc main_arg4) : Vec Ideal S2x16x2048x2048 .f32) (ix4 0 e (unitOf s f) d) :=
  (congrArg (V m c main_arg4 : S2x16x2048x2048.Idx → Elt Ideal .f32) (emb_3 e b s f d)).trans (congrFun (V_main_arg4 m c) _)

/-- The gates' array: each token's gate along the lanes. -/
theorem gates (r : Fin 2048) (l : Fin 128) :
    (V m c main_v1 : S16x2048x128.Idx → Elt Ideal .f32) (ix3 e r l) = (m ((c : Thread nD τ).loc main_arg1) : Vec Ideal S16x2048 .f32) (ix2 e r) := by
  have h : (V m c main_v1 : S16x2048x128.Idx → Elt Ideal .f32) = broadcastInDim S16x2048x128 ![0, 1, 2] bcast_S16x2048x1_S16x2048x128_0_1_2
      (broadcastInDim S16x2048x1 ![0, 1] bcast_S16x2048_S16x2048x1_0_1 (m ((c : Thread nD τ).loc main_arg1) : Vec Ideal S16x2048 .f32)) := rfl
  rw [h]
  pointwise

theorem blk_4 (r : Fin 1024) (l : Fin 128) :
    (iblk m c 4 (pt e b s) : Vec Ideal S1x1024x128 .f32) (ix3 0 r l) = (m ((c : Thread nD τ).loc main_arg1) : Vec Ideal S16x2048 .f32) (ix2 e (slot b r)) :=
  (congrArg (V m c main_v1 : S16x2048x128.Idx → Elt Ideal .f32) (emb_4 e b s r l)).trans (gates m c e (slot b r) l)

end Cert.Kernel2Ideal.Gen

end
-- ==== Proof.Ffn.Final.lean ====
/- What the run leaves in the output array: the layer's result at every index. -/
module

public import proofs.«01_k».proof.Proof.Ffn.Blocks
public import proofs.«01_k».proof.Proof.Gen.Kernel2Ideal.Value
public import Idealize.ShloMosaic.Lib.Pipeline.ValueKit

@[expose] public section

noncomputable section

namespace Cert.Kernel2Ideal.Gen

open Idealize.ShloMosaic Idealize.ShloMosaic.TcCoe Cert.Ffn Cert.Kernel2Ideal.Value

variable (m : (ℓ : Loc nD τ sig) → Buf (Elt Ideal) ℓ) (c : Dev nD)

/-- The layer's result over the run's arguments. -/
def finalOut : FVec Ideal S16x2048x2048 .bf16 := fun i =>
  outAt (m ((c : Thread nD τ).loc main_arg0)) (m ((c : Thread nD τ).loc main_arg1)) (m ((c : Thread nD τ).loc main_arg2)) (m ((c : Thread nD τ).loc main_arg3))
    (m ((c : Thread nD τ).loc main_arg4)) (i 0) (i 1) (i 2)

/-- What a hidden unit adds to an output. -/
def unitTerm (e : Fin 16) (r d n : Fin 2048) : EReal :=
  gated (fun k => (m ((c : Thread nD τ).loc main_arg0) : Vec Ideal S16x2048x2048 .bf16) (ix3 e r k))
    (fun k => (m ((c : Thread nD τ).loc main_arg2) : Vec Ideal S2x16x2048x2048 .f32) (ix4 0 e k n))
    (fun k => (m ((c : Thread nD τ).loc main_arg3) : Vec Ideal S2x16x2048x2048 .f32) (ix4 0 e k n))
    * (m ((c : Thread nD τ).loc main_arg4) : Vec Ideal S2x16x2048x2048 .f32) (ix4 0 e n d)

/-- What a grid point adds to the running sums. -/
def adds (t : Fin cfg0.N) : S1024x2048.Idx → EReal := addend (iblk m c 0 t) (iblk m c 1 t) (iblk m c 2 t) (iblk m c 3 t)

theorem adds_pt (e : Fin 16) (b : Fin 2) (s : Fin 8) (r : Fin 1024) (d : Fin 2048) :
    adds m c (pt e b s) (ix2 r d) = ∑ f : Fin 256, unitTerm m c e (slot b r) d (unitOf s f) := by
  show share (fun k => (iblk m c 0 (pt e b s) : Vec Ideal S1x1024x2048 .bf16) (ix3 0 r k)) (fun k f => (iblk m c 1 (pt e b s) : Vec Ideal S1x1x2048x256 .f32) (ix4 0 0 k f))
    (fun k f => (iblk m c 2 (pt e b s) : Vec Ideal S1x1x2048x256 .f32) (ix4 0 0 k f)) (fun f => (iblk m c 3 (pt e b s) : Vec Ideal S1x1x256x2048 .f32) (ix4 0 0 f d)) = _
  simp only [blk_0, blk_1, blk_2, blk_3]
  rfl

/-- The same at a position, nothing past the grid. -/
def addsN (n : ℕ) (j : S1024x2048.Idx) : EReal := if h : n < cfg0.N then adds m c ⟨n, h⟩ j else 0

theorem first_eq (n : ℕ) (hn : n < cfg0.N) (h0 : n % 8 = 0) (acc : Vec Ideal S1024x2048 .f32) (j : S1024x2048.Idx) :
    scAt0_0 m c n hn acc j = ((0 : EReal) + addsN m c n j : EReal) := by
  have h1 : ¬ n % 8 = 7 := by omega
  unfold scAt0_0 addsN
  rw [dif_pos h0, dif_neg h1, dif_pos hn, sout_A]
  rfl

theorem next_eq (n : ℕ) (hn : n < cfg0.N) (h0 : ¬ n % 8 = 0) (acc : Vec Ideal S1024x2048 .f32) (j : S1024x2048.Idx) :
    scAt0_0 m c n hn acc j = (acc j + addsN m c n j : EReal) := by
  unfold scAt0_0 addsN
  rcases Classical.em (n % 8 = 7) with h1 | h1
  · rw [dif_neg h0, dif_pos h1, dif_pos hn, sout_C]
    rfl
  · rw [dif_neg h0, dif_neg h1, dif_pos hn, sout_B]
    rfl

/-- The running sums after the last block of hidden units: the sum over all units. -/
theorem sums_at (e : Fin 16) (b : Fin 2) (r : Fin 1024) (d : Fin 2048) :
    ((outsAt0 m c (pt e b 7).val (pt e b 7).isLt).2 (ix2 r d) : EReal) = ∑ n, unitTerm m c e (slot b r) d n := by
  have hv : (pt e b 7).val = 16 * e.val + 8 * b.val + 7 := rfl
  have hN : cfg0.N = 256 := N_0
  rw [soutsAt0_0_eq m c (pt e b 7)]
  refine (Pipeline.accAt_add_apply (fun n h => scAt0_0 m c n h (VS0_0.read (Elt Ideal) VS0_0.junk)) (scAt0_0 m c) (fun _ => (0 : EReal)) (addsN m c)
    (8 * ((pt e b 7).val / 8)) 7 (fun h i => ?_) (fun n h acc i h1 h2 => ?_) _ (by omega) _ (ix2 r d)).trans ?_
  · exact first_eq m c _ h (by omega) _ i
  · exact next_eq m c n h (by omega) acc i
  · rw [zero_add, sum_units, show (pt e b 7).val % 8 + 1 = 8 by omega, Finset.sum_range]
    refine Finset.sum_congr rfl fun s _ => ?_
    have hs : 8 * ((pt e b 7).val / 8) + s.val = (pt e b s).val := by
      have h : (pt e b s).val = 16 * e.val + 8 * b.val + s.val := rfl
      omega
    rw [hs, ← adds_pt]
    unfold addsN
    rw [dif_pos (pt e b s).isLt]

/-- What the last block of hidden units writes out. -/
theorem out_at (e : Fin 16) (b : Fin 2) (r : Fin 1024) (d : Fin 2048) :
    ((outsAt0 m c (pt e b 7).val (pt e b 7).isLt).1 (ix3 0 r d) : EReal) = finalOut m c (ix3 e (slot b r) d) := by
  obtain ⟨q0, q1, q2⟩ := pt_val e b 7
  have h1 : (pt e b 7).val % 8 = 7 := q2
  have h0 : ¬ (pt e b 7).val % 8 = 0 := by omega
  have hs := sums_at m c e b r d
  rw [outsAt0_C m c (pt e b 7) h0 h1] at hs ⊢
  dsimp only at hs ⊢
  rw [sout_C] at hs
  rw [out_C]
  refine (congrArg₂ (fun p q : EReal => p * q) hs (blk_4 m c e b 7 r 0)).trans ?_
  rfl

/-- The point that writes out an index's half. -/
theorem point_of (t : Fin cfg0.N) (h : t.val % 8 = 7) : ∃ (e : Fin 16) (b : Fin 2), t = pt e b 7 := by
  have hN : t.val < 256 := lt_of_lt_of_eq t.isLt N_0
  refine ⟨⟨t.val / 16, by omega⟩, ⟨t.val / 8 % 2, by omega⟩, Fin.ext ?_⟩
  show t.val = 16 * (t.val / 16) + 8 * (t.val / 8 % 2) + 7
  omega

theorem final : ((dats m 0 c).arrAt 5 cfg0.N : FVec Ideal S16x2048x2048 .bf16) = finalOut m c := by
  refine (dats m 0 c).arrAt_eq_of_emb 5 _ (fun t hf y => ?_) (fun i => (covered_iff5 i).2 ?_)
  · obtain ⟨e, b, rfl⟩ := point_of t ((flush0_5 t).1 hf)
    have hy : (y : S1x1024x2048.Idx) = ix3 0 (y 1) (y 2) := funext fun a => match a with | ⟨0, _⟩ => Fin.ext (Nat.lt_one_iff.1 (y 0).isLt) | ⟨1, _⟩ => rfl | ⟨2, _⟩ => rfl
    rw [after0_5]
    refine (congrArg (outsAt0 m c (pt e b 7).val (pt e b 7).isLt).1 hy).trans ((out_at m c e b (y 1) (y 2)).trans ?_)
    exact congrArg (finalOut m c) ((emb_5 e b 7 (y 1) (y 2)).symm.trans (congrArg (((cfg0.win 5).blk (pt e b 7)).view.emb : S1x1024x2048.Idx → S16x2048x2048.Idx) hy.symm))
  · have h0 : (i 0).val < 16 := (i 0).isLt
    have h1 : (i 1).val < 2048 := (i 1).isLt
    have h2 : (i 2).val < 2048 := (i 2).isLt
    omega

end Cert.Kernel2Ideal.Gen

end
-- ==== Proof.Ffn.Ref.lean ====
/- The reference's result at an index: the layer's result there. -/
module

public import proofs.«01_k».proof.Proof.Ffn.Spec
public import proofs.«01_k».proof.Proof.Gen.Reference2Ideal.Run
public import proofs.«01_k».proof.Proof.Gen.Reference2Ideal.Read

@[expose] public section

noncomputable section

namespace Cert.Reference2Ideal.Gen

open Idealize.ShloMosaic Idealize.ShloMosaic.TcCoe Cert.Ffn Cert.Reference2Ideal.Read

/-- The row-major place of a three-axis index, split back into its axes. -/
theorem split3 (e : Fin 16) (k n : Fin 2048) : ((e.val * 2048 + k.val) * 2048 + n.val) / 4194304 % 16 = e.val
    ∧ ((e.val * 2048 + k.val) * 2048 + n.val) / 2048 % 2048 = k.val ∧ ((e.val * 2048 + k.val) * 2048 + n.val) % 2048 = n.val := by
  omega

variable (x : FVec Ideal S16x2048x2048 .bf16) (g : FVec Ideal S16x2048 .f32) (wg wu wd : FVec Ideal S2x16x2048x2048 .f32)

theorem gate_w (e : Fin 16) (k n : Fin 2048) : val_main_v2 (F := Ideal) wg (ix3 e k n) = wg (ix4 0 e k n) := by
  rw [val_main_v2_apply, val_main_v1_apply]
  obtain ⟨h0, h1, h2⟩ := split3 e k n
  refine congrArg wg (funext fun a => Fin.ext ?_)
  match a with
  | ⟨0, _⟩ => rfl
  | ⟨1, _⟩ => exact h0
  | ⟨2, _⟩ => exact h1
  | ⟨3, _⟩ => exact h2

theorem up_w (e : Fin 16) (k n : Fin 2048) : val_main_v6 (F := Ideal) wu (ix3 e k n) = wu (ix4 0 e k n) := by
  rw [val_main_v6_apply, val_main_v5_apply]
  obtain ⟨h0, h1, h2⟩ := split3 e k n
  refine congrArg wu (funext fun a => Fin.ext ?_)
  match a with
  | ⟨0, _⟩ => rfl
  | ⟨1, _⟩ => exact h0
  | ⟨2, _⟩ => exact h1
  | ⟨3, _⟩ => exact h2

theorem down_w (e : Fin 16) (k n : Fin 2048) : val_main_v10 (F := Ideal) wd (ix3 e k n) = wd (ix4 0 e k n) := by
  rw [val_main_v10_apply, val_main_v9_apply]
  obtain ⟨h0, h1, h2⟩ := split3 e k n
  refine congrArg wd (funext fun a => Fin.ext ?_)
  match a with
  | ⟨0, _⟩ => rfl
  | ⟨1, _⟩ => exact h0
  | ⟨2, _⟩ => exact h1
  | ⟨3, _⟩ => exact h2

theorem gate_at (e : Fin 16) (r n : Fin 2048) : (val_main_v3 (F := Ideal) x wg (ix3 e r n) : EReal) = ∑ k, x (ix3 e r k) * wg (ix4 0 e k n) := by
  rw [val_main_v3_apply]
  refine Finset.sum_congr rfl fun k _ => congrArg₂ (fun p q : EReal => p * q) ?_ ?_
  · exact congrArg x (funext fun a => match a with | ⟨0, _⟩ => rfl | ⟨1, _⟩ => rfl | ⟨2, _⟩ => rfl)
  · exact (congrArg (val_main_v2 (F := Ideal) wg) (funext fun a => match a with | ⟨0, _⟩ => rfl | ⟨1, _⟩ => rfl | ⟨2, _⟩ => rfl)).trans (gate_w wg e k n)

theorem up_at (e : Fin 16) (r n : Fin 2048) : (val_main_v7 (F := Ideal) x wu (ix3 e r n) : EReal) = ∑ k, x (ix3 e r k) * wu (ix4 0 e k n) := by
  rw [val_main_v7_apply]
  refine Finset.sum_congr rfl fun k _ => congrArg₂ (fun p q : EReal => p * q) ?_ ?_
  · exact congrArg x (funext fun a => match a with | ⟨0, _⟩ => rfl | ⟨1, _⟩ => rfl | ⟨2, _⟩ => rfl)
  · exact (congrArg (val_main_v6 (F := Ideal) wu) (funext fun a => match a with | ⟨0, _⟩ => rfl | ⟨1, _⟩ => rfl | ⟨2, _⟩ => rfl)).trans (up_w wu e k n)

theorem hidden_at (e : Fin 16) (r n : Fin 2048) : (val_main_v8 (F := Ideal) x wg wu (ix3 e r n) : EReal)
    = gated (fun k => x (ix3 e r k)) (fun k => wg (ix4 0 e k n)) (fun k => wu (ix4 0 e k n)) := by
  rw [val_main_v8_apply, val_main_v4_apply, val_main_call0_v5_apply, val_main_call0_v4_apply, val_main_call0_cst_0_apply, val_main_call0_v3_apply,
    val_main_call0_v2_apply, val_main_call0_cst_apply, val_main_call0_v1_apply, val_main_call0_v0_apply, gate_at, up_at]
  show _ * Ideal.div (Ideal.ofBits .f32 0x3F800000#32) (Ideal.ofBits .f32 0x3F800000#32 + _) * _ = _
  rw [Ideal.ofBits_one_f32]
  rfl

theorem out_at (e : Fin 16) (r d : Fin 2048) : (val_main_v15 (F := Ideal) x g wg wu wd (ix3 e r d) : EReal) = outAt x g wg wu wd e r d := by
  rw [val_main_v15_apply, val_main_v14_apply, val_main_v13_apply, val_main_v12_apply, val_main_v11_apply]
  refine congrArg₂ (fun p q : EReal => p * q) (Finset.sum_congr rfl fun n _ => congrArg₂ (fun p q : EReal => p * q) ?_ ?_) ?_
  · have h : lidx_main_v11 (ix3 e r d) n = ix3 e r n := funext fun a => match a with | ⟨0, _⟩ => rfl | ⟨1, _⟩ => rfl | ⟨2, _⟩ => rfl
    exact (congrArg (val_main_v8 (F := Ideal) x wg wu) h).trans (hidden_at x wg wu e r n)
  · have h : ridx_main_v11 (ix3 e r d) n = ix3 e n d := funext fun a => match a with | ⟨0, _⟩ => rfl | ⟨1, _⟩ => rfl | ⟨2, _⟩ => rfl
    exact (congrArg (val_main_v10 (F := Ideal) wd) h).trans (down_w wd e n d)
  · exact congrArg g (funext fun a => match a with | ⟨0, _⟩ => rfl | ⟨1, _⟩ => rfl)

end Cert.Reference2Ideal.Gen

end
-- ==== Proof.Mla.Run.lean ====
/- One point of the attention run on whole staging buffers: the stores it leaves. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point of a head, which turns its own query block and takes its first scores itself. -/
noncomputable def runFirst (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : k0_cond1 i = 1#1) (h2 : k0_off2 i = ![0, 0, 0]) (h3 : k0_off3 i = ![1, 0, 0]) (h51 : k0_off5 i 1#32 = ![0, 0, 0]) (h52 : k0_off5 i 2#32 = ![1, 0, 0])
    (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) :
    Σ' (L6 : List (View.Piece (Elt F) S512x128 .bf16)), Σ' (L7 : List (View.Piece (Elt F) S2x256x512 .bf16)), Σ' (L8 : List (View.Piece (Elt F) S2x8192x512 .f32)), Σ' (L9 : List (View.Piece (Elt F) S1x512 .f32)), Σ' (L10 : List (View.Piece (Elt F) S1x512 .f32)), { L11 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs7 ∗ owns (c : Thread nD τ) arg8 fullShare xs8 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (arg7.view.loc (c : Thread nD τ) ↦[arg7.view.set]{fullShare} arg7.view.writes (Elt F) (harg7.unread xs7) L7) ∗ (arg8.view.loc (c : Thread nD τ) ↦[arg8.view.set]{fullShare} arg8.view.writes (Elt F) (harg8.unread xs8) L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0_mla_attention i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    letI : ClosedOff (k0_off2 i) := ⟨![0, 0, 0], h2⟩
    letI : ClosedOff (k0_off3 i) := ⟨![1, 0, 0], h3⟩
    letI : ClosedOff (k0_off5 i 1#32) := ⟨![0, 0, 0], h51⟩
    letI : ClosedOff (k0_off5 i 2#32) := ⟨![1, 0, 0], h52⟩
    simp only [cc0_mla_attention_eq_skeleton]; unfold cc0_mla_attention_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, ⟨%d11, %f11, -, H11⟩, Hk⟩
    obtain rfl := harg2.eq_unread hf2; obtain rfl := harg3.eq_unread hf3; obtain rfl := harg4.eq_unread hf4; obtain rfl := harg5.eq_unread hf5; obtain rfl := harg7.eq_unread hf7; obtain rfl := harg8.eq_unread hf8
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexact H7
    isplitl [H8]; · iexact H8
    isplitl [H9]; · iexists _; iexact H9
    isplitl [H10]; · iexists _; iexact H10
    iexists _; iexact H11

set_option maxHeartbeats 4000000 in
/-- A point of odd number: its turned query block lies in the second slot, and it leaves the next one's in the first. -/
noncomputable def runOdd (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![0, 0, 0]) (h51 : k0_off5 i 1#32 = ![1, 0, 0]) (h52 : k0_off5 i 2#32 = ![0, 0, 0])
    (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) :
    Σ' (L6 : List (View.Piece (Elt F) S512x128 .bf16)), Σ' (L7 : List (View.Piece (Elt F) S2x256x512 .bf16)), Σ' (L8 : List (View.Piece (Elt F) S2x8192x512 .f32)), Σ' (L9 : List (View.Piece (Elt F) S1x512 .f32)), Σ' (L10 : List (View.Piece (Elt F) S1x512 .f32)), { L11 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs7 ∗ owns (c : Thread nD τ) arg8 fullShare xs8 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (arg7.view.loc (c : Thread nD τ) ↦[arg7.view.set]{fullShare} arg7.view.writes (Elt F) (harg7.unread xs7) L7) ∗ (arg8.view.loc (c : Thread nD τ) ↦[arg8.view.set]{fullShare} arg8.view.writes (Elt F) (harg8.unread xs8) L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0_mla_attention i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    letI : ClosedOff (k0_off3 i) := ⟨![0, 0, 0], h3⟩
    letI : ClosedOff (k0_off5 i 1#32) := ⟨![1, 0, 0], h51⟩
    letI : ClosedOff (k0_off5 i 2#32) := ⟨![0, 0, 0], h52⟩
    simp only [cc0_mla_attention_eq_skeleton]; unfold cc0_mla_attention_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, ⟨%d11, %f11, -, H11⟩, Hk⟩
    obtain rfl := harg2.eq_unread hf2; obtain rfl := harg3.eq_unread hf3; obtain rfl := harg4.eq_unread hf4; obtain rfl := harg5.eq_unread hf5; obtain rfl := harg7.eq_unread hf7; obtain rfl := harg8.eq_unread hf8
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexact H7
    isplitl [H8]; · iexact H8
    isplitl [H9]; · iexists _; iexact H9
    isplitl [H10]; · iexists _; iexact H10
    iexists _; iexact H11

set_option maxHeartbeats 4000000 in
/-- A later point of even number: its turned query block lies in the first slot, and it leaves the next one's in the second. -/
noncomputable def runEven (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![1, 0, 0]) (h51 : k0_off5 i 1#32 = ![0, 0, 0]) (h52 : k0_off5 i 2#32 = ![1, 0, 0])
    (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) :
    Σ' (L6 : List (View.Piece (Elt F) S512x128 .bf16)), Σ' (L7 : List (View.Piece (Elt F) S2x256x512 .bf16)), Σ' (L8 : List (View.Piece (Elt F) S2x8192x512 .f32)), Σ' (L9 : List (View.Piece (Elt F) S1x512 .f32)), Σ' (L10 : List (View.Piece (Elt F) S1x512 .f32)), { L11 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs7 ∗ owns (c : Thread nD τ) arg8 fullShare xs8 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (arg7.view.loc (c : Thread nD τ) ↦[arg7.view.set]{fullShare} arg7.view.writes (Elt F) (harg7.unread xs7) L7) ∗ (arg8.view.loc (c : Thread nD τ) ↦[arg8.view.set]{fullShare} arg8.view.writes (Elt F) (harg8.unread xs8) L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0_mla_attention i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    letI : ClosedOff (k0_off3 i) := ⟨![1, 0, 0], h3⟩
    letI : ClosedOff (k0_off5 i 1#32) := ⟨![0, 0, 0], h51⟩
    letI : ClosedOff (k0_off5 i 2#32) := ⟨![1, 0, 0], h52⟩
    simp only [cc0_mla_attention_eq_skeleton]; unfold cc0_mla_attention_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, ⟨%d11, %f11, -, H11⟩, Hk⟩
    obtain rfl := harg2.eq_unread hf2; obtain rfl := harg3.eq_unread hf3; obtain rfl := harg4.eq_unread hf4; obtain rfl := harg5.eq_unread hf5; obtain rfl := harg7.eq_unread hf7; obtain rfl := harg8.eq_unread hf8
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexact H7
    isplitl [H8]; · iexact H8
    isplitl [H9]; · iexists _; iexact H9
    isplitl [H10]; · iexists _; iexact H10
    iexists _; iexact H11

end Cert.Kernel3Ideal.Gen

end
-- ==== Proof.Mla.Out.lean ====
/- What a point of the attention leaves: its block of the result, the turned query block of the next point, and the
scores of the first half of the keys for the next point. -/
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Mla.Run
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of one slot of a buffer right after a store into that same slot reads the stored block. -/
theorem slot_hit {S : Shape} {e : EltTy} {sp : Space} (v : View sig .tc sp S e) {o o' p : Fin S.rank → ℕ} {sz : Fin S.rank → ℕ}
    (h : o = p) (h' : o' = p) (inb : ∀ a, o a + sz a ≤ S.size a) (inb' : ∀ a, o' a + sz a ≤ S.size a)
    (w : (Rect.unit o sz inb).shape.Idx → Elt F e) (L : List (View.Piece (Elt F) S e)) :
    v.readCov ((⟨Rect.unit o sz inb, w⟩ : View.Piece (Elt F) S e) :: L) (Rect.unit o' sz inb').toLoadRect = w := by
  subst h; subst h'
  exact View.readCov_cons_toLoadRect v _ w L

/-- A store into another slot leaves a slot's load what it was. -/
theorem slot_miss {S : Shape} {e : EltTy} {sp : Space} (v : View sig .tc sp S e) {o o' p p' : Fin S.rank → ℕ} {sz : Fin S.rank → ℕ}
    (h : o = p) (h' : o' = p') (inb : ∀ a, o a + sz a ≤ S.size a) (inb' : ∀ a, o' a + sz a ≤ S.size a)
    (w : (Rect.unit o sz inb).shape.Idx → Elt F e) (L : List (View.Piece (Elt F) S e)) (a : Fin S.rank) (ha : p a + sz a ≤ p' a ∨ p' a + sz a ≤ p a) :
    v.readCov ((⟨Rect.unit o sz inb, w⟩ : View.Piece (Elt F) S e) :: L) (Rect.unit o' sz inb').toLoadRect = v.readCov L (Rect.unit o' sz inb').toLoadRect := by
  subst h; subst h'
  rw [View.readCov_eq_canon', View.readCov_eq_canon']
  funext j
  refine View.canon_cons_of_not_mem _ L fun q => ?_
  have q' := ((Rect.mem_set_unit (inb := inb)).1 q) a
  have e1 : (((Rect.unit o' sz inb').toLoadRect.idx j) a).val = o' a + 1 * (j a).val := rfl
  have e2 : (j a).val < sz a := (j a).isLt
  omega

/-- A whole buffer after stores, at a slot just stored. -/
theorem left_hit {S : Shape} {e : EltTy} {sp : Space} (v : View sig .tc sp S e) (f : v.ty.Contents (Elt F)) {o p : Fin S.rank → ℕ} {sz : Fin S.rank → ℕ}
    (h : o = p) (inb : ∀ a, o a + sz a ≤ S.size a) (inb' : ∀ a, p a + sz a ≤ S.size a)
    (w : (Rect.unit o sz inb).shape.Idx → Elt F e) (L : List (View.Piece (Elt F) S e)) :
    View.ld (v.read (Elt F) (v.writes (Elt F) f ((⟨Rect.unit o sz inb, w⟩ : View.Piece (Elt F) S e) :: L))) (Rect.unit p sz inb') = w := by
  subst h
  funext j
  exact View.read_writes_cons_emb v f (Rect.unit o sz inb) w L j

/-- A load at an offset known to be another spelling of it. -/
theorem ld_at {S : Shape} {e : EltTy} (T : S.Idx → Elt F e) {o p : Fin S.rank → ℕ} {sz : Fin S.rank → ℕ} (h : o = p)
    (inb : ∀ a, o a + sz a ≤ S.size a) (inb' : ∀ a, p a + sz a ≤ S.size a) : View.ld T (Rect.unit o sz inb) = View.ld T (Rect.unit p sz inb') := by
  subst h; rfl

theorem inbT0 : ∀ a, (![0, 0, 0] : Fin 3 → ℕ) a + S1x256x512.size a ≤ S2x256x512.size a := by decide
theorem inbT1 : ∀ a, (![1, 0, 0] : Fin 3 → ℕ) a + S1x256x512.size a ≤ S2x256x512.size a := by decide
theorem inbS0 : ∀ a, (![0, 0, 0] : Fin 3 → ℕ) a + S1x8192x512.size a ≤ S2x8192x512.size a := by decide
theorem inbK0 : ∀ a, (![0, 0, 0] : Fin 3 → ℕ) a + S1x8192x256.size a ≤ S1x16384x256.size a := by decide
theorem inbK1 : ∀ a, (![0, 8192, 0] : Fin 3 → ℕ) a + S1x8192x256.size a ≤ S1x16384x256.size a := by decide
theorem inbV0 : ∀ a, (![0, 0] : Fin 2 → ℕ) a + S128x8192.size a ≤ S128x16384.size a := by decide
theorem inbV1 : ∀ a, (![0, 8192] : Fin 2 → ℕ) a + S128x8192.size a ≤ S128x16384.size a := by decide

/-- The two slots of turned query blocks, and the first slot of scores. -/
abbrev slotT0 (T : Vec F S2x256x512 .bf16) : Vec F S1x256x512 .bf16 := View.ld T (Rect.unit (s := S2x256x512) ![0, 0, 0] S1x256x512.size inbT0)
abbrev slotT1 (T : Vec F S2x256x512 .bf16) : Vec F S1x256x512 .bf16 := View.ld T (Rect.unit (s := S2x256x512) ![1, 0, 0] S1x256x512.size inbT1)
abbrev slotS0 (T : Vec F S2x8192x512 .f32) : Vec F S1x8192x512 .f32 := View.ld T (Rect.unit (s := S2x8192x512) ![0, 0, 0] S1x8192x512.size inbS0)
/-- The two halves of a head's keys and of its values. -/
abbrev keys0 (k : Vec F S1x16384x256 .bf16) : Vec F S1x8192x256 .bf16 := View.ld k (Rect.unit (s := S1x16384x256) ![0, 0, 0] S1x8192x256.size inbK0)
abbrev keys1 (k : Vec F S1x16384x256 .bf16) : Vec F S1x8192x256 .bf16 := View.ld k (Rect.unit (s := S1x16384x256) ![0, 8192, 0] S1x8192x256.size inbK1)
abbrev vals0 (v : Vec F S128x16384 .bf16) : Vec F S128x8192 .bf16 := View.ld v (Rect.unit (s := S128x16384) ![0, 0] S128x8192.size inbV0)
abbrev vals1 (v : Vec F S128x16384 .bf16) : Vec F S128x8192 .bf16 := View.ld v (Rect.unit (s := S128x16384) ![0, 8192] S128x8192.size inbV1)

/-- A point's block of the result from the scores of the first half, those of the second half and the values. -/
def mixOf (s0 s1 : Vec F S1x8192x512 .f32) (v0 v1 : Vec F S128x8192 .bf16) : Vec F S512x128 .bf16 :=
  k0_pay2
    (k0_pay26 s1 v1 (k0_pay18 (k0_pay13 s0 k0_pay6)) (k0_pay17 (k0_pay12 v0) (k0_pay14 s0 k0_pay6) (k0_pay15 s0 k0_pay6) (k0_pay9 k0_pay8)))
    (k0_pay25 s1 (k0_pay18 (k0_pay13 s0 k0_pay6)) (k0_pay16 (k0_pay14 s0 k0_pay6) (k0_pay15 s0 k0_pay6) k0_pay7))

/-- A point's block of the result from its own query block, the head's keys and its values. -/
def outVal (q : Vec F S1x512x256 .bf16) (k : Vec F S1x16384x256 .bf16) (v : Vec F S128x16384 .bf16) : Vec F S512x128 .bf16 :=
  mixOf (k0_pay4 (keys0 k) (k0_pay3 q)) (k0_pay10 (keys1 k) (k0_pay3 q)) (vals0 v) (vals1 v)

theorem turn_eq (q : Vec F S1x512x256 .bf16) : k0_pay5 q = k0_pay3 q := rfl
theorem score_eq (k : Vec F S1x8192x256 .bf16) (t : Vec F S1x256x512 .bf16) : k0_pay20 (k0_pay19 k t) = k0_pay4 k t := rfl

abbrev VO0_4 : View sig .tc .vmem S512x128 .bf16 := (Memref.whole cc0_stg4_0 : Memref sig .tc .vmem S512x128 .bf16).view

/-- The block a first point of a head leaves in the result's buffer. -/
def out0_A_4 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : k0_cond1 i = 1#1) (h2 : k0_off2 i = ![0, 0, 0]) (h3 : k0_off3 i = ![1, 0, 0]) (h51 : k0_off5 i 1#32 = ![0, 0, 0]) (h52 : k0_off5 i 2#32 = ![1, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) : Vec F S512x128 .bf16 :=
  VO0_4.read (Elt F) (VO0_4.writes (Elt F) VO0_4.junk (runFirst c i arg2 harg2 arg3 harg3 arg4 harg4 arg5 harg5 arg6 harg6 arg7 harg7 arg8 harg8 arg9 harg9 arg10 harg10 arg11 harg11 hc h2 h3 h51 h52 x0 x1 x2 x3 xs7 xs8).1)

theorem cover0_A_4 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : k0_cond1 i = 1#1) (h2 : k0_off2 i = ![0, 0, 0]) (h3 : k0_off3 i = ![1, 0, 0]) (h51 : k0_off5 i 1#32 = ![0, 0, 0]) (h52 : k0_off5 i 2#32 = ![1, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) (y : S512x128.Idx) : ∃ pc ∈ (runFirst c i arg2 harg2 arg3 harg3 arg4 harg4 arg5 harg5 arg6 harg6 arg7 harg7 arg8 harg8 arg9 harg9 arg10 harg10 arg11 harg11 hc h2 h3 h51 h52 x0 x1 x2 x3 xs7 xs8).1, y ∈ pc.1.set :=
  View.cover_of_tiledL (runFirst c i arg2 harg2 arg3 harg3 arg4 harg4 arg5 harg5 arg6 harg6 arg7 harg7 arg8 harg8 arg9 harg9 arg10 harg10 arg11 harg11 hc h2 h3 h51 h52 x0 x1 x2 x3 xs7 xs8).1 S512x128.size (by sl_kernel_rfl) y

/-- The two buffers kept from point to point, as a first point of a head leaves them. -/
def sout0_A_7 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : k0_cond1 i = 1#1) (h2 : k0_off2 i = ![0, 0, 0]) (h3 : k0_off3 i = ![1, 0, 0]) (h51 : k0_off5 i 1#32 = ![0, 0, 0]) (h52 : k0_off5 i 2#32 = ![1, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) : Vec F S2x256x512 .bf16 :=
  arg7.view.read (Elt F) (arg7.view.writes (Elt F) (harg7.unread xs7) (runFirst c i arg2 harg2 arg3 harg3 arg4 harg4 arg5 harg5 arg6 harg6 arg7 harg7 arg8 harg8 arg9 harg9 arg10 harg10 arg11 harg11 hc h2 h3 h51 h52 x0 x1 x2 x3 xs7 xs8).2.1)

def sout0_A_8 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : k0_cond1 i = 1#1) (h2 : k0_off2 i = ![0, 0, 0]) (h3 : k0_off3 i = ![1, 0, 0]) (h51 : k0_off5 i 1#32 = ![0, 0, 0]) (h52 : k0_off5 i 2#32 = ![1, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) : Vec F S2x8192x512 .f32 :=
  arg8.view.read (Elt F) (arg8.view.writes (Elt F) (harg8.unread xs8) (runFirst c i arg2 harg2 arg3 harg3 arg4 harg4 arg5 harg5 arg6 harg6 arg7 harg7 arg8 harg8 arg9 harg9 arg10 harg10 arg11 harg11 hc h2 h3 h51 h52 x0 x1 x2 x3 xs7 xs8).2.2.1)

theorem out0_A_4_eq (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : k0_cond1 i = 1#1) (h2 : k0_off2 i = ![0, 0, 0]) (h3 : k0_off3 i = ![1, 0, 0]) (h51 : k0_off5 i 1#32 = ![0, 0, 0]) (h52 : k0_off5 i 2#32 = ![1, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) : out0_A_4 c i arg2 harg2 arg3 harg3 arg4 harg4 arg5 harg5 arg6 harg6 arg7 harg7 arg8 harg8 arg9 harg9 arg10 harg10 arg11 harg11 hc h2 h3 h51 h52 x0 x1 x2 x3 xs7 xs8 = outVal x0 x2 x3 := by
  frame_out
  rw [slot_hit (F := F) arg7.view rfl h2, slot_miss (F := F) arg7.view h3 h51 _ _ _ _ (0 : Fin 3) (.inr (le_refl 1)),
    slot_hit (F := F) arg7.view rfl h51, slot_miss (F := F) arg8.view rfl rfl _ _ _ _ (0 : Fin 3) (.inl (le_refl 1)),
    slot_hit (F := F) arg8.view rfl rfl, slot_miss (F := F) arg8.view rfl rfl _ _ _ _ (0 : Fin 3) (.inr (le_refl 1)),
    slot_hit (F := F) arg8.view rfl rfl, ld_at x3 k0_off6_eq _ inbV0, ld_at x3 k0_off7_eq _ inbV1, ld_at x2 k0_off1_eq _ inbK0]
  rfl

theorem sout0_A_7_eq (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : k0_cond1 i = 1#1) (h2 : k0_off2 i = ![0, 0, 0]) (h3 : k0_off3 i = ![1, 0, 0]) (h51 : k0_off5 i 1#32 = ![0, 0, 0]) (h52 : k0_off5 i 2#32 = ![1, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) : slotT1 (sout0_A_7 c i arg2 harg2 arg3 harg3 arg4 harg4 arg5 harg5 arg6 harg6 arg7 harg7 arg8 harg8 arg9 harg9 arg10 harg10 arg11 harg11 hc h2 h3 h51 h52 x0 x1 x2 x3 xs7 xs8) = k0_pay3 x1 := by
  frame_out
  exact left_hit (F := F) arg7.view _ h3 _ inbT1 _ _

theorem sout0_A_8_eq (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : k0_cond1 i = 1#1) (h2 : k0_off2 i = ![0, 0, 0]) (h3 : k0_off3 i = ![1, 0, 0]) (h51 : k0_off5 i 1#32 = ![0, 0, 0]) (h52 : k0_off5 i 2#32 = ![1, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) : slotS0 (sout0_A_8 c i arg2 harg2 arg3 harg3 arg4 harg4 arg5 harg5 arg6 harg6 arg7 harg7 arg8 harg8 arg9 harg9 arg10 harg10 arg11 harg11 hc h2 h3 h51 h52 x0 x1 x2 x3 xs7 xs8) = k0_pay4 (keys0 x2) (k0_pay3 x1) := by
  frame_out
  rw [slot_hit (F := F) arg7.view h3 h52]
  exact left_hit (F := F) arg8.view _ rfl _ inbS0 _ _

/-- The block a point of odd number leaves in the result's buffer. -/
def out0_B_4 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![0, 0, 0]) (h51 : k0_off5 i 1#32 = ![1, 0, 0]) (h52 : k0_off5 i 2#32 = ![0, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) : Vec F S512x128 .bf16 :=
  VO0_4.read (Elt F) (VO0_4.writes (Elt F) VO0_4.junk (runOdd c i arg2 harg2 arg3 harg3 arg4 harg4 arg5 harg5 arg6 harg6 arg7 harg7 arg8 harg8 arg9 harg9 arg10 harg10 arg11 harg11 hc h3 h51 h52 x0 x1 x2 x3 xs7 xs8).1)

theorem cover0_B_4 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![0, 0, 0]) (h51 : k0_off5 i 1#32 = ![1, 0, 0]) (h52 : k0_off5 i 2#32 = ![0, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) (y : S512x128.Idx) : ∃ pc ∈ (runOdd c i arg2 harg2 arg3 harg3 arg4 harg4 arg5 harg5 arg6 harg6 arg7 harg7 arg8 harg8 arg9 harg9 arg10 harg10 arg11 harg11 hc h3 h51 h52 x0 x1 x2 x3 xs7 xs8).1, y ∈ pc.1.set :=
  View.cover_of_tiledL (runOdd c i arg2 harg2 arg3 harg3 arg4 harg4 arg5 harg5 arg6 harg6 arg7 harg7 arg8 harg8 arg9 harg9 arg10 harg10 arg11 harg11 hc h3 h51 h52 x0 x1 x2 x3 xs7 xs8).1 S512x128.size (by sl_kernel_rfl) y

/-- The two buffers kept from point to point, as a point of odd number leaves them. -/
def sout0_B_7 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![0, 0, 0]) (h51 : k0_off5 i 1#32 = ![1, 0, 0]) (h52 : k0_off5 i 2#32 = ![0, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) : Vec F S2x256x512 .bf16 :=
  arg7.view.read (Elt F) (arg7.view.writes (Elt F) (harg7.unread xs7) (runOdd c i arg2 harg2 arg3 harg3 arg4 harg4 arg5 harg5 arg6 harg6 arg7 harg7 arg8 harg8 arg9 harg9 arg10 harg10 arg11 harg11 hc h3 h51 h52 x0 x1 x2 x3 xs7 xs8).2.1)

def sout0_B_8 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![0, 0, 0]) (h51 : k0_off5 i 1#32 = ![1, 0, 0]) (h52 : k0_off5 i 2#32 = ![0, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) : Vec F S2x8192x512 .f32 :=
  arg8.view.read (Elt F) (arg8.view.writes (Elt F) (harg8.unread xs8) (runOdd c i arg2 harg2 arg3 harg3 arg4 harg4 arg5 harg5 arg6 harg6 arg7 harg7 arg8 harg8 arg9 harg9 arg10 harg10 arg11 harg11 hc h3 h51 h52 x0 x1 x2 x3 xs7 xs8).2.2.1)

theorem out0_B_4_eq (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![0, 0, 0]) (h51 : k0_off5 i 1#32 = ![1, 0, 0]) (h52 : k0_off5 i 2#32 = ![0, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) (hT : slotT1 xs7 = k0_pay3 x0) (hS : slotS0 xs8 = k0_pay4 (keys0 x2) (k0_pay3 x0)) : out0_B_4 c i arg2 harg2 arg3 harg3 arg4 harg4 arg5 harg5 arg6 harg6 arg7 harg7 arg8 harg8 arg9 harg9 arg10 harg10 arg11 harg11 hc h3 h51 h52 x0 x1 x2 x3 xs7 xs8 = outVal x0 x2 x3 := by
  frame_out
  rw [slot_miss (F := F) arg8.view rfl rfl _ _ _ _ (0 : Fin 3) (.inl (le_refl 1)),
    slot_hit (F := F) arg8.view rfl rfl, ld_at x3 k0_off6_eq _ inbV0, ld_at x3 k0_off7_eq _ inbV1, ld_at xs7 h51 _ inbT1]
  unfold outVal mixOf
  rw [← hT, show k0_pay4 (keys0 x2) (slotT1 xs7) = slotS0 xs8 by rw [hT, hS]]

theorem sout0_B_7_eq (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![0, 0, 0]) (h51 : k0_off5 i 1#32 = ![1, 0, 0]) (h52 : k0_off5 i 2#32 = ![0, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) : slotT0 (sout0_B_7 c i arg2 harg2 arg3 harg3 arg4 harg4 arg5 harg5 arg6 harg6 arg7 harg7 arg8 harg8 arg9 harg9 arg10 harg10 arg11 harg11 hc h3 h51 h52 x0 x1 x2 x3 xs7 xs8) = k0_pay3 x1 := by
  frame_out
  exact left_hit (F := F) arg7.view _ h3 _ inbT0 _ _

theorem sout0_B_8_eq (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![0, 0, 0]) (h51 : k0_off5 i 1#32 = ![1, 0, 0]) (h52 : k0_off5 i 2#32 = ![0, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) : slotS0 (sout0_B_8 c i arg2 harg2 arg3 harg3 arg4 harg4 arg5 harg5 arg6 harg6 arg7 harg7 arg8 harg8 arg9 harg9 arg10 harg10 arg11 harg11 hc h3 h51 h52 x0 x1 x2 x3 xs7 xs8) = k0_pay4 (keys0 x2) (k0_pay3 x1) := by
  frame_out
  rw [slot_hit (F := F) arg7.view h3 h52]
  exact left_hit (F := F) arg8.view _ rfl _ inbS0 _ _

/-- The block a point of even number, not the first of its head leaves in the result's buffer. -/
def out0_C_4 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![1, 0, 0]) (h51 : k0_off5 i 1#32 = ![0, 0, 0]) (h52 : k0_off5 i 2#32 = ![1, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) : Vec F S512x128 .bf16 :=
  VO0_4.read (Elt F) (VO0_4.writes (Elt F) VO0_4.junk (runEven c i arg2 harg2 arg3 harg3 arg4 harg4 arg5 harg5 arg6 harg6 arg7 harg7 arg8 harg8 arg9 harg9 arg10 harg10 arg11 harg11 hc h3 h51 h52 x0 x1 x2 x3 xs7 xs8).1)

theorem cover0_C_4 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![1, 0, 0]) (h51 : k0_off5 i 1#32 = ![0, 0, 0]) (h52 : k0_off5 i 2#32 = ![1, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) (y : S512x128.Idx) : ∃ pc ∈ (runEven c i arg2 harg2 arg3 harg3 arg4 harg4 arg5 harg5 arg6 harg6 arg7 harg7 arg8 harg8 arg9 harg9 arg10 harg10 arg11 harg11 hc h3 h51 h52 x0 x1 x2 x3 xs7 xs8).1, y ∈ pc.1.set :=
  View.cover_of_tiledL (runEven c i arg2 harg2 arg3 harg3 arg4 harg4 arg5 harg5 arg6 harg6 arg7 harg7 arg8 harg8 arg9 harg9 arg10 harg10 arg11 harg11 hc h3 h51 h52 x0 x1 x2 x3 xs7 xs8).1 S512x128.size (by sl_kernel_rfl) y

/-- The two buffers kept from point to point, as a point of even number, not the first of its head leaves them. -/
def sout0_C_7 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![1, 0, 0]) (h51 : k0_off5 i 1#32 = ![0, 0, 0]) (h52 : k0_off5 i 2#32 = ![1, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) : Vec F S2x256x512 .bf16 :=
  arg7.view.read (Elt F) (arg7.view.writes (Elt F) (harg7.unread xs7) (runEven c i arg2 harg2 arg3 harg3 arg4 harg4 arg5 harg5 arg6 harg6 arg7 harg7 arg8 harg8 arg9 harg9 arg10 harg10 arg11 harg11 hc h3 h51 h52 x0 x1 x2 x3 xs7 xs8).2.1)

def sout0_C_8 (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![1, 0, 0]) (h51 : k0_off5 i 1#32 = ![0, 0, 0]) (h52 : k0_off5 i 2#32 = ![1, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) : Vec F S2x8192x512 .f32 :=
  arg8.view.read (Elt F) (arg8.view.writes (Elt F) (harg8.unread xs8) (runEven c i arg2 harg2 arg3 harg3 arg4 harg4 arg5 harg5 arg6 harg6 arg7 harg7 arg8 harg8 arg9 harg9 arg10 harg10 arg11 harg11 hc h3 h51 h52 x0 x1 x2 x3 xs7 xs8).2.2.1)

theorem out0_C_4_eq (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![1, 0, 0]) (h51 : k0_off5 i 1#32 = ![0, 0, 0]) (h52 : k0_off5 i 2#32 = ![1, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) (hT : slotT0 xs7 = k0_pay3 x0) (hS : slotS0 xs8 = k0_pay4 (keys0 x2) (k0_pay3 x0)) : out0_C_4 c i arg2 harg2 arg3 harg3 arg4 harg4 arg5 harg5 arg6 harg6 arg7 harg7 arg8 harg8 arg9 harg9 arg10 harg10 arg11 harg11 hc h3 h51 h52 x0 x1 x2 x3 xs7 xs8 = outVal x0 x2 x3 := by
  frame_out
  rw [slot_miss (F := F) arg8.view rfl rfl _ _ _ _ (0 : Fin 3) (.inl (le_refl 1)),
    slot_hit (F := F) arg8.view rfl rfl, ld_at x3 k0_off6_eq _ inbV0, ld_at x3 k0_off7_eq _ inbV1, ld_at xs7 h51 _ inbT0]
  unfold outVal mixOf
  rw [← hT, show k0_pay4 (keys0 x2) (slotT0 xs7) = slotS0 xs8 by rw [hT, hS]]

theorem sout0_C_7_eq (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![1, 0, 0]) (h51 : k0_off5 i 1#32 = ![0, 0, 0]) (h52 : k0_off5 i 2#32 = ![1, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) : slotT1 (sout0_C_7 c i arg2 harg2 arg3 harg3 arg4 harg4 arg5 harg5 arg6 harg6 arg7 harg7 arg8 harg8 arg9 harg9 arg10 harg10 arg11 harg11 hc h3 h51 h52 x0 x1 x2 x3 xs7 xs8) = k0_pay3 x1 := by
  frame_out
  exact left_hit (F := F) arg7.view _ h3 _ inbT1 _ _

theorem sout0_C_8_eq (c : Dev nD) (i : grid0.Coords) (arg2 : Memref sig .tc .vmem S1x512x256 .bf16) (harg2 : arg2.IsWhole) (arg3 : Memref sig .tc .vmem S1x512x256 .bf16) (harg3 : arg3.IsWhole) (arg4 : Memref sig .tc .vmem S1x16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x256x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![1, 0, 0]) (h51 : k0_off5 i 1#32 = ![0, 0, 0]) (h52 : k0_off5 i 2#32 = ![1, 0, 0]) (x0 : Vec F S1x512x256 .bf16) (x1 : Vec F S1x512x256 .bf16) (x2 : Vec F S1x16384x256 .bf16) (x3 : Vec F S128x16384 .bf16) (xs7 : Vec F S2x256x512 .bf16) (xs8 : Vec F S2x8192x512 .f32) : slotS0 (sout0_C_8 c i arg2 harg2 arg3 harg3 arg4 harg4 arg5 harg5 arg6 harg6 arg7 harg7 arg8 harg8 arg9 harg9 arg10 harg10 arg11 harg11 hc h3 h51 h52 x0 x1 x2 x3 xs7 xs8) = k0_pay4 (keys0 x2) (k0_pay3 x1) := by
  frame_out
  rw [slot_hit (F := F) arg7.view h3 h52]
  exact left_hit (F := F) arg8.view _ rfl _ inbS0 _ _

end Cert.Kernel3Ideal.Gen

end
-- ==== Proof.Mla.Spec.lean ====
/- What one head's attention computes, as extended reals: the values weighted by two to the power of their scores, over
the weights' sum. -/
module

public import Idealize.ShloMosaic.Lib.Pointwise

@[expose] public section

noncomputable section

namespace Cert.Mla

open Idealize.ShloMosaic

/-- An extended real that is a real number. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h
  · rw [h]; exact hx
  · rw [h]; exact hy

theorem IsReal.sum {ι : Type} (s : Finset ι) (f : ι → EReal) (h : ∀ i, IsReal (f i)) : IsReal (∑ i ∈ s, f i) := by
  classical
  induction s using Finset.induction_on with
  | empty => exact ⟨0, by simp⟩
  | insert a t ha ih =>
    obtain ⟨x, hx⟩ := h a
    obtain ⟨y, hy⟩ := ih
    exact ⟨x + y, by rw [Finset.sum_insert ha, hx, hy, EReal.coe_add]⟩

/-- The greatest of a nonempty family of real numbers, from `-∞`, is a real number. -/
theorem IsReal.fold_max {ι : Type} [Fintype ι] [Nonempty ι] (f : ι → EReal) (h : ∀ i, IsReal (f i)) :
    IsReal ((Finset.univ : Finset ι).fold Max.max ⊥ f) := by
  classical
  suffices H : ∀ s : Finset ι, (s.fold Max.max ⊥ f = ⊥ ∧ s = ∅) ∨ IsReal (s.fold Max.max ⊥ f) by
    rcases H Finset.univ with ⟨_, h0⟩ | h1
    · exact absurd h0 Finset.univ_nonempty.ne_empty
    · exact h1
  intro s
  induction s using Finset.induction_on with
  | empty => exact .inl ⟨rfl, rfl⟩
  | insert a t ha ih =>
    refine .inr ?_
    rw [Finset.fold_insert ha]
    rcases ih with ⟨h0, _⟩ | h1
    · rw [h0, max_eq_left bot_le]; exact h a
    · exact (h a).max h1

/-- A real factor that is not negative goes into a sum of extended reals. -/
theorem scale_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a t ha ih =>
    rw [Finset.sum_insert ha, Finset.sum_insert ha, EReal.left_distrib_of_nonneg_of_ne_top (EReal.coe_nonneg.2 hc) (EReal.coe_ne_top c), ih]

/-- A positive real factor of both sides of a quotient goes away. -/
theorem div_scale (c l : ℝ) (hc : 0 < c) (hl : 0 < l) (a : EReal) : Ideal.div ((c : EReal) * a) ((c : EReal) * (l : EReal)) = Ideal.div a (l : EReal) := by
  rw [← EReal.coe_mul, Ideal.div_coe (mul_pos hc hl).ne', Ideal.div_coe hl.ne', mul_comm (c : EReal) a, mul_assoc, ← EReal.coe_mul]
  refine congrArg (fun z : ℝ => a * (z : EReal)) ?_
  field_simp

theorem exp2_sub (a b : ℝ) : Ideal.exp2 ((a : EReal) - (b : EReal)) = ((Real.rpow 2 (-b) : ℝ) : EReal) * Ideal.exp2 (a : EReal) := by
  rw [← EReal.coe_sub, Ideal.exp2_coe, Ideal.exp2_coe, ← EReal.coe_mul]
  refine congrArg (fun z : ℝ => (z : EReal)) ?_
  show (2 : ℝ) ^ (a - b) = (2 : ℝ) ^ (-b) * (2 : ℝ) ^ a
  rw [← Real.rpow_add (by norm_num), neg_add_eq_sub]

theorem exp_sub (a b : ℝ) : Ideal.exp ((a : EReal) * ((Real.log 2 : ℝ) : EReal) - (b : EReal)) = ((Real.exp (-b) : ℝ) : EReal) * Ideal.exp2 (a : EReal) := by
  rw [← EReal.coe_mul, ← EReal.coe_sub, Ideal.exp_coe, Ideal.exp2_coe, ← EReal.coe_mul]
  refine congrArg (fun z : ℝ => (z : EReal)) ?_
  show Real.exp (a * Real.log 2 - b) = Real.exp (-b) * (2 : ℝ) ^ a
  rw [Real.rpow_def_of_pos (by norm_num), ← Real.exp_add]
  ring_nf

theorem rpow_pos (x : ℝ) : 0 < Real.rpow 2 x := Real.rpow_pos_of_pos (by norm_num) x

theorem coe_total {ι : Type} (s : Finset ι) (f : ι → ℝ) : ((∑ i ∈ s, f i : ℝ) : EReal) = ∑ i ∈ s, (f i : EReal) := by
  classical
  induction s using Finset.induction_on with
  | empty => simp
  | insert a t ha ih => rw [Finset.sum_insert ha, Finset.sum_insert ha, EReal.coe_add, ih]

/-- The weights' sum is a positive real number. -/
theorem total_pos {ι : Type} [Fintype ι] [Nonempty ι] (a : ι → EReal) (ha : ∀ i, IsReal (a i)) : ∃ l : ℝ, 0 < l ∧ ∑ i, Ideal.exp2 (a i) = (l : EReal) := by
  choose r hr using ha
  refine ⟨∑ i, Real.rpow 2 (r i), Finset.sum_pos (fun i _ => rpow_pos _) Finset.univ_nonempty, ?_⟩
  rw [coe_total]
  exact Finset.sum_congr rfl fun i _ => by rw [hr i, Ideal.exp2_coe]

/-- Two chunks of keys, the first rescaled to the second's offset: the weighted sum over both, times one factor. -/
theorem merge {ι : Type} [Fintype ι] (a b : ι → EReal) (ha : ∀ i, IsReal (a i)) (hb : ∀ i, IsReal (b i)) (v w : ι → EReal) (m0 m1 : ℝ) :
    Ideal.exp2 ((m0 : EReal) - (m1 : EReal)) * (∑ i, v i * Ideal.exp2 (a i - (m0 : EReal))) + ∑ i, w i * Ideal.exp2 (b i - (m1 : EReal))
      = ((Real.rpow 2 (-m1) : ℝ) : EReal) * (∑ i, v i * Ideal.exp2 (a i) + ∑ i, w i * Ideal.exp2 (b i)) := by
  rw [← EReal.coe_sub, Ideal.exp2_coe, scale_sum _ _ (rpow_pos _).le,
    EReal.left_distrib_of_nonneg_of_ne_top (EReal.coe_nonneg.2 (rpow_pos _).le) (EReal.coe_ne_top _), scale_sum _ _ (rpow_pos _).le, scale_sum _ _ (rpow_pos _).le]
  refine congrArg₂ (fun p q : EReal => p + q) (Finset.sum_congr rfl fun i _ => ?_) (Finset.sum_congr rfl fun i _ => ?_)
  · obtain ⟨r, hr⟩ := ha i
    rw [hr, exp2_sub, mul_left_comm, mul_left_comm _ (v i), ← mul_assoc (((Real.rpow 2 (m0 - m1) : ℝ)) : EReal), ← EReal.coe_mul]
    refine congrArg (fun z : ℝ => v i * ((z : EReal) * Ideal.exp2 (r : EReal))) ?_
    show (2 : ℝ) ^ (m0 - m1) * (2 : ℝ) ^ (-m0) = (2 : ℝ) ^ (-m1)
    rw [← Real.rpow_add (by norm_num)]
    congr 1
    ring
  · obtain ⟨r, hr⟩ := hb i
    rw [hr, exp2_sub, mul_left_comm]

/-- Key `j` of the first half, and of the second. -/
def lo (j : Fin 8192) : Fin 16384 := ⟨j.val, by omega⟩
def hi (j : Fin 8192) : Fin 16384 := ⟨8192 + j.val, by omega⟩

/-- A sum over all keys, half by half. -/
theorem sum_halves (h : Fin 16384 → EReal) : ∑ j, h j = ∑ j, h (lo j) + ∑ j, h (hi j) :=
  Fin.sum_univ_add (M := EReal) (a := 8192) (b := 8192) h

/-- The values weighted by two to the power of the scores, over the weights' sum. -/
def mix (s v : Fin 16384 → EReal) : EReal := Ideal.div (∑ j, v j * Ideal.exp2 (s j)) (∑ j, Ideal.exp2 (s j))

/-- The two halves of the keys taken one after the other, each under an offset of its own. -/
theorem mix_of_halves (s v : Fin 16384 → EReal) (hs : ∀ j, IsReal (s j)) (m0 m1 : EReal) (h0 : IsReal m0) (h1 : IsReal m1) :
    Ideal.div
      (Ideal.exp2 (m0 - m1) * (Ideal.exp2 (⊥ - m0) * 0 + ∑ j, v (lo j) * Ideal.exp2 (s (lo j) - m0)) + ∑ j, v (hi j) * Ideal.exp2 (s (hi j) - m1))
      (Ideal.exp2 (m0 - m1) * (Ideal.exp2 (⊥ - m0) * 0 + ∑ j, Ideal.exp2 (s (lo j) - m0)) + ∑ j, Ideal.exp2 (s (hi j) - m1))
      = mix s v := by
  obtain ⟨a, rfl⟩ := h0
  obtain ⟨b, rfl⟩ := h1
  have e1 := merge (fun j => s (lo j)) (fun j => s (hi j)) (fun j => hs _) (fun j => hs _) (fun j => v (lo j)) (fun j => v (hi j)) a b
  have e2 := merge (fun j => s (lo j)) (fun j => s (hi j)) (fun j => hs _) (fun j => hs _) (fun _ => 1) (fun _ => 1) a b
  simp only [one_mul] at e2
  obtain ⟨l, hl, hL⟩ := total_pos s hs
  unfold mix
  rw [mul_zero, zero_add, zero_add, e1, e2, ← sum_halves (fun j => v j * Ideal.exp2 (s j)), ← sum_halves (fun j => Ideal.exp2 (s j)), hL]
  exact div_scale _ _ (rpow_pos _) hl _

/-- The same as a softmax to the base `e` of the scores times `log 2`, under any offset. -/
theorem mix_of_softmax (s v : Fin 16384 → EReal) (hs : ∀ j, IsReal (s j)) (b : EReal) (hb : IsReal b) :
    ∑ j, v j * Ideal.div (Ideal.exp (s j * ((Real.log 2 : ℝ) : EReal) - b)) (∑ i, Ideal.exp (s i * ((Real.log 2 : ℝ) : EReal) - b)) = mix s v := by
  obtain ⟨b, rfl⟩ := hb
  have e : ∀ j, Ideal.exp (s j * ((Real.log 2 : ℝ) : EReal) - (b : EReal)) = ((Real.exp (-b) : ℝ) : EReal) * Ideal.exp2 (s j) := by
    intro j
    obtain ⟨r, hr⟩ := hs j
    rw [hr, exp_sub]
  obtain ⟨l, hl, hL⟩ := total_pos s hs
  have hc : 0 < Real.exp (-b) := Real.exp_pos _
  simp only [e]
  rw [← scale_sum _ _ hc.le, hL]
  simp only [div_scale _ _ hc hl]
  unfold mix
  rw [hL, Ideal.div_coe hl.ne', mul_comm, scale_sum _ _ (by positivity)]
  refine Finset.sum_congr rfl fun j _ => ?_
  rw [Ideal.div_coe hl.ne', mul_comm (((1 / l : ℝ)) : EReal), mul_assoc]

/-- The score of a query row and a key row of a head. -/
def score (q k : FVec Ideal ⟨4, ![1, 16384, 16, 192]⟩ .bf16) (h : Fin 16) (r j : Fin 16384) : EReal := ∑ x : Fin 192, q (ix4 0 r h x) * k (ix4 0 j h x)

theorem score_real {q k : FVec Ideal ⟨4, ![1, 16384, 16, 192]⟩ .bf16} (hq : ∀ i, IsReal (q i)) (hk : ∀ i, IsReal (k i)) (h : Fin 16) (r j : Fin 16384) :
    IsReal (score q k h r j) := IsReal.sum _ _ fun _ => (hq _).mul (hk _)

/-- The layer's result for a query row, a head and a column of the head's values. -/
def outAt (q k : FVec Ideal ⟨4, ![1, 16384, 16, 192]⟩ .bf16) (v : FVec Ideal ⟨4, ![1, 16384, 16, 128]⟩ .bf16) (r : Fin 16384) (h : Fin 16) (d : Fin 128) : EReal :=
  mix (score q k h r) (fun j => v (ix4 0 j h d))

end Cert.Mla

end
-- ==== Proof.Mla.Step.lean ====
/- What a grid point writes out, at an index, from its blocks. -/
module

public import proofs.«01_k».proof.Proof.Mla.Out
public import proofs.«01_k».proof.Proof.Mla.Spec
public import Idealize.ShloMosaic.Lib.KernelVsHost

@[expose] public section

set_option maxRecDepth 16384

noncomputable section

namespace Cert.Kernel3Ideal.Gen

open Idealize.ShloMosaic Idealize.ShloMosaic.TcCoe Cert.Mla

theorem ofBits_bot : (FloatOps.ofBits .f32 0xFF800000#32 : Ideal .f32) = (⊥ : EReal) := by
  show Ideal.ofBits .f32 0xFF800000#32 = ⊥
  simp [Ideal.ofBits, Ideal.ieee]

/-- The greatest score of a column. -/
def colMax (s : Vec Ideal S1x8192x512 .f32) (r : Fin 512) : EReal := (Finset.univ : Finset (Fin 8192)).fold max ⊥ (fun j => s (ix3 0 j r))

theorem pay3_apply (q : Vec Ideal S1x512x256 .bf16) (x : Fin 256) (r : Fin 512) : (k0_pay3 q : FVec Ideal S1x256x512 .bf16) (ix3 0 x r) = q (ix3 0 r x) := by
  unfold k0_pay3; pointwise

theorem pay4_apply (k : Vec Ideal S1x8192x256 .bf16) (q : Vec Ideal S1x256x512 .bf16) (j : Fin 8192) (r : Fin 512) :
    (k0_pay4 k q : FVec Ideal S1x8192x512 .f32) (ix3 0 j r) = (∑ x : Fin 256, k (ix3 0 j x) * q (ix3 0 x r) : EReal) := by
  unfold k0_pay4; pointwise

theorem pay10_eq (k : Vec Ideal S1x8192x256 .bf16) (q : Vec Ideal S1x256x512 .bf16) : k0_pay10 k q = k0_pay4 k q := rfl

theorem pay6_apply (r : Fin 512) : (k0_pay6 (F := Ideal)) (ix2 0 r) = (⊥ : EReal) := by
  unfold k0_pay6
  pointwise
  exact ofBits_bot

theorem pay7_apply (r : Fin 512) : (k0_pay7 (F := Ideal)) (ix2 0 r) = (0 : EReal) := by
  unfold k0_pay7
  pointwise

theorem pay9_apply (d : Fin 128) (r : Fin 512) : (k0_pay9 (k0_pay8 (F := Ideal))) (ix2 d r) = (0 : EReal) := by
  unfold k0_pay9 k0_pay8
  pointwise

theorem pay11_apply (s : Vec Ideal S1x8192x512 .f32) (j : Fin 8192) (r : Fin 512) : (k0_pay11 s : FVec Ideal S8192x512 .f32) (ix2 j r) = s (ix3 0 j r) := by
  unfold k0_pay11; pointwise

theorem reduced_max (x : FVec Ideal S8192x512 .f32) (r : Fin 512) :
    (multiReduction .maximumf [0] S512 x 0xFF800000#32 reduces_S8192x512_S512 (.inl rfl) rfl : FVec Ideal S512 .f32) (ix1 r)
      = (Finset.univ : Finset (Fin 8192)).fold max (⊥ : EReal) (fun j => x (ix2 j r)) := by
  refine (Ideal.multiReduction_maximumf_single x _ reduces_S8192x512_S512 (.inl rfl) rfl (ix1 r)).trans ?_
  have e : (x ∘ Shape.Reduces.lift reduces_S8192x512_S512 (ix1 r)) = fun j : Fin 8192 => x (ix2 j r) := funext fun j =>
    congrArg x (funext fun a => match a with | ⟨0, _⟩ => rfl | ⟨1, _⟩ => rfl)
  exact congrArg₂ (fun b f => (Finset.univ : Finset (Fin 8192)).fold max (b : EReal) f) ofBits_bot e

theorem top_apply (w : FVec Ideal S512 .f32) (o : Vec Ideal S1x512 .f32) (r : Fin 512) :
    (maximumf o (shapeCast S1x512 w shapeCasts_S512_S1x512) : FVec Ideal S1x512 .f32) (ix2 0 r) = max (o (ix2 0 r) : EReal) (w (ix1 r)) := by
  pointwise

theorem pay13_apply (s : Vec Ideal S1x8192x512 .f32) (o : Vec Ideal S1x512 .f32) (r : Fin 512) :
    (k0_pay13 s o : FVec Ideal S1x512 .f32) (ix2 0 r) = max (o (ix2 0 r) : EReal) (colMax s r) := by
  unfold k0_pay13
  refine (top_apply _ o r).trans (congrArg (max (o (ix2 0 r) : EReal)) ((reduced_max _ r).trans ?_))
  exact congrArg (fun f => (Finset.univ : Finset (Fin 8192)).fold max (⊥ : EReal) f) (funext fun j => pay11_apply s j r)

theorem pow_apply (x : FVec Ideal S8192x512 .f32) (m : FVec Ideal S1x512 .f32) (j : Fin 8192) (r : Fin 512) :
    (exp2 (subf x (broadcastTo S8192x512 m broadcasts_S1x512_S8192x512)) : FVec Ideal S8192x512 .f32) (ix2 j r)
      = Ideal.exp2 ((x (ix2 j r) : EReal) - m (ix2 0 r)) := by
  pointwise
  try rfl

theorem pay14_apply (s : Vec Ideal S1x8192x512 .f32) (o : Vec Ideal S1x512 .f32) (j : Fin 8192) (r : Fin 512) :
    (k0_pay14 s o : FVec Ideal S8192x512 .f32) (ix2 j r) = Ideal.exp2 ((s (ix3 0 j r) : EReal) - max (o (ix2 0 r) : EReal) (colMax s r)) := by
  unfold k0_pay14
  exact (pow_apply _ _ j r).trans (congrArg Ideal.exp2 (congrArg₂ (fun a b : EReal => a - b) (pay11_apply s j r) (pay13_apply s o r)))

theorem pay15_apply (s : Vec Ideal S1x8192x512 .f32) (o : Vec Ideal S1x512 .f32) (r : Fin 512) :
    (k0_pay15 s o : FVec Ideal S1x512 .f32) (ix2 0 r) = Ideal.exp2 ((o (ix2 0 r) : EReal) - max (o (ix2 0 r) : EReal) (colMax s r)) :=
  congrArg (fun b : EReal => Ideal.exp2 ((o (ix2 0 r) : EReal) - b)) (pay13_apply s o r)

theorem pay16_apply (p : FVec Ideal S8192x512 .f32) (a : FVec Ideal S1x512 .f32) (l : Vec Ideal S1x512 .f32) (r : Fin 512) :
    (k0_pay16 p a l : FVec Ideal S1x512 .f32) (ix2 0 r) = (a (ix2 0 r) * l (ix2 0 r) + ∑ j : Fin 8192, p (ix2 j r) : EReal) := by
  unfold k0_pay16; pointwise

theorem pay17_apply (v : FVec Ideal S128x8192 .bf16) (p : FVec Ideal S8192x512 .f32) (a : FVec Ideal S1x512 .f32) (l : Vec Ideal S128x512 .f32) (d : Fin 128) (r : Fin 512) :
    (k0_pay17 v p a l : FVec Ideal S128x512 .f32) (ix2 d r) = (a (ix2 0 r) * l (ix2 d r) + ∑ j : Fin 8192, v (ix2 d j) * p (ix2 j r) : EReal) := by
  unfold k0_pay17; pointwise

theorem pay12_eq (v : Vec Ideal S128x8192 .bf16) : k0_pay12 v = v := by
  funext j
  exact shapeCast_apply _ _ _ _ rfl

theorem pay18_eq (o : FVec Ideal S1x512 .f32) : k0_pay18 o = o := by
  funext j
  exact shapeCast_apply _ _ _ _ rfl

/-- The second half's steps are the first half's, over the other half. -/
theorem pay25_eq (s : Vec Ideal S1x8192x512 .f32) (o l : Vec Ideal S1x512 .f32) : k0_pay25 s o l = k0_pay16 (k0_pay14 s o) (k0_pay15 s o) l := rfl
theorem pay26_eq (s : Vec Ideal S1x8192x512 .f32) (v : Vec Ideal S128x8192 .bf16) (o : Vec Ideal S1x512 .f32) (l : Vec Ideal S128x512 .f32) :
    k0_pay26 s v o l = k0_pay17 (k0_pay12 v) (k0_pay14 s o) (k0_pay15 s o) l := rfl

theorem pay2_apply (a : Vec Ideal S128x512 .f32) (l : Vec Ideal S1x512 .f32) (r : Fin 512) (d : Fin 128) :
    (k0_pay2 a l : FVec Ideal S512x128 .bf16) (ix2 r d) = Ideal.div (a (ix2 d r)) (l (ix2 0 r)) := by
  unfold k0_pay2; pointwise

/-- The mixed values at a row and a column, from the scores and the values of the two halves. -/
theorem mixOf_apply (s0 s1 : Vec Ideal S1x8192x512 .f32) (v0 v1 : Vec Ideal S128x8192 .bf16) (s v : Fin 16384 → EReal) (r : Fin 512) (d : Fin 128)
    (hs : ∀ j, IsReal (s j)) (e0 : ∀ j, s0 (ix3 0 j r) = s (lo j)) (e1 : ∀ j, s1 (ix3 0 j r) = s (hi j))
    (f0 : ∀ j, v0 (ix2 d j) = v (lo j)) (f1 : ∀ j, v1 (ix2 d j) = v (hi j)) :
    (mixOf s0 s1 v0 v1 : FVec Ideal S512x128 .bf16) (ix2 r d) = mix s v := by
  have h0 : IsReal (colMax s0 r) := IsReal.fold_max (ι := Fin 8192) _ fun j => by rw [e0]; exact hs _
  have h1 : IsReal (colMax s1 r) := IsReal.fold_max (ι := Fin 8192) _ fun j => by rw [e1]; exact hs _
  unfold mixOf
  rw [pay2_apply, pay25_eq, pay26_eq, pay12_eq, pay12_eq, pay18_eq, pay17_apply, pay17_apply, pay16_apply, pay16_apply]
  simp only [pay15_apply, pay14_apply, pay13_apply, pay9_apply, pay7_apply, pay6_apply, e0, e1, f0, f1]
  rw [max_eq_right (bot_le : (⊥ : EReal) ≤ colMax s0 r)]
  exact mix_of_halves s v hs _ _ h0 (h0.max h1)

theorem keys0_apply (k : Vec Ideal S1x16384x256 .bf16) (j : Fin 8192) (x : Fin 256) : keys0 k (ix3 0 j x) = k (ix3 0 (lo j) x) :=
  congrArg k (funext fun a => Fin.ext (by
    match a with
    | ⟨0, _⟩ => rfl
    | ⟨1, _⟩ => show 0 + 1 * j.val = j.val; omega
    | ⟨2, _⟩ => show 0 + 1 * x.val = x.val; omega))
theorem keys1_apply (k : Vec Ideal S1x16384x256 .bf16) (j : Fin 8192) (x : Fin 256) : keys1 k (ix3 0 j x) = k (ix3 0 (hi j) x) :=
  congrArg k (funext fun a => Fin.ext (by
    match a with
    | ⟨0, _⟩ => rfl
    | ⟨1, _⟩ => show 8192 + 1 * j.val = 8192 + j.val; omega
    | ⟨2, _⟩ => show 0 + 1 * x.val = x.val; omega))
theorem vals0_apply (v : Vec Ideal S128x16384 .bf16) (d : Fin 128) (j : Fin 8192) : vals0 v (ix2 d j) = v (ix2 d (lo j)) :=
  congrArg v (funext fun a => Fin.ext (by
    match a with
    | ⟨0, _⟩ => show 0 + 1 * d.val = d.val; omega
    | ⟨1, _⟩ => show 0 + 1 * j.val = j.val; omega))
theorem vals1_apply (v : Vec Ideal S128x16384 .bf16) (d : Fin 128) (j : Fin 8192) : vals1 v (ix2 d j) = v (ix2 d (hi j)) :=
  congrArg v (funext fun a => Fin.ext (by
    match a with
    | ⟨0, _⟩ => show 0 + 1 * d.val = d.val; omega
    | ⟨1, _⟩ => show 8192 + 1 * j.val = 8192 + j.val; omega))

/-- What a point writes out, at a row and a column. -/
theorem outVal_apply (q : Vec Ideal S1x512x256 .bf16) (k : Vec Ideal S1x16384x256 .bf16) (v : Vec Ideal S128x16384 .bf16) (s : Fin 16384 → EReal) (r : Fin 512) (d : Fin 128)
    (hs : ∀ j, IsReal (s j)) (e : ∀ j : Fin 16384, (∑ x : Fin 256, k (ix3 0 j x) * q (ix3 0 r x) : EReal) = s j) :
    (outVal q k v : FVec Ideal S512x128 .bf16) (ix2 r d) = mix s (fun j => v (ix2 d j)) := by
  unfold outVal
  refine mixOf_apply _ _ _ _ s _ r d hs (fun j => ?_) (fun j => ?_) (fun j => vals0_apply v d j) (fun j => vals1_apply v d j)
  · rw [pay4_apply, ← e]
    exact Finset.sum_congr rfl fun x _ => by rw [keys0_apply, pay3_apply]
  · rw [pay10_eq, pay4_apply, ← e]
    exact Finset.sum_congr rfl fun x _ => by rw [keys1_apply, pay3_apply]

end Cert.Kernel3Ideal.Gen

end
-- ==== Proof.Mla.Setup.lean ====
/- The attention program around its points: the arrays when the points begin, the blocks each point is given, which kind
each point is of, and the last clause of the run: the arguments are untouched. -/
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Mla.Out
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer of a core once the steps before the kernel are done. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- The steps before the kernel, then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.reshape_writes, Finset.mem_singleton]
    repeat' apply And.intro
    all_goals exact StableHlo.devRef_ne_of_ne (by decide)))

/-- The block of a window's array a point is given. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The points -/

theorem ix_0 : ∀ t : Fin cfg0.N, win0_0.index t (0 : Fin 3) = t.val / 32 ∧ win0_0.index t (1 : Fin 3) = t.val % 32 ∧ win0_0.index t (2 : Fin 3) = 0 :=
  (by decide +kernel : ∀ t : Fin grid0.N, _)
theorem ix_1 : ∀ t : Fin cfg0.N, win0_1.index t (0 : Fin 3) = t.val / 32 ∧ win0_1.index t (1 : Fin 3) = min (t.val % 32 + 1) 31 ∧ win0_1.index t (2 : Fin 3) = 0 :=
  (by decide +kernel : ∀ t : Fin grid0.N, _)
theorem ix_2 : ∀ t : Fin cfg0.N, win0_2.index t (0 : Fin 3) = t.val / 32 ∧ win0_2.index t (1 : Fin 3) = 0 ∧ win0_2.index t (2 : Fin 3) = 0 :=
  (by decide +kernel : ∀ t : Fin grid0.N, _)
theorem ix_3 : ∀ t : Fin cfg0.N, win0_3.index t (0 : Fin 2) = t.val / 32 ∧ win0_3.index t (1 : Fin 2) = 0 :=
  (by decide +kernel : ∀ t : Fin grid0.N, _)
theorem ix_4 : ∀ t : Fin cfg0.N, win0_4.index t (0 : Fin 2) = t.val % 32 ∧ win0_4.index t (1 : Fin 2) = t.val / 32 :=
  (by decide +kernel : ∀ t : Fin grid0.N, _)

theorem cond_iff : ∀ t : Fin cfg0.N, k0_cond1 (grid0.coords t) = 1#1 ↔ t.val % 32 = 0 :=
  (by decide +kernel : ∀ t : Fin grid0.N, k0_cond1 (grid0.coords t) = 1#1 ↔ t.val % 32 = 0)
theorem off2_even : ∀ t : Fin cfg0.N, t.val % 2 = 0 → k0_off2 (grid0.coords t) = ![0, 0, 0] :=
  (by decide +kernel : ∀ t : Fin grid0.N, t.val % 2 = 0 → k0_off2 (grid0.coords t) = ![0, 0, 0])
theorem off3_even : ∀ t : Fin cfg0.N, t.val % 2 = 0 → k0_off3 (grid0.coords t) = ![1, 0, 0] :=
  (by decide +kernel : ∀ t : Fin grid0.N, t.val % 2 = 0 → k0_off3 (grid0.coords t) = ![1, 0, 0])
theorem off3_odd : ∀ t : Fin cfg0.N, ¬t.val % 2 = 0 → k0_off3 (grid0.coords t) = ![0, 0, 0] :=
  (by decide +kernel : ∀ t : Fin grid0.N, ¬t.val % 2 = 0 → k0_off3 (grid0.coords t) = ![0, 0, 0])
theorem off5_even : ∀ t : Fin cfg0.N, t.val % 2 = 0 → k0_off5 (grid0.coords t) 1#32 = ![0, 0, 0] ∧ k0_off5 (grid0.coords t) 2#32 = ![1, 0, 0] :=
  (by decide +kernel : ∀ t : Fin grid0.N, t.val % 2 = 0 → k0_off5 (grid0.coords t) 1#32 = ![0, 0, 0] ∧ k0_off5 (grid0.coords t) 2#32 = ![1, 0, 0])
theorem off5_odd : ∀ t : Fin cfg0.N, ¬t.val % 2 = 0 → k0_off5 (grid0.coords t) 1#32 = ![1, 0, 0] ∧ k0_off5 (grid0.coords t) 2#32 = ![0, 0, 0] :=
  (by decide +kernel : ∀ t : Fin grid0.N, ¬t.val % 2 = 0 → k0_off5 (grid0.coords t) 1#32 = ![1, 0, 0] ∧ k0_off5 (grid0.coords t) 2#32 = ![0, 0, 0])

/-- A point's own query block, its head's keys and its head's values. -/
abbrev qBlk (c : Dev nD) (t : Fin cfg0.N) : Vec F S1x512x256 .bf16 := iblk m c 0 t
abbrev kBlk (c : Dev nD) (t : Fin cfg0.N) : Vec F S1x16384x256 .bf16 := iblk m c 2 t
abbrev vBlk (c : Dev nD) (t : Fin cfg0.N) : Vec F S128x16384 .bf16 := iblk m c 3 t

/-- The second query block a point is given is the next point's own, while the head lasts. -/
theorem ahead (c : Dev nD) (t t' : Fin cfg0.N) (h : t'.val = t.val + 1) (h' : ¬t'.val % 32 = 0) : (iblk m c 1 t : Vec F S1x512x256 .bf16) = qBlk m c t' := by
  obtain ⟨a0, a1, a2⟩ := ix_1 t
  obtain ⟨b0, b1, b2⟩ := ix_0 t'
  refine funext fun y => ?_
  have e : (((cfg0.win 1).blk t).view.emb y : S16x16384x256.Idx) = ((cfg0.win 0).blk t').view.emb y := by
    refine funext fun a => Fin.ext ?_
    match a with
    | ⟨0, _⟩ => show win0_1.index t (0 : Fin 3) * 1 + 1 * (y (0 : Fin 3)).val = win0_0.index t' (0 : Fin 3) * 1 + 1 * (y (0 : Fin 3)).val; rw [a0, b0]; omega
    | ⟨1, _⟩ => show win0_1.index t (1 : Fin 3) * 512 + 1 * (y (1 : Fin 3)).val = win0_0.index t' (1 : Fin 3) * 512 + 1 * (y (1 : Fin 3)).val; rw [a1, b1]; omega
    | ⟨2, _⟩ => show win0_1.index t (2 : Fin 3) * 256 + 1 * (y (2 : Fin 3)).val = win0_0.index t' (2 : Fin 3) * 256 + 1 * (y (2 : Fin 3)).val; rw [a2, b2]
  exact congrArg (V m c main_v2 : S16x16384x256.Idx → Elt F .bf16) e

/-- The next point's keys are this one's, while the head lasts. -/
theorem keys_same (c : Dev nD) (t t' : Fin cfg0.N) (h : t'.val = t.val + 1) (h' : ¬t'.val % 32 = 0) : kBlk m c t = kBlk m c t' := by
  obtain ⟨a0, a1, a2⟩ := ix_2 t
  obtain ⟨b0, b1, b2⟩ := ix_2 t'
  refine funext fun y => ?_
  have e : (((cfg0.win 2).blk t).view.emb y : S16x16384x256.Idx) = ((cfg0.win 2).blk t').view.emb y := by
    refine funext fun a => Fin.ext ?_
    match a with
    | ⟨0, _⟩ => show win0_2.index t (0 : Fin 3) * 1 + 1 * (y (0 : Fin 3)).val = win0_2.index t' (0 : Fin 3) * 1 + 1 * (y (0 : Fin 3)).val; rw [a0, b0]; omega
    | ⟨1, _⟩ => show win0_2.index t (1 : Fin 3) * 16384 + 1 * (y (1 : Fin 3)).val = win0_2.index t' (1 : Fin 3) * 16384 + 1 * (y (1 : Fin 3)).val; rw [a1, b1]
    | ⟨2, _⟩ => show win0_2.index t (2 : Fin 3) * 256 + 1 * (y (2 : Fin 3)).val = win0_2.index t' (2 : Fin 3) * 256 + 1 * (y (2 : Fin 3)).val; rw [a2, b2]
  exact congrArg (V m c main_v5 : S16x16384x256.Idx → Elt F .bf16) e

/-! ## The arguments at the end -/

theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The staging buffers and the kernel's own buffers -/

abbrev ms0_0 (t : Fin cfg0.N) : Memref sig .tc .vmem S1x512x256 .bf16 := win0_0.stage (cfg0.slots t 0)
abbrev hs0_0 (t : Fin cfg0.N) : (ms0_0 t).IsWhole := hstage0_0 ((cfg0.slots t 0).cast nbuf0_0)
theorem liveAt0_0 : ∀ t : Fin cfg0.N, cfg0.idle 0 (grid0.coords t) = false := fun _ => rfl
abbrev ms0_1 (t : Fin cfg0.N) : Memref sig .tc .vmem S1x512x256 .bf16 := win0_1.stage (cfg0.slots t 1)
abbrev hs0_1 (t : Fin cfg0.N) : (ms0_1 t).IsWhole := hstage0_1 ((cfg0.slots t 1).cast nbuf0_1)
theorem liveAt0_1 : ∀ t : Fin cfg0.N, cfg0.idle 1 (grid0.coords t) = false := fun _ => rfl
abbrev ms0_2 (t : Fin cfg0.N) : Memref sig .tc .vmem S1x16384x256 .bf16 := win0_2.stage (cfg0.slots t 2)
abbrev hs0_2 (t : Fin cfg0.N) : (ms0_2 t).IsWhole := hstage0_2 ((cfg0.slots t 2).cast nbuf0_2)
theorem liveAt0_2 : ∀ t : Fin cfg0.N, cfg0.idle 2 (grid0.coords t) = false := fun _ => rfl
abbrev ms0_3 (t : Fin cfg0.N) : Memref sig .tc .vmem S128x16384 .bf16 := win0_3.stage (cfg0.slots t 3)
abbrev hs0_3 (t : Fin cfg0.N) : (ms0_3 t).IsWhole := hstage0_3 ((cfg0.slots t 3).cast nbuf0_3)
theorem liveAt0_3 : ∀ t : Fin cfg0.N, cfg0.idle 3 (grid0.coords t) = false := fun _ => rfl
abbrev ms0_4 (t : Fin cfg0.N) : Memref sig .tc .vmem S512x128 .bf16 := win0_4.stage (cfg0.slots t 4)
abbrev hs0_4 (t : Fin cfg0.N) : (ms0_4 t).IsWhole := hstage0_4 ((cfg0.slots t 4).cast nbuf0_4)
theorem liveAt0_4 : ∀ t : Fin cfg0.N, cfg0.idle 4 (grid0.coords t) = false := fun _ => rfl
abbrev scM0_0 : Memref sig .tc .vmem S2x256x512 .bf16 := Memref.whole cc0_scratch0
abbrev scM0_1 : Memref sig .tc .vmem S2x8192x512 .f32 := Memref.whole cc0_scratch1
abbrev scM0_2 : Memref sig .tc .vmem S1x512 .f32 := Memref.whole cc0_scratch2
abbrev scM0_3 : Memref sig .tc .vmem S1x512 .f32 := Memref.whole cc0_scratch3
abbrev scM0_4 : Memref sig .tc .vmem S128x512 .f32 := Memref.whole cc0_scratch4

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel3Ideal.Gen

end
-- ==== Proof.Mla.Blocks.lean ====
/- The windows' blocks at an index, from the arguments. -/
module

public import proofs.«01_k».proof.Proof.Mla.Step
public import proofs.«01_k».proof.Proof.Mla.Setup

@[expose] public section

set_option maxRecDepth 16384

noncomputable section

namespace Cert.Kernel3Ideal.Gen

open Idealize.ShloMosaic Idealize.ShloMosaic.TcCoe Cert.Mla

/-- The grid point of a head and a block of rows. -/
def pt (h : Fin 16) (b : Fin 32) : Fin cfg0.N := ⟨32 * h.val + b.val, lt_of_lt_of_eq (by omega) N_0.symm⟩

/-- Row `r` of a block of rows. -/
def row (b : Fin 32) (r : Fin 512) : Fin 16384 := ⟨512 * b.val + r.val, by omega⟩

/-- Column `d` of a head. -/
def col (h : Fin 16) (d : Fin 128) : Fin 2048 := ⟨128 * h.val + d.val, by omega⟩

theorem pt_val (h : Fin 16) (b : Fin 32) : (pt h b).val / 32 = h.val ∧ (pt h b).val % 32 = b.val := by
  have e : (pt h b).val = 32 * h.val + b.val := rfl
  omega

variable (m : (ℓ : Loc nD τ sig) → Buf (Elt Ideal) ℓ) (c : Dev nD) (h : Fin 16) (b : Fin 32)

theorem emb_0 (r : Fin 512) (x : Fin 256) : (((cfg0.win 0).blk (pt h b)).view.emb (ix3 0 r x : S1x512x256.Idx) : S16x16384x256.Idx) = ix3 h (row b r) x := by
  obtain ⟨q0, q1⟩ := pt_val h b
  obtain ⟨h0, h1, h2⟩ := ix_0 (pt h b)
  refine funext fun a => Fin.ext ?_
  match a with
  | ⟨0, _⟩ => show win0_0.index (pt h b) (0 : Fin 3) * 1 + 1 * 0 = h.val; omega
  | ⟨1, _⟩ => show win0_0.index (pt h b) (1 : Fin 3) * 512 + 1 * r.val = 512 * b.val + r.val; omega
  | ⟨2, _⟩ => show win0_0.index (pt h b) (2 : Fin 3) * 256 + 1 * x.val = x.val; omega

theorem emb_2 (j : Fin 16384) (x : Fin 256) : (((cfg0.win 2).blk (pt h b)).view.emb (ix3 0 j x : S1x16384x256.Idx) : S16x16384x256.Idx) = ix3 h j x := by
  obtain ⟨q0, q1⟩ := pt_val h b
  obtain ⟨h0, h1, h2⟩ := ix_2 (pt h b)
  refine funext fun a => Fin.ext ?_
  match a with
  | ⟨0, _⟩ => show win0_2.index (pt h b) (0 : Fin 3) * 1 + 1 * 0 = h.val; omega
  | ⟨1, _⟩ => show win0_2.index (pt h b) (1 : Fin 3) * 16384 + 1 * j.val = j.val; omega
  | ⟨2, _⟩ => show win0_2.index (pt h b) (2 : Fin 3) * 256 + 1 * x.val = x.val; omega

theorem emb_3 (d : Fin 128) (j : Fin 16384) : (((cfg0.win 3).blk (pt h b)).view.emb (ix2 d j : S128x16384.Idx) : S2048x16384.Idx) = ix2 (col h d) j := by
  obtain ⟨q0, q1⟩ := pt_val h b
  obtain ⟨h0, h1⟩ := ix_3 (pt h b)
  refine funext fun a => Fin.ext ?_
  match a with
  | ⟨0, _⟩ => show win0_3.index (pt h b) (0 : Fin 2) * 128 + 1 * d.val = 128 * h.val + d.val; omega
  | ⟨1, _⟩ => show win0_3.index (pt h b) (1 : Fin 2) * 16384 + 1 * j.val = j.val; omega

theorem emb_4 (r : Fin 512) (d : Fin 128) : (((cfg0.win 4).blk (pt h b)).view.emb (ix2 r d : S512x128.Idx) : S16384x2048.Idx) = ix2 (row b r) (col h d) := by
  obtain ⟨q0, q1⟩ := pt_val h b
  obtain ⟨h0, h1⟩ := ix_4 (pt h b)
  refine funext fun a => Fin.ext ?_
  match a with
  | ⟨0, _⟩ => show win0_4.index (pt h b) (0 : Fin 2) * 512 + 1 * r.val = 512 * b.val + r.val; omega
  | ⟨1, _⟩ => show win0_4.index (pt h b) (1 : Fin 2) * 128 + 1 * d.val = 128 * h.val + d.val; omega

/-- The heads laid out first, the last axis filled up with zeros. -/
def padded (x : Vec Ideal S1x16384x16x192 .bf16) : Vec Ideal S16x16384x256 .bf16 :=
  pad S16x16384x256 ![0, 0, 0] ![0, 0, 64] ![0, 0, 0]
    (transpose S16x16384x192 [1, 0, 2] (shapeCast S16384x16x192 x shapeCasts_S1x16384x16x192_S16384x16x192) transposes_S16384x16x192_S16x16384x192_1_0_2)
    (sitofp (F := Ideal) .bf16 (constantI S_ 32 0#32)) pads_S16x16384x192_S16x16384x256_000_000_0640 h_S_

theorem padded_apply (x : Vec Ideal S1x16384x16x192 .bf16) (j : Fin 16384) (i : Fin 256) :
    padded x (ix3 h j i) = if hi : i.val < 192 then (x (ix4 0 j h ⟨i.val, hi⟩) : EReal) else 0 := by
  have z : (FloatOps.sitofp .bf16 (0#32) : Ideal .bf16) = (0 : EReal) := by
    show (((0#32 : BitVec 32).toInt : ℝ) : EReal) = 0
    simp
  unfold padded
  pointwise
  rw [z]

theorem V_main_v2 : (V m c main_v2 : Vec Ideal S16x16384x256 .bf16) = padded (m ((c : Thread nD τ).loc main_arg0)) := rfl
theorem V_main_v5 : (V m c main_v5 : Vec Ideal S16x16384x256 .bf16) = padded (m ((c : Thread nD τ).loc main_arg1)) := rfl

/-- The values with their positions along the last axis. -/
def turned (x : Vec Ideal S1x16384x16x128 .bf16) : Vec Ideal S2048x16384 .bf16 :=
  transpose S2048x16384 [1, 0] (shapeCast S16384x2048 (shapeCast S16384x16x128 x shapeCasts_S1x16384x16x128_S16384x16x128) shapeCasts_S16384x16x128_S16384x2048)
    transposes_S16384x2048_S2048x16384_1_0

theorem turned_apply (x : Vec Ideal S1x16384x16x128 .bf16) (d : Fin 128) (j : Fin 16384) : turned x (ix2 (col h d) j) = x (ix4 0 j h d) := by
  unfold turned col
  pointwise

theorem V_main_v8 : (V m c main_v8 : Vec Ideal S2048x16384 .bf16) = turned (m ((c : Thread nD τ).loc main_arg2)) := rfl

/-- A sum over the filled-up axis is the sum over the axis itself. -/
theorem sum_padded (q k : Vec Ideal S1x16384x16x192 .bf16) (r j : Fin 16384) :
    (∑ x : Fin 256, padded k (ix3 h j x) * padded q (ix3 h r x) : EReal) = score q k h r j := by
  have e : ∀ f : Fin 256 → EReal, ∑ x, f x = ∑ x : Fin 192, f ⟨x.val, by omega⟩ + ∑ x : Fin 64, f ⟨192 + x.val, by omega⟩ := fun f => Fin.sum_univ_add (M := EReal) (a := 192) (b := 64) f
  rw [e]
  have z : ∀ x : Fin 64, (padded k (ix3 h j ⟨192 + x.val, by omega⟩) * padded q (ix3 h r ⟨192 + x.val, by omega⟩) : EReal) = 0 := fun x => by
    rw [padded_apply, dif_neg (by show ¬ 192 + x.val < 192; omega), zero_mul]
  rw [Finset.sum_eq_zero fun x _ => z x, add_zero]
  refine Finset.sum_congr rfl fun x _ => ?_
  rw [padded_apply, padded_apply, dif_pos x.isLt, dif_pos x.isLt, mul_comm]

/-- What a point writes out, from the arguments. -/
theorem out_at (r : Fin 512) (d : Fin 128)
    (hq : ∀ i, IsReal ((m ((c : Thread nD τ).loc main_arg0) : Vec Ideal S1x16384x16x192 .bf16) i)) (hk : ∀ i, IsReal ((m ((c : Thread nD τ).loc main_arg1) : Vec Ideal S1x16384x16x192 .bf16) i)) :
    (outVal (qBlk m c (pt h b)) (kBlk m c (pt h b)) (vBlk m c (pt h b)) : FVec Ideal S512x128 .bf16) (ix2 r d)
      = outAt (m ((c : Thread nD τ).loc main_arg0)) (m ((c : Thread nD τ).loc main_arg1)) (m ((c : Thread nD τ).loc main_arg2)) (row b r) h d := by
  have bq : ∀ x, (qBlk m c (pt h b)) (ix3 0 r x) = padded (m ((c : Thread nD τ).loc main_arg0)) (ix3 h (row b r) x) := fun x =>
    (congrArg (V m c main_v2 : S16x16384x256.Idx → Elt Ideal .bf16) (emb_0 h b r x)).trans (congrFun (V_main_v2 m c) _)
  have bk : ∀ j x, (kBlk m c (pt h b)) (ix3 0 j x) = padded (m ((c : Thread nD τ).loc main_arg1)) (ix3 h j x) := fun j x =>
    (congrArg (V m c main_v5 : S16x16384x256.Idx → Elt Ideal .bf16) (emb_2 h b j x)).trans (congrFun (V_main_v5 m c) _)
  have bv : ∀ j, (vBlk m c (pt h b)) (ix2 d j) = (m ((c : Thread nD τ).loc main_arg2) : Vec Ideal S1x16384x16x128 .bf16) (ix4 0 j h d) := fun j =>
    ((congrArg (V m c main_v8 : S2048x16384.Idx → Elt Ideal .bf16) (emb_3 h b d j)).trans (congrFun (V_main_v8 m c) _)).trans (turned_apply h _ d j)
  refine (outVal_apply _ _ _ (score (m ((c : Thread nD τ).loc main_arg0)) (m ((c : Thread nD τ).loc main_arg1)) h (row b r)) r d (fun j => score_real hq hk h (row b r) j) (fun j => ?_)).trans ?_
  · rw [← sum_padded]
    exact Finset.sum_congr rfl fun x _ => congrArg₂ (fun a b : EReal => a * b) (bk j x) (bq x)
  · exact congrArg (mix _) (funext bv)

end Cert.Kernel3Ideal.Gen

end
-- ==== Proof.Mla.Frame.lean ====
/- The whole run of the attention program: between points the kernel keeps the turned query block and the first scores of
the next point, so each point leaves one function of its blocks. -/
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Mla.Setup
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the kernel's own buffers hold before point `n`, inside a head: the turned query block of the point in the slot of
    its parity, and its scores against the first half of the keys. -/
def Known (c : Dev nD) (n : ℕ) (T : Vec F S2x256x512 .bf16) (S : Vec F S2x8192x512 .f32) : Prop :=
  ∀ h : n < cfg0.N, ¬n % 32 = 0 →
    (n % 2 = 0 → slotT0 T = k0_pay3 (qBlk m c ⟨n, h⟩)) ∧ (¬n % 2 = 0 → slotT1 T = k0_pay3 (qBlk m c ⟨n, h⟩))
      ∧ slotS0 S = k0_pay4 (keys0 (kBlk m c ⟨n, h⟩)) (k0_pay3 (qBlk m c ⟨n, h⟩))

theorem known_after_even (c : Dev nD) (t : Fin cfg0.N) (ht : t.val % 2 = 0) (T : Vec F S2x256x512 .bf16) (S : Vec F S2x8192x512 .f32)
    (hT : slotT1 T = k0_pay3 (iblk m c 1 t : Vec F S1x512x256 .bf16)) (hS : slotS0 S = k0_pay4 (keys0 (kBlk m c t)) (k0_pay3 (iblk m c 1 t : Vec F S1x512x256 .bf16))) :
    Known m c (t.val + 1) T S := fun h h' => by
  have e1 := ahead m c t ⟨t.val + 1, h⟩ rfl h'
  have e2 := keys_same m c t ⟨t.val + 1, h⟩ rfl h'
  refine ⟨fun q => by omega, fun _ => hT.trans (congrArg k0_pay3 e1), ?_⟩
  rw [hS, e1, e2]

theorem known_after_odd (c : Dev nD) (t : Fin cfg0.N) (ht : ¬t.val % 2 = 0) (T : Vec F S2x256x512 .bf16) (S : Vec F S2x8192x512 .f32)
    (hT : slotT0 T = k0_pay3 (iblk m c 1 t : Vec F S1x512x256 .bf16)) (hS : slotS0 S = k0_pay4 (keys0 (kBlk m c t)) (k0_pay3 (iblk m c 1 t : Vec F S1x512x256 .bf16))) :
    Known m c (t.val + 1) T S := fun h h' => by
  have e1 := ahead m c t ⟨t.val + 1, h⟩ rfl h'
  have e2 := keys_same m c t ⟨t.val + 1, h⟩ rfl h'
  refine ⟨fun _ => hT.trans (congrArg k0_pay3 e1), fun q => by omega, ?_⟩
  rw [hS, e1, e2]

/-- Before the first point of all nothing is asked of the buffers, nor after the last. -/
theorem known_zero (c : Dev nD) (T : Vec F S2x256x512 .bf16) (S : Vec F S2x8192x512 .f32) : Known m c 0 T S := fun _ h => absurd (Nat.zero_mod 32) h

def PhiS (c : Dev nD) (n : ℕ) : sProp 𝕄 :=
  iprop((∃ T, ∃ S, ⌜Known m c n T S⌝ ∗ owns (c : Thread nD τ) scM0_0 fullShare T ∗ owns (c : Thread nD τ) scM0_1 fullShare S
    ∗ (∃ d, owns (c : Thread nD τ) scM0_2 fullShare d) ∗ (∃ d, owns (c : Thread nD τ) scM0_3 fullShare d) ∗ (∃ d, owns (c : Thread nD τ) scM0_4 fullShare d)) ∗ (∃ r, prngReg c r))

/-- What every point finds and leaves: its inputs' blocks unchanged, its block of the result the one function `outVal`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outVal (qBlk m c t) (kBlk m c t) (vBlk m c t)
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outVal (qBlk m c t) (kBlk m c t) (vBlk m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- A point of each kind, from what the kernel's buffers are known to hold to what they are known to hold next. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  unfold PhiS
  iintro ⟨⟨⟨%T, %S, %hK, HS0, HS1, HS2, HS3, HS4⟩, Hg⟩, Ho, ⟨%d0, H0⟩, ⟨%d1, H1⟩, ⟨%d2, H2⟩, ⟨%d3, H3⟩, ⟨%d4, H4⟩⟩
  by_cases h0 : t.val % 32 = 0
  · have hp : t.val % 2 = 0 := by omega
    iapply ((runFirst c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((cond_iff t).mpr h0) (off2_even t hp) (off3_even t hp) (off5_even t hp).1 (off5_even t hp).2 (iblk m c 0 t) (iblk m c 1 t) (iblk m c 2 t) (iblk m c 3 t) T S).2.2.2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    iintro ⟨H0, H1, H2, H3, ⟨%e4, H4⟩, HS0, HS1, ⟨%e7, HS2⟩, ⟨%e8, HS3⟩, ⟨%e9, HS4⟩⟩
    isplitl [HS0 HS1 HS2 HS3 HS4 Hg]
    · isplitl [HS0 HS1 HS2 HS3 HS4]
      · iexists (sout0_A_7 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((cond_iff t).mpr h0) (off2_even t hp) (off3_even t hp) (off5_even t hp).1 (off5_even t hp).2 (iblk m c 0 t) (iblk m c 1 t) (iblk m c 2 t) (iblk m c 3 t) T S)
        iexists (sout0_A_8 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((cond_iff t).mpr h0) (off2_even t hp) (off3_even t hp) (off5_even t hp).1 (off5_even t hp).2 (iblk m c 0 t) (iblk m c 1 t) (iblk m c 2 t) (iblk m c 3 t) T S)
        isplitr
        · ipureintro
          exact known_after_even m c t hp _ _ (sout0_A_7_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((cond_iff t).mpr h0) (off2_even t hp) (off3_even t hp) (off5_even t hp).1 (off5_even t hp).2 (iblk m c 0 t) (iblk m c 1 t) (iblk m c 2 t) (iblk m c 3 t) T S) (sout0_A_8_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((cond_iff t).mpr h0) (off2_even t hp) (off3_even t hp) (off5_even t hp).1 (off5_even t hp).2 (iblk m c 0 t) (iblk m c 1 t) (iblk m c 2 t) (iblk m c 3 t) T S)
        isplitl [HS0]
        · unfold owns; iexists _; isplitr
          swap; · iexact HS0
          ipureintro; rfl
        isplitl [HS1]
        · unfold owns; iexists _; isplitr
          swap; · iexact HS1
          ipureintro; rfl
        isplitl [HS2]
        · iexists _; unfold owns; iexists _; isplitr
          swap; · iexact HS2
          ipureintro; rfl
        isplitl [HS3]
        · iexists _; unfold owns; iexists _; isplitr
          swap; · iexact HS3
          ipureintro; rfl
        iexists _; unfold owns; iexists _; isplitr
        swap; · iexact HS4
        ipureintro; rfl
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact (View.read_writes_of_cover _ _ VO0_4 VO0_4.junk _ (cover0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((cond_iff t).mpr h0) (off2_even t hp) (off3_even t hp) (off5_even t hp).1 (off5_even t hp).2 (iblk m c 0 t) (iblk m c 1 t) (iblk m c 2 t) (iblk m c 3 t) T S)).trans (out0_A_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((cond_iff t).mpr h0) (off2_even t hp) (off3_even t hp) (off5_even t hp).1 (off5_even t hp).2 (iblk m c 0 t) (iblk m c 1 t) (iblk m c 2 t) (iblk m c 3 t) T S)
  · by_cases hp : t.val % 2 = 0
    · iapply ((runEven c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_even t hp) (off5_even t hp).1 (off5_even t hp).2 (iblk m c 0 t) (iblk m c 1 t) (iblk m c 2 t) (iblk m c 3 t) T S).2.2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      isplitl [HS4]; · iexact HS4
      iintro ⟨H0, H1, H2, H3, ⟨%e4, H4⟩, HS0, HS1, ⟨%e7, HS2⟩, ⟨%e8, HS3⟩, ⟨%e9, HS4⟩⟩
      isplitl [HS0 HS1 HS2 HS3 HS4 Hg]
      · isplitl [HS0 HS1 HS2 HS3 HS4]
        · iexists (sout0_C_7 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_even t hp) (off5_even t hp).1 (off5_even t hp).2 (iblk m c 0 t) (iblk m c 1 t) (iblk m c 2 t) (iblk m c 3 t) T S)
          iexists (sout0_C_8 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_even t hp) (off5_even t hp).1 (off5_even t hp).2 (iblk m c 0 t) (iblk m c 1 t) (iblk m c 2 t) (iblk m c 3 t) T S)
          isplitr
          · ipureintro
            exact known_after_even m c t hp _ _ (sout0_C_7_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_even t hp) (off5_even t hp).1 (off5_even t hp).2 (iblk m c 0 t) (iblk m c 1 t) (iblk m c 2 t) (iblk m c 3 t) T S) (sout0_C_8_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_even t hp) (off5_even t hp).1 (off5_even t hp).2 (iblk m c 0 t) (iblk m c 1 t) (iblk m c 2 t) (iblk m c 3 t) T S)
          isplitl [HS0]
          · unfold owns; iexists _; isplitr
            swap; · iexact HS0
            ipureintro; rfl
          isplitl [HS1]
          · unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_of_cover _ _ VO0_4 VO0_4.junk _ (cover0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_even t hp) (off5_even t hp).1 (off5_even t hp).2 (iblk m c 0 t) (iblk m c 1 t) (iblk m c 2 t) (iblk m c 3 t) T S)).trans (out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_even t hp) (off5_even t hp).1 (off5_even t hp).2 (iblk m c 0 t) (iblk m c 1 t) (iblk m c 2 t) (iblk m c 3 t) T S ((hK t.isLt h0).1 hp) (hK t.isLt h0).2.2)
    · iapply ((runOdd c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_odd t hp) (off5_odd t hp).1 (off5_odd t hp).2 (iblk m c 0 t) (iblk m c 1 t) (iblk m c 2 t) (iblk m c 3 t) T S).2.2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      isplitl [HS4]; · iexact HS4
      iintro ⟨H0, H1, H2, H3, ⟨%e4, H4⟩, HS0, HS1, ⟨%e7, HS2⟩, ⟨%e8, HS3⟩, ⟨%e9, HS4⟩⟩
      isplitl [HS0 HS1 HS2 HS3 HS4 Hg]
      · isplitl [HS0 HS1 HS2 HS3 HS4]
        · iexists (sout0_B_7 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_odd t hp) (off5_odd t hp).1 (off5_odd t hp).2 (iblk m c 0 t) (iblk m c 1 t) (iblk m c 2 t) (iblk m c 3 t) T S)
          iexists (sout0_B_8 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_odd t hp) (off5_odd t hp).1 (off5_odd t hp).2 (iblk m c 0 t) (iblk m c 1 t) (iblk m c 2 t) (iblk m c 3 t) T S)
          isplitr
          · ipureintro
            exact known_after_odd m c t hp _ _ (sout0_B_7_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_odd t hp) (off5_odd t hp).1 (off5_odd t hp).2 (iblk m c 0 t) (iblk m c 1 t) (iblk m c 2 t) (iblk m c 3 t) T S) (sout0_B_8_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_odd t hp) (off5_odd t hp).1 (off5_odd t hp).2 (iblk m c 0 t) (iblk m c 1 t) (iblk m c 2 t) (iblk m c 3 t) T S)
          isplitl [HS0]
          · unfold owns; iexists _; isplitr
            swap; · iexact HS0
            ipureintro; rfl
          isplitl [HS1]
          · unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_of_cover _ _ VO0_4 VO0_4.junk _ (cover0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_odd t hp) (off5_odd t hp).1 (off5_odd t hp).2 (iblk m c 0 t) (iblk m c 1 t) (iblk m c 2 t) (iblk m c 3 t) T S)).trans (out0_B_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_odd t hp) (off5_odd t hp).1 (off5_odd t hp).2 (iblk m c 0 t) (iblk m c 1 t) (iblk m c 2 t) (iblk m c 3 t) T S ((hK t.isLt h0).2.1 hp) (hK t.isLt h0).2.2)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq]
  unfold PhiS
  iintro ⟨⟨⟨%T, HS0⟩, ⟨%S, HS1⟩, HS2, HS3, HS4⟩, Hg⟩
  isplitl [HS0 HS1 HS2 HS3 HS4]
  · iexists T; iexists S
    isplitr
    · ipureintro; exact known_zero m c T S
    isplitl [HS0]; · iexact HS0
    isplitl [HS1]; · iexact HS1
    isplitl [HS2]; · iexact HS2
    isplitl [HS3]; · iexact HS3
    iexact HS4
  iexact Hg

theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨⟨%T, %S, %hK, HS0, HS1, HS2, HS3, HS4⟩, Hg⟩
  isplitl [HS0 HS1 HS2 HS3 HS4]
  · isplitl [HS0]; · iexists _; iexact HS0
    isplitl [HS1]; · iexists _; iexact HS1
    isplitl [HS2]; · iexact HS2
    isplitl [HS3]; · iexact HS3
    iexact HS4
  iexact Hg

set_option backward.isDefEq.respectTransparency.types false in
/-- The launch: the run reaches its end, the windows' arrays as computed point by point, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- From any memory with the counters at zero the program ends, its arguments unchanged and the counters at zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (run_main m ρ)) ((θ_run defs _ _).mono (fun _ h => h.2) (run_main_quiescent m ρ))

end Cert.Kernel3Ideal.Gen

end
-- ==== Proof.Mla.Final.lean ====
/- What the run leaves in the output array: the layer's result at every index. -/
module

public import proofs.«01_k».proof.Proof.Mla.Blocks
public import proofs.«01_k».proof.Proof.Mla.Frame
public import Idealize.ShloMosaic.Lib.Pipeline.ValueKit

@[expose] public section

set_option maxRecDepth 16384

noncomputable section

namespace Cert.Kernel3Ideal.Gen

open Idealize.ShloMosaic Idealize.ShloMosaic.TcCoe Cert.Mla

variable (m : (ℓ : Loc nD τ sig) → Buf (Elt Ideal) ℓ) (c : Dev nD)

/-- A column of the result is a column of one head. -/
def headOf (n : Fin 2048) : Fin 16 := ⟨n.val / 128, by omega⟩
def laneOf (n : Fin 2048) : Fin 128 := ⟨n.val % 128, by omega⟩

/-- The layer's result over the run's arguments. -/
def finalOut : FVec Ideal S16384x2048 .bf16 := fun i =>
  outAt (m ((c : Thread nD τ).loc main_arg0)) (m ((c : Thread nD τ).loc main_arg1)) (m ((c : Thread nD τ).loc main_arg2)) (i 0) (headOf (i 1)) (laneOf (i 1))

theorem finalOut_apply (h : Fin 16) (b : Fin 32) (r : Fin 512) (d : Fin 128) : finalOut m c (ix2 (row b r) (col h d))
    = outAt (m ((c : Thread nD τ).loc main_arg0)) (m ((c : Thread nD τ).loc main_arg1)) (m ((c : Thread nD τ).loc main_arg2)) (row b r) h d := by
  have e1 : headOf (col h d) = h := Fin.ext (by show (128 * h.val + d.val) / 128 = h.val; omega)
  have e2 : laneOf (col h d) = d := Fin.ext (by show (128 * h.val + d.val) % 128 = d.val; omega)
  show outAt _ _ _ (row b r) (headOf (col h d)) (laneOf (col h d)) = _
  rw [e1, e2]

/-- Every grid point is one of a head and a block of rows. -/
theorem point_of (t : Fin cfg0.N) : ∃ (h : Fin 16) (b : Fin 32), t = pt h b := by
  have hN : t.val < 512 := lt_of_lt_of_eq t.isLt N_0
  refine ⟨⟨t.val / 32, by omega⟩, ⟨t.val % 32, by omega⟩, Fin.ext ?_⟩
  show t.val = 32 * (t.val / 32) + t.val % 32
  omega

theorem covered (i : S16384x2048.Idx) : ∃ t : Fin cfg0.N, (cfg0.win 4).flush t = true ∧ i ∈ ((cfg0.win 4).blk t).view.set := by
  have h0 : (i 0).val < 16384 := (i 0).isLt
  have h1 : (i 1).val < 2048 := (i 1).isLt
  let h : Fin 16 := ⟨(i 1).val / 128, by omega⟩
  let b : Fin 32 := ⟨(i 0).val / 512, by omega⟩
  let r : Fin 512 := ⟨(i 0).val % 512, by omega⟩
  let d : Fin 128 := ⟨(i 1).val % 128, by omega⟩
  have e : i = ix2 (row b r) (col h d) := funext fun a => Fin.ext (by
    match a with
    | ⟨0, _⟩ => show (i 0).val = 512 * ((i 0).val / 512) + (i 0).val % 512; omega
    | ⟨1, _⟩ => show (i 1).val = 128 * ((i 1).val / 128) + (i 1).val % 128; omega)
  refine ⟨pt h b, flush0_4 _, ?_⟩
  have hm := ((cfg0.win 4).blk (pt h b)).view.emb_mem_set (ix2 r d : S512x128.Idx)
  have hx := (emb_4 h b r d).trans e.symm
  exact Eq.mp (congrArg (fun x => x ∈ ((cfg0.win 4).blk (pt h b)).view.set) hx) hm

/-- A block that is `G` at its rows and columns is `G` at the places the block is written to. -/
theorem placed (h : Fin 16) (b : Fin 32) (o : FVec Ideal S512x128 .bf16) (G : FVec Ideal S16384x2048 .bf16)
    (ho : ∀ (r : Fin 512) (d : Fin 128), o (ix2 r d) = G (ix2 (row b r) (col h d))) (y : S512x128.Idx) :
    o y = G (((cfg0.win 4).blk (pt h b)).view.emb y : S16384x2048.Idx) := by
  have hy : y = ix2 (y 0) (y 1) := funext fun a => match a with | ⟨0, _⟩ => rfl | ⟨1, _⟩ => rfl
  have he := (emb_4 h b (y 0) (y 1)).symm.trans (congrArg (((cfg0.win 4).blk (pt h b)).view.emb : S512x128.Idx → S16384x2048.Idx) hy.symm)
  exact (congrArg o hy).trans ((ho (y 0) (y 1)).trans (congrArg G he))

theorem written (o : FVec Ideal S512x128 .bf16) (G : FVec Ideal S16384x2048 .bf16) (t : Fin cfg0.N) (y : ((cfg0.win 4).xblock (cfg0.grid.coords t)).Idx)
    (ho : ∀ z : S512x128.Idx, o z = G (((cfg0.win 4).blk t).view.emb z : S16384x2048.Idx)) :
    _root_.cast (congrArg (Elt Ideal) ((cfg0.win 4).blk t).view.elt_eq.symm) (o ((cfg0.win 4).xinj (cfg0.grid.coords t) y)) = G (((cfg0.win 4).blk t).view.emb y) := ho y

theorem final (hq : ∀ i, IsReal ((m ((c : Thread nD τ).loc main_arg0) : Vec Ideal S1x16384x16x192 .bf16) i))
    (hk : ∀ i, IsReal ((m ((c : Thread nD τ).loc main_arg1) : Vec Ideal S1x16384x16x192 .bf16) i)) :
    ((dats m 0 c).arrAt 4 cfg0.N : FVec Ideal S16384x2048 .bf16) = finalOut m c := by
  have hG := finalOut_apply m c
  generalize finalOut m c = G at hG ⊢
  refine (dats m 0 c).arrAt_eq_of_emb 4 _ (fun t hf y => ?_) covered
  rw [after0_4]
  refine written _ G t y ?_
  obtain ⟨h, b, rfl⟩ := point_of t
  have ho := fun r d => (out_at m c h b r d hq hk).trans (hG h b r d).symm
  generalize outVal (qBlk m c (pt h b)) (kBlk m c (pt h b)) (vBlk m c (pt h b)) = o at ho ⊢
  exact placed h b o G ho

end Cert.Kernel3Ideal.Gen

end
-- ==== Proof.Mla.Ref.lean ====
/- The reference's result at an index: the layer's result there. -/
module

public import proofs.«01_k».proof.Proof.Mla.Spec
public import proofs.«01_k».proof.Proof.Gen.Reference3Ideal.Run
public import proofs.«01_k».proof.Proof.Gen.Reference3Ideal.Read
public import Idealize.ShloMosaic.Lib.KernelVsHost

@[expose] public section

set_option maxRecDepth 16384

noncomputable section

namespace Cert.Reference3Ideal.Gen

open Idealize.ShloMosaic Idealize.ShloMosaic.TcCoe Cert.Mla Cert.Reference3Ideal.Read

theorem ofBits_bot : (Ideal.ofBits .f32 0xFF800000#32 : EReal) = ⊥ := by simp [Ideal.ofBits, Ideal.ieee]

theorem ofBits_zero : (Ideal.ofBits .f32 0x00000000#32 : EReal) = 0 := by simp [Ideal.ofBits, Ideal.ieee]

theorem ofBits_two : (Ideal.ofBits .f32 0x40000000#32 : EReal) = ((2 : ℝ) : EReal) := by
  simp [Ideal.ofBits, Ideal.ieee, -EReal.coe_mul]
  norm_num

theorem log_two (i : S_.Idx) : (val_main_v3 (F := Ideal) i : EReal) = (Real.log 2 : ℝ) := by
  rw [val_main_v3_apply, val_main_cst_apply]
  show Ideal.log (Ideal.ofBits .f32 0x40000000#32) = _
  rw [ofBits_two, Ideal.log_coe, if_neg (by norm_num)]

theorem reduces_max : S1x16x16384x16384.Reduces [3] S1x16x16384 := by decide +kernel

/-- The greatest of the scores is a number where they are. -/
theorem max_real (x : FVec Ideal S1x16x16384x16384 .f32) (y : FVec Ideal S_ .f32) (hy : y = constant S_ .f32 0xFF800000#32) (hx : ∀ i, IsReal (x i)) (i : S1x16x16384.Idx) :
    IsReal (Host.reduce (α := EReal) (FloatOps.maximumf (F := Ideal) (φ := .f32)) x y reducesTo_S1x16x16384x16384_S1x16x16384_d3 h_S_ i) := by
  subst hy
  have e := congrFun (hostReduce_maximumf_eq_multiReduction x 0xFF800000#32 reducesTo_S1x16x16384x16384_S1x16x16384_d3 h_S_ reduces_max (.inl rfl) rfl) i
  refine (congrArg IsReal (e.trans (Ideal.multiReduction_maximumf_single x _ reduces_max (.inl rfl) rfl i))).mpr ?_
  refine (congrArg (fun b : EReal => IsReal ((Finset.univ : Finset (Fin 16384)).fold max b (x ∘ reduces_max.lift i))) ofBits_bot).mpr ?_
  exact IsReal.fold_max (ι := Fin 16384) _ fun j => hx _

variable (q k : FVec Ideal S1x16384x16x192 .bf16) (v : FVec Ideal S1x16384x16x128 .bf16)

theorem score_at (h : Fin 16) (r j : Fin 16384) : (val_main_v2 (F := Ideal) q k (ix4 0 h r j) : EReal) = score q k h r j := by
  rw [val_main_v2_apply]
  refine Finset.sum_congr rfl fun x _ => congrArg₂ (fun a b : EReal => a * b) ?_ ?_
  · rw [val_main_v0_apply]
    exact congrArg q (funext fun a => match a with | ⟨0, _⟩ => rfl | ⟨1, _⟩ => rfl | ⟨2, _⟩ => rfl | ⟨3, _⟩ => rfl)
  · rw [val_main_v1_apply]
    exact congrArg k (funext fun a => match a with | ⟨0, _⟩ => rfl | ⟨1, _⟩ => rfl | ⟨2, _⟩ => rfl | ⟨3, _⟩ => rfl)

theorem scaled_at (h : Fin 16) (r j : Fin 16384) : (val_main_v5 (F := Ideal) q k (ix4 0 h r j) : EReal) = score q k h r j * (Real.log 2 : ℝ) := by
  rw [val_main_v5_apply, val_main_v4_apply]
  exact congrArg₂ (fun a b : EReal => a * b) (score_at q k h r j) (log_two _)

/-- What the scores of a row are lowered by. -/
def low (h : Fin 16) (r : Fin 16384) : EReal := val_main_v8 (F := Ideal) q k (ix3 0 h r)

theorem ix4_eta (i : S1x16x16384x16384.Idx) : i = ix4 0 (i 1) (i 2) (i 3) :=
  funext fun a => match a with | ⟨0, _⟩ => Fin.ext (Nat.lt_one_iff.1 (i 0).isLt) | ⟨1, _⟩ => rfl | ⟨2, _⟩ => rfl | ⟨3, _⟩ => rfl

theorem low_real (hq : ∀ i, IsReal (q i)) (hk : ∀ i, IsReal (k i)) (h : Fin 16) (r : Fin 16384) : IsReal (low q k h r) := by
  have hx : ∀ i, IsReal (val_main_v5 (F := Ideal) q k i) := fun i => by
    refine (congrArg (fun z => IsReal (val_main_v5 (F := Ideal) q k z)) (ix4_eta i)).mpr ?_
    refine (congrArg IsReal (scaled_at q k (i 1) (i 2) (i 3))).mpr ?_
    exact (score_real hq hk _ _ _).mul ⟨_, rfl⟩
  have hm : IsReal (val_main_v6 (F := Ideal) q k (ix3 0 h r)) := max_real _ _ rfl hx _
  unfold low
  rw [val_main_v8_apply, val_main_v7_apply, val_main_cst_1_apply]
  show IsReal (max (Ideal.ofBits .f32 0xFF800000#32) _)
  rw [ofBits_bot, max_eq_right bot_le]
  exact hm

theorem power_at (h : Fin 16) (r j : Fin 16384) : (val_main_v12 (F := Ideal) q k (ix4 0 h r j) : EReal) = Ideal.exp (score q k h r j * (Real.log 2 : ℝ) - low q k h r) := by
  rw [val_main_v12_apply, val_main_v11_apply, val_main_v10_apply, val_main_v9_apply]
  have e : idx_main_v9 (idx_main_v10 (ix4 0 h r j)) = ix3 0 h r := funext fun a => match a with | ⟨0, _⟩ => rfl | ⟨1, _⟩ => rfl | ⟨2, _⟩ => rfl
  exact congrArg Ideal.exp (congrArg₂ (fun a b : EReal => a - b) (scaled_at q k h r j) (congrArg (val_main_v8 (F := Ideal) q k) e))

theorem total_at (h : Fin 16) (r : Fin 16384) : (val_main_v13 (F := Ideal) q k (ix3 0 h r) : EReal) = ∑ j, Ideal.exp (score q k h r j * (Real.log 2 : ℝ) - low q k h r) := by
  rw [val_main_v13_apply, val_main_cst_2_apply]
  refine (congrArg (fun b : EReal => b + _) ofBits_zero).trans ((zero_add _).trans ?_)
  refine Finset.sum_congr rfl fun j _ => ?_
  have e : idx_main_v13 (ix3 0 h r) j = ix4 0 h r j := funext fun a => match a with | ⟨0, _⟩ => rfl | ⟨1, _⟩ => rfl | ⟨2, _⟩ => rfl | ⟨3, _⟩ => rfl
  exact (congrArg (val_main_v12 (F := Ideal) q k) e).trans (power_at q k h r j)

theorem weight_at (h : Fin 16) (r j : Fin 16384) : (val_main_v16 (F := Ideal) q k (ix4 0 h r j) : EReal)
    = Ideal.div (Ideal.exp (score q k h r j * (Real.log 2 : ℝ) - low q k h r)) (∑ i, Ideal.exp (score q k h r i * (Real.log 2 : ℝ) - low q k h r)) := by
  rw [val_main_v16_apply, val_main_v15_apply, val_main_v14_apply]
  have e : idx_main_v14 (idx_main_v15 (ix4 0 h r j)) = ix3 0 h r := funext fun a => match a with | ⟨0, _⟩ => rfl | ⟨1, _⟩ => rfl | ⟨2, _⟩ => rfl
  exact congrArg₂ Ideal.div (power_at q k h r j) ((congrArg (val_main_v13 (F := Ideal) q k) e).trans (total_at q k h r))

theorem mixed_at (hq : ∀ i, IsReal (q i)) (hk : ∀ i, IsReal (k i)) (r : Fin 16384) (h : Fin 16) (d : Fin 128) :
    (val_main_v18 (F := Ideal) q k v (ix4 0 h d r) : EReal) = outAt q k v r h d := by
  rw [val_main_v18_apply]
  refine Eq.trans ?_ (mix_of_softmax (score q k h r) (fun j => v (ix4 0 j h d)) (fun j => score_real hq hk h r j) (low q k h r) (low_real q k hq hk h r))
  refine Finset.sum_congr rfl fun j _ => congrArg₂ (fun a b : EReal => a * b) ?_ ?_
  · rw [val_main_v17_apply]
    exact congrArg v (funext fun a => match a with | ⟨0, _⟩ => rfl | ⟨1, _⟩ => rfl | ⟨2, _⟩ => rfl | ⟨3, _⟩ => rfl)
  · have e : ridx_main_v18 (ix4 0 h d r) j = ix4 0 h r j := funext fun a => match a with | ⟨0, _⟩ => rfl | ⟨1, _⟩ => rfl | ⟨2, _⟩ => rfl | ⟨3, _⟩ => rfl
    exact (congrArg (val_main_v16 (F := Ideal) q k) e).trans (weight_at q k h r j)

/-- The reference's result at a row and a column of a head. -/
theorem out_at (hq : ∀ i, IsReal (q i)) (hk : ∀ i, IsReal (k i)) (r : Fin 16384) (n : Fin 2048) :
    (val_main_v21 (F := Ideal) q k v (ix2 r n) : EReal) = outAt q k v r ⟨n.val / 128, by omega⟩ ⟨n.val % 128, by omega⟩ := by
  rw [val_main_v21_apply]
  refine Eq.trans ?_ (mixed_at q k v hq hk r ⟨n.val / 128, by omega⟩ ⟨n.val % 128, by omega⟩)
  show (val_main_v20 (F := Ideal) q k v (ix2 r n) : EReal) = _
  rw [val_main_v20_apply, val_main_v19_apply]
  refine congrArg (val_main_v18 (F := Ideal) q k v) (funext fun a => Fin.ext ?_)
  match a with
  | ⟨0, _⟩ => rfl
  | ⟨1, _⟩ => show (r.val * 2048 + n.val) / 128 % 16 = n.val / 128; omega
  | ⟨2, _⟩ => show (r.val * 2048 + n.val) % 128 = n.val % 128; omega
  | ⟨3, _⟩ => show (r.val * 2048 + n.val) / 2048 % 16384 = r.val; omega

end Cert.Reference3Ideal.Gen

end
-- ==== Proof.Mla.Pre.lean ====
/- The precondition `finite`, read at an index: every query and every key entry is a number. -/
module

public import proofs.«01_k».proof.Pre_finite
public import proofs.«01_k».proof.Proof.Gen.Pre_finite
public import proofs.«01_k».proof.Proof.Mla.Spec

@[expose] public section

namespace Cert.Mla

open Idealize.ShloMosaic Cert.Pre_finite

/-- A value whose size is below infinity is a number. -/
theorem real_of_size (x : EReal) (h : Ideal.cmp .olt (max x (-x)) (Ideal.ofBits .bf16 0x7F80#16) = 1#1) : IsReal x := by
  have ht : Ideal.ofBits .bf16 0x7F80#16 = ⊤ := by simp [Ideal.ofBits, Ideal.ieee]
  rw [ht] at h
  have hlt : max x (-x) < ⊤ := by
    by_contra hn
    simp [Ideal.cmp, hn] at h
  induction x with
  | bot => simp at hlt
  | top => simp at hlt
  | coe r => exact ⟨r, rfl⟩

theorem finite_of (q k : FVec Ideal S1x16384x16x192 .bf16) (v : FVec Ideal S1x16384x16x128 .bf16)
    (h : (Cert.Pre_finite.fn (F := Ideal) q k v).1 = (fun _ => 1#1) ∧ (Cert.Pre_finite.fn (F := Ideal) q k v).2 = (fun _ => 1#1)) :
    (∀ i, IsReal (q i)) ∧ (∀ i, IsReal (k i)) :=
  ⟨fun i => real_of_size _ (congrFun h.1 i), fun i => real_of_size _ (congrFun h.2 i)⟩

end Cert.Mla
-- ==== Proof.Gqa.Run.lean ====
/- One point of the attention run on whole staging buffers: the stores it leaves. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point of a group, which turns its own query block and takes its first scores itself. -/
noncomputable def runFirst (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : k0_cond1 i = 1#1) (h2 : k0_off2 i = ![0, 0, 0]) (h3 : k0_off3 i = ![1, 0, 0]) (h51 : k0_off5 i 1#32 = ![0, 0, 0]) (h52 : k0_off5 i 2#32 = ![1, 0, 0])
    (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) :
    Σ' (L6 : List (View.Piece (Elt F) S128x512 .bf16)), Σ' (L7 : List (View.Piece (Elt F) S2x128x512 .bf16)), Σ' (L8 : List (View.Piece (Elt F) S2x8192x512 .f32)), Σ' (L9 : List (View.Piece (Elt F) S1x512 .f32)), Σ' (L10 : List (View.Piece (Elt F) S1x512 .f32)), { L11 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs7 ∗ owns (c : Thread nD τ) arg8 fullShare xs8 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (arg7.view.loc (c : Thread nD τ) ↦[arg7.view.set]{fullShare} arg7.view.writes (Elt F) (harg7.unread xs7) L7) ∗ (arg8.view.loc (c : Thread nD τ) ↦[arg8.view.set]{fullShare} arg8.view.writes (Elt F) (harg8.unread xs8) L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0_gqa_attention i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    letI : ClosedOff (k0_off2 i) := ⟨![0, 0, 0], h2⟩
    letI : ClosedOff (k0_off3 i) := ⟨![1, 0, 0], h3⟩
    letI : ClosedOff (k0_off5 i 1#32) := ⟨![0, 0, 0], h51⟩
    letI : ClosedOff (k0_off5 i 2#32) := ⟨![1, 0, 0], h52⟩
    simp only [cc0_gqa_attention_eq_skeleton]; unfold cc0_gqa_attention_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, ⟨%d11, %f11, -, H11⟩, Hk⟩
    obtain rfl := harg2.eq_unread hf2; obtain rfl := harg3.eq_unread hf3; obtain rfl := harg4.eq_unread hf4; obtain rfl := harg5.eq_unread hf5; obtain rfl := harg7.eq_unread hf7; obtain rfl := harg8.eq_unread hf8
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexact H7
    isplitl [H8]; · iexact H8
    isplitl [H9]; · iexists _; iexact H9
    isplitl [H10]; · iexists _; iexact H10
    iexists _; iexact H11

set_option maxHeartbeats 4000000 in
/-- A point of odd number: its turned query block lies in the second slot, and it leaves the next one's in the first. -/
noncomputable def runOdd (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![0, 0, 0]) (h51 : k0_off5 i 1#32 = ![1, 0, 0]) (h52 : k0_off5 i 2#32 = ![0, 0, 0])
    (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) :
    Σ' (L6 : List (View.Piece (Elt F) S128x512 .bf16)), Σ' (L7 : List (View.Piece (Elt F) S2x128x512 .bf16)), Σ' (L8 : List (View.Piece (Elt F) S2x8192x512 .f32)), Σ' (L9 : List (View.Piece (Elt F) S1x512 .f32)), Σ' (L10 : List (View.Piece (Elt F) S1x512 .f32)), { L11 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs7 ∗ owns (c : Thread nD τ) arg8 fullShare xs8 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (arg7.view.loc (c : Thread nD τ) ↦[arg7.view.set]{fullShare} arg7.view.writes (Elt F) (harg7.unread xs7) L7) ∗ (arg8.view.loc (c : Thread nD τ) ↦[arg8.view.set]{fullShare} arg8.view.writes (Elt F) (harg8.unread xs8) L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0_gqa_attention i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    letI : ClosedOff (k0_off3 i) := ⟨![0, 0, 0], h3⟩
    letI : ClosedOff (k0_off5 i 1#32) := ⟨![1, 0, 0], h51⟩
    letI : ClosedOff (k0_off5 i 2#32) := ⟨![0, 0, 0], h52⟩
    simp only [cc0_gqa_attention_eq_skeleton]; unfold cc0_gqa_attention_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, ⟨%d11, %f11, -, H11⟩, Hk⟩
    obtain rfl := harg2.eq_unread hf2; obtain rfl := harg3.eq_unread hf3; obtain rfl := harg4.eq_unread hf4; obtain rfl := harg5.eq_unread hf5; obtain rfl := harg7.eq_unread hf7; obtain rfl := harg8.eq_unread hf8
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexact H7
    isplitl [H8]; · iexact H8
    isplitl [H9]; · iexists _; iexact H9
    isplitl [H10]; · iexists _; iexact H10
    iexists _; iexact H11

set_option maxHeartbeats 4000000 in
/-- A later point of even number: its turned query block lies in the first slot, and it leaves the next one's in the second. -/
noncomputable def runEven (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![1, 0, 0]) (h51 : k0_off5 i 1#32 = ![0, 0, 0]) (h52 : k0_off5 i 2#32 = ![1, 0, 0])
    (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) :
    Σ' (L6 : List (View.Piece (Elt F) S128x512 .bf16)), Σ' (L7 : List (View.Piece (Elt F) S2x128x512 .bf16)), Σ' (L8 : List (View.Piece (Elt F) S2x8192x512 .f32)), Σ' (L9 : List (View.Piece (Elt F) S1x512 .f32)), Σ' (L10 : List (View.Piece (Elt F) S1x512 .f32)), { L11 : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs7 ∗ owns (c : Thread nD τ) arg8 fullShare xs8 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L6) ∗ (arg7.view.loc (c : Thread nD τ) ↦[arg7.view.set]{fullShare} arg7.view.writes (Elt F) (harg7.unread xs7) L7) ∗ (arg8.view.loc (c : Thread nD τ) ↦[arg8.view.set]{fullShare} arg8.view.writes (Elt F) (harg8.unread xs8) L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0_gqa_attention i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    letI : ClosedOff (k0_off3 i) := ⟨![1, 0, 0], h3⟩
    letI : ClosedOff (k0_off5 i 1#32) := ⟨![0, 0, 0], h51⟩
    letI : ClosedOff (k0_off5 i 2#32) := ⟨![1, 0, 0], h52⟩
    simp only [cc0_gqa_attention_eq_skeleton]; unfold cc0_gqa_attention_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, ⟨%d11, %f11, -, H11⟩, Hk⟩
    obtain rfl := harg2.eq_unread hf2; obtain rfl := harg3.eq_unread hf3; obtain rfl := harg4.eq_unread hf4; obtain rfl := harg5.eq_unread hf5; obtain rfl := harg7.eq_unread hf7; obtain rfl := harg8.eq_unread hf8
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexact H7
    isplitl [H8]; · iexact H8
    isplitl [H9]; · iexists _; iexact H9
    isplitl [H10]; · iexists _; iexact H10
    iexists _; iexact H11

end Cert.Kernel4Ideal.Gen

end
-- ==== Proof.Gqa.Out.lean ====
/- What a point of the attention leaves: its block of the result, the turned query block of the next point, and the
scores of the first half of the keys for the next point. -/
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gqa.Run
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of one slot of a buffer right after a store into that same slot reads the stored block. -/
theorem slot_hit {S : Shape} {e : EltTy} {sp : Space} (v : View sig .tc sp S e) {o o' p : Fin S.rank → ℕ} {sz : Fin S.rank → ℕ}
    (h : o = p) (h' : o' = p) (inb : ∀ a, o a + sz a ≤ S.size a) (inb' : ∀ a, o' a + sz a ≤ S.size a)
    (w : (Rect.unit o sz inb).shape.Idx → Elt F e) (L : List (View.Piece (Elt F) S e)) :
    v.readCov ((⟨Rect.unit o sz inb, w⟩ : View.Piece (Elt F) S e) :: L) (Rect.unit o' sz inb').toLoadRect = w := by
  subst h; subst h'
  exact View.readCov_cons_toLoadRect v _ w L

/-- A store into another slot leaves a slot's load what it was. -/
theorem slot_miss {S : Shape} {e : EltTy} {sp : Space} (v : View sig .tc sp S e) {o o' p p' : Fin S.rank → ℕ} {sz : Fin S.rank → ℕ}
    (h : o = p) (h' : o' = p') (inb : ∀ a, o a + sz a ≤ S.size a) (inb' : ∀ a, o' a + sz a ≤ S.size a)
    (w : (Rect.unit o sz inb).shape.Idx → Elt F e) (L : List (View.Piece (Elt F) S e)) (a : Fin S.rank) (ha : p a + sz a ≤ p' a ∨ p' a + sz a ≤ p a) :
    v.readCov ((⟨Rect.unit o sz inb, w⟩ : View.Piece (Elt F) S e) :: L) (Rect.unit o' sz inb').toLoadRect = v.readCov L (Rect.unit o' sz inb').toLoadRect := by
  subst h; subst h'
  rw [View.readCov_eq_canon', View.readCov_eq_canon']
  funext j
  refine View.canon_cons_of_not_mem _ L fun q => ?_
  have q' := ((Rect.mem_set_unit (inb := inb)).1 q) a
  have e1 : (((Rect.unit o' sz inb').toLoadRect.idx j) a).val = o' a + 1 * (j a).val := rfl
  have e2 : (j a).val < sz a := (j a).isLt
  omega

/-- A whole buffer after stores, at a slot just stored. -/
theorem left_hit {S : Shape} {e : EltTy} {sp : Space} (v : View sig .tc sp S e) (f : v.ty.Contents (Elt F)) {o p : Fin S.rank → ℕ} {sz : Fin S.rank → ℕ}
    (h : o = p) (inb : ∀ a, o a + sz a ≤ S.size a) (inb' : ∀ a, p a + sz a ≤ S.size a)
    (w : (Rect.unit o sz inb).shape.Idx → Elt F e) (L : List (View.Piece (Elt F) S e)) :
    View.ld (v.read (Elt F) (v.writes (Elt F) f ((⟨Rect.unit o sz inb, w⟩ : View.Piece (Elt F) S e) :: L))) (Rect.unit p sz inb') = w := by
  subst h
  funext j
  exact View.read_writes_cons_emb v f (Rect.unit o sz inb) w L j

/-- A load at an offset known to be another spelling of it. -/
theorem ld_at {S : Shape} {e : EltTy} (T : S.Idx → Elt F e) {o p : Fin S.rank → ℕ} {sz : Fin S.rank → ℕ} (h : o = p)
    (inb : ∀ a, o a + sz a ≤ S.size a) (inb' : ∀ a, p a + sz a ≤ S.size a) : View.ld T (Rect.unit o sz inb) = View.ld T (Rect.unit p sz inb') := by
  subst h; rfl

theorem inbT0 : ∀ a, (![0, 0, 0] : Fin 3 → ℕ) a + S1x128x512.size a ≤ S2x128x512.size a := by decide
theorem inbT1 : ∀ a, (![1, 0, 0] : Fin 3 → ℕ) a + S1x128x512.size a ≤ S2x128x512.size a := by decide
theorem inbS0 : ∀ a, (![0, 0, 0] : Fin 3 → ℕ) a + S1x8192x512.size a ≤ S2x8192x512.size a := by decide
theorem inbK0 : ∀ a, (![0, 0, 0] : Fin 3 → ℕ) a + S1x8192x128.size a ≤ S1x16384x128.size a := by decide
theorem inbK1 : ∀ a, (![0, 8192, 0] : Fin 3 → ℕ) a + S1x8192x128.size a ≤ S1x16384x128.size a := by decide
theorem inbV0 : ∀ a, (![0, 0] : Fin 2 → ℕ) a + S128x8192.size a ≤ S128x16384.size a := by decide
theorem inbV1 : ∀ a, (![0, 8192] : Fin 2 → ℕ) a + S128x8192.size a ≤ S128x16384.size a := by decide

/-- The two slots of turned query blocks, and the first slot of scores. -/
abbrev slotT0 (T : Vec F S2x128x512 .bf16) : Vec F S1x128x512 .bf16 := View.ld T (Rect.unit (s := S2x128x512) ![0, 0, 0] S1x128x512.size inbT0)
abbrev slotT1 (T : Vec F S2x128x512 .bf16) : Vec F S1x128x512 .bf16 := View.ld T (Rect.unit (s := S2x128x512) ![1, 0, 0] S1x128x512.size inbT1)
abbrev slotS0 (T : Vec F S2x8192x512 .f32) : Vec F S1x8192x512 .f32 := View.ld T (Rect.unit (s := S2x8192x512) ![0, 0, 0] S1x8192x512.size inbS0)
/-- The two halves of a group's keys and of its values. -/
abbrev keys0 (k : Vec F S1x16384x128 .bf16) : Vec F S1x8192x128 .bf16 := View.ld k (Rect.unit (s := S1x16384x128) ![0, 0, 0] S1x8192x128.size inbK0)
abbrev keys1 (k : Vec F S1x16384x128 .bf16) : Vec F S1x8192x128 .bf16 := View.ld k (Rect.unit (s := S1x16384x128) ![0, 8192, 0] S1x8192x128.size inbK1)
abbrev vals0 (v : Vec F S128x16384 .bf16) : Vec F S128x8192 .bf16 := View.ld v (Rect.unit (s := S128x16384) ![0, 0] S128x8192.size inbV0)
abbrev vals1 (v : Vec F S128x16384 .bf16) : Vec F S128x8192 .bf16 := View.ld v (Rect.unit (s := S128x16384) ![0, 8192] S128x8192.size inbV1)

abbrev VO0_4 : View sig .tc .vmem S128x512 .bf16 := (Memref.whole cc0_stg4_0 : Memref sig .tc .vmem S128x512 .bf16).view

/-- The four column blocks of a point's result, one for each query head of the group. -/
abbrev pieces (a : Vec F S128x512 .f32) (l : Vec F S1x512 .f32) : List (View.Piece (Elt F) S128x512 .bf16) :=
  [⟨Rect.unit (s := S128x512) ![0, 384] S128x128.size inb_S128x512_S128x128_0_384, k0_pay6 a l⟩,
    ⟨Rect.unit (s := S128x512) ![0, 256] S128x128.size inb_S128x512_S128x128_0_256, k0_pay5 a l⟩,
    ⟨Rect.unit (s := S128x512) ![0, 128] S128x128.size inb_S128x512_S128x128_0_128, k0_pay4 a l⟩,
    ⟨Rect.unit (s := S128x512) ![0, 0] S128x128.size inb_S128x512_S128x128_0_0, k0_pay3 a l⟩]

/-- The sums of weighted values and the sums of weights of both halves, from their scores and the values. -/
def accOf (s0 s1 : Vec F S1x8192x512 .f32) (v0 v1 : Vec F S128x8192 .bf16) : Vec F S128x512 .f32 :=
  k0_pay30 s1 v1 (k0_pay22 (k0_pay17 s0 k0_pay10)) (k0_pay21 (k0_pay16 v0) (k0_pay18 s0 k0_pay10) (k0_pay19 s0 k0_pay10) (k0_pay13 k0_pay12))
def lenOf (s0 s1 : Vec F S1x8192x512 .f32) : Vec F S1x512 .f32 :=
  k0_pay29 s1 (k0_pay22 (k0_pay17 s0 k0_pay10)) (k0_pay20 (k0_pay18 s0 k0_pay10) (k0_pay19 s0 k0_pay10) k0_pay11)

/-- A point's block of the result from the scores of the first half, those of the second half and the values. -/
def mixOf (s0 s1 : Vec F S1x8192x512 .f32) (v0 v1 : Vec F S128x8192 .bf16) : Vec F S128x512 .bf16 :=
  View.canon (pieces (accOf s0 s1 v0 v1) (lenOf s0 s1))

/-- A point's block of the result from its own query block, the group's keys and its values. -/
def outVal (q : Vec F S4x128x128 .bf16) (k : Vec F S1x16384x128 .bf16) (v : Vec F S128x16384 .bf16) : Vec F S128x512 .bf16 :=
  mixOf (k0_pay8 (keys0 k) (k0_pay7 q)) (k0_pay14 (keys1 k) (k0_pay7 q)) (vals0 v) (vals1 v)

theorem turn_eq (q : Vec F S4x128x128 .bf16) : k0_pay9 q = k0_pay7 q := rfl
theorem score_eq (k : Vec F S1x8192x128 .bf16) (t : Vec F S1x128x512 .bf16) : k0_pay24 (k0_pay23 k t) = k0_pay8 k t := rfl

/-- The block a first point of a group leaves in the result's buffer. -/
def out0_A_4 (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : k0_cond1 i = 1#1) (h2 : k0_off2 i = ![0, 0, 0]) (h3 : k0_off3 i = ![1, 0, 0]) (h51 : k0_off5 i 1#32 = ![0, 0, 0]) (h52 : k0_off5 i 2#32 = ![1, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) : Vec F S128x512 .bf16 :=
  VO0_4.read (Elt F) (VO0_4.writes (Elt F) VO0_4.junk (runFirst c i arg2 harg2 arg3 harg3 arg4 harg4 arg5 harg5 arg6 harg6 arg7 harg7 arg8 harg8 arg9 harg9 arg10 harg10 arg11 harg11 hc h2 h3 h51 h52 x0 x1 x2 x3 xs7 xs8).1)

theorem cover0_A_4 (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : k0_cond1 i = 1#1) (h2 : k0_off2 i = ![0, 0, 0]) (h3 : k0_off3 i = ![1, 0, 0]) (h51 : k0_off5 i 1#32 = ![0, 0, 0]) (h52 : k0_off5 i 2#32 = ![1, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) (y : S128x512.Idx) : ∃ pc ∈ (runFirst c i arg2 harg2 arg3 harg3 arg4 harg4 arg5 harg5 arg6 harg6 arg7 harg7 arg8 harg8 arg9 harg9 arg10 harg10 arg11 harg11 hc h2 h3 h51 h52 x0 x1 x2 x3 xs7 xs8).1, y ∈ pc.1.set :=
  View.cover_of_tiledL (runFirst c i arg2 harg2 arg3 harg3 arg4 harg4 arg5 harg5 arg6 harg6 arg7 harg7 arg8 harg8 arg9 harg9 arg10 harg10 arg11 harg11 hc h2 h3 h51 h52 x0 x1 x2 x3 xs7 xs8).1 S128x128.size (by sl_kernel_rfl) y

/-- The two buffers kept from point to point, as a first point of a group leaves them. -/
def sout0_A_7 (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : k0_cond1 i = 1#1) (h2 : k0_off2 i = ![0, 0, 0]) (h3 : k0_off3 i = ![1, 0, 0]) (h51 : k0_off5 i 1#32 = ![0, 0, 0]) (h52 : k0_off5 i 2#32 = ![1, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) : Vec F S2x128x512 .bf16 :=
  arg7.view.read (Elt F) (arg7.view.writes (Elt F) (harg7.unread xs7) (runFirst c i arg2 harg2 arg3 harg3 arg4 harg4 arg5 harg5 arg6 harg6 arg7 harg7 arg8 harg8 arg9 harg9 arg10 harg10 arg11 harg11 hc h2 h3 h51 h52 x0 x1 x2 x3 xs7 xs8).2.1)

def sout0_A_8 (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : k0_cond1 i = 1#1) (h2 : k0_off2 i = ![0, 0, 0]) (h3 : k0_off3 i = ![1, 0, 0]) (h51 : k0_off5 i 1#32 = ![0, 0, 0]) (h52 : k0_off5 i 2#32 = ![1, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) : Vec F S2x8192x512 .f32 :=
  arg8.view.read (Elt F) (arg8.view.writes (Elt F) (harg8.unread xs8) (runFirst c i arg2 harg2 arg3 harg3 arg4 harg4 arg5 harg5 arg6 harg6 arg7 harg7 arg8 harg8 arg9 harg9 arg10 harg10 arg11 harg11 hc h2 h3 h51 h52 x0 x1 x2 x3 xs7 xs8).2.2.1)

theorem out0_A_4_eq (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : k0_cond1 i = 1#1) (h2 : k0_off2 i = ![0, 0, 0]) (h3 : k0_off3 i = ![1, 0, 0]) (h51 : k0_off5 i 1#32 = ![0, 0, 0]) (h52 : k0_off5 i 2#32 = ![1, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) : out0_A_4 c i arg2 harg2 arg3 harg3 arg4 harg4 arg5 harg5 arg6 harg6 arg7 harg7 arg8 harg8 arg9 harg9 arg10 harg10 arg11 harg11 hc h2 h3 h51 h52 x0 x1 x2 x3 xs7 xs8 = outVal x0 x2 x3 := by
  frame_out
  rw [slot_hit (F := F) arg7.view rfl h2, slot_miss (F := F) arg7.view h3 h51 _ _ _ _ (0 : Fin 3) (.inr (le_refl 1)),
    slot_hit (F := F) arg7.view rfl h51, slot_miss (F := F) arg8.view rfl rfl _ _ _ _ (0 : Fin 3) (.inl (le_refl 1)),
    slot_hit (F := F) arg8.view rfl rfl, slot_miss (F := F) arg8.view rfl rfl _ _ _ _ (0 : Fin 3) (.inr (le_refl 1)),
    slot_hit (F := F) arg8.view rfl rfl, ld_at x3 k0_off6_eq _ inbV0, ld_at x3 k0_off7_eq _ inbV1, ld_at x2 k0_off1_eq _ inbK0]
  rfl

theorem sout0_A_7_eq (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : k0_cond1 i = 1#1) (h2 : k0_off2 i = ![0, 0, 0]) (h3 : k0_off3 i = ![1, 0, 0]) (h51 : k0_off5 i 1#32 = ![0, 0, 0]) (h52 : k0_off5 i 2#32 = ![1, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) : slotT1 (sout0_A_7 c i arg2 harg2 arg3 harg3 arg4 harg4 arg5 harg5 arg6 harg6 arg7 harg7 arg8 harg8 arg9 harg9 arg10 harg10 arg11 harg11 hc h2 h3 h51 h52 x0 x1 x2 x3 xs7 xs8) = k0_pay7 x1 := by
  frame_out
  exact left_hit (F := F) arg7.view _ h3 _ inbT1 _ _

theorem sout0_A_8_eq (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : k0_cond1 i = 1#1) (h2 : k0_off2 i = ![0, 0, 0]) (h3 : k0_off3 i = ![1, 0, 0]) (h51 : k0_off5 i 1#32 = ![0, 0, 0]) (h52 : k0_off5 i 2#32 = ![1, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) : slotS0 (sout0_A_8 c i arg2 harg2 arg3 harg3 arg4 harg4 arg5 harg5 arg6 harg6 arg7 harg7 arg8 harg8 arg9 harg9 arg10 harg10 arg11 harg11 hc h2 h3 h51 h52 x0 x1 x2 x3 xs7 xs8) = k0_pay8 (keys0 x2) (k0_pay7 x1) := by
  frame_out
  rw [slot_hit (F := F) arg7.view h3 h52]
  exact left_hit (F := F) arg8.view _ rfl _ inbS0 _ _

/-- The block a point of odd number leaves in the result's buffer. -/
def out0_B_4 (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![0, 0, 0]) (h51 : k0_off5 i 1#32 = ![1, 0, 0]) (h52 : k0_off5 i 2#32 = ![0, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) : Vec F S128x512 .bf16 :=
  VO0_4.read (Elt F) (VO0_4.writes (Elt F) VO0_4.junk (runOdd c i arg2 harg2 arg3 harg3 arg4 harg4 arg5 harg5 arg6 harg6 arg7 harg7 arg8 harg8 arg9 harg9 arg10 harg10 arg11 harg11 hc h3 h51 h52 x0 x1 x2 x3 xs7 xs8).1)

theorem cover0_B_4 (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![0, 0, 0]) (h51 : k0_off5 i 1#32 = ![1, 0, 0]) (h52 : k0_off5 i 2#32 = ![0, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) (y : S128x512.Idx) : ∃ pc ∈ (runOdd c i arg2 harg2 arg3 harg3 arg4 harg4 arg5 harg5 arg6 harg6 arg7 harg7 arg8 harg8 arg9 harg9 arg10 harg10 arg11 harg11 hc h3 h51 h52 x0 x1 x2 x3 xs7 xs8).1, y ∈ pc.1.set :=
  View.cover_of_tiledL (runOdd c i arg2 harg2 arg3 harg3 arg4 harg4 arg5 harg5 arg6 harg6 arg7 harg7 arg8 harg8 arg9 harg9 arg10 harg10 arg11 harg11 hc h3 h51 h52 x0 x1 x2 x3 xs7 xs8).1 S128x128.size (by sl_kernel_rfl) y

/-- The two buffers kept from point to point, as a point of odd number leaves them. -/
def sout0_B_7 (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![0, 0, 0]) (h51 : k0_off5 i 1#32 = ![1, 0, 0]) (h52 : k0_off5 i 2#32 = ![0, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) : Vec F S2x128x512 .bf16 :=
  arg7.view.read (Elt F) (arg7.view.writes (Elt F) (harg7.unread xs7) (runOdd c i arg2 harg2 arg3 harg3 arg4 harg4 arg5 harg5 arg6 harg6 arg7 harg7 arg8 harg8 arg9 harg9 arg10 harg10 arg11 harg11 hc h3 h51 h52 x0 x1 x2 x3 xs7 xs8).2.1)

def sout0_B_8 (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![0, 0, 0]) (h51 : k0_off5 i 1#32 = ![1, 0, 0]) (h52 : k0_off5 i 2#32 = ![0, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) : Vec F S2x8192x512 .f32 :=
  arg8.view.read (Elt F) (arg8.view.writes (Elt F) (harg8.unread xs8) (runOdd c i arg2 harg2 arg3 harg3 arg4 harg4 arg5 harg5 arg6 harg6 arg7 harg7 arg8 harg8 arg9 harg9 arg10 harg10 arg11 harg11 hc h3 h51 h52 x0 x1 x2 x3 xs7 xs8).2.2.1)

theorem out0_B_4_eq (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![0, 0, 0]) (h51 : k0_off5 i 1#32 = ![1, 0, 0]) (h52 : k0_off5 i 2#32 = ![0, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) (hT : slotT1 xs7 = k0_pay7 x0) (hS : slotS0 xs8 = k0_pay8 (keys0 x2) (k0_pay7 x0)) : out0_B_4 c i arg2 harg2 arg3 harg3 arg4 harg4 arg5 harg5 arg6 harg6 arg7 harg7 arg8 harg8 arg9 harg9 arg10 harg10 arg11 harg11 hc h3 h51 h52 x0 x1 x2 x3 xs7 xs8 = outVal x0 x2 x3 := by
  frame_out
  rw [slot_miss (F := F) arg8.view rfl rfl _ _ _ _ (0 : Fin 3) (.inl (le_refl 1)),
    slot_hit (F := F) arg8.view rfl rfl, ld_at x3 k0_off6_eq _ inbV0, ld_at x3 k0_off7_eq _ inbV1, ld_at xs7 h51 _ inbT1]
  unfold outVal mixOf
  rw [← hT, show k0_pay8 (keys0 x2) (slotT1 xs7) = slotS0 xs8 by rw [hT, hS]]
  rfl

theorem sout0_B_7_eq (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![0, 0, 0]) (h51 : k0_off5 i 1#32 = ![1, 0, 0]) (h52 : k0_off5 i 2#32 = ![0, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) : slotT0 (sout0_B_7 c i arg2 harg2 arg3 harg3 arg4 harg4 arg5 harg5 arg6 harg6 arg7 harg7 arg8 harg8 arg9 harg9 arg10 harg10 arg11 harg11 hc h3 h51 h52 x0 x1 x2 x3 xs7 xs8) = k0_pay7 x1 := by
  frame_out
  exact left_hit (F := F) arg7.view _ h3 _ inbT0 _ _

theorem sout0_B_8_eq (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![0, 0, 0]) (h51 : k0_off5 i 1#32 = ![1, 0, 0]) (h52 : k0_off5 i 2#32 = ![0, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) : slotS0 (sout0_B_8 c i arg2 harg2 arg3 harg3 arg4 harg4 arg5 harg5 arg6 harg6 arg7 harg7 arg8 harg8 arg9 harg9 arg10 harg10 arg11 harg11 hc h3 h51 h52 x0 x1 x2 x3 xs7 xs8) = k0_pay8 (keys0 x2) (k0_pay7 x1) := by
  frame_out
  rw [slot_hit (F := F) arg7.view h3 h52]
  exact left_hit (F := F) arg8.view _ rfl _ inbS0 _ _

/-- The block a point of even number, not the first of its group leaves in the result's buffer. -/
def out0_C_4 (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![1, 0, 0]) (h51 : k0_off5 i 1#32 = ![0, 0, 0]) (h52 : k0_off5 i 2#32 = ![1, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) : Vec F S128x512 .bf16 :=
  VO0_4.read (Elt F) (VO0_4.writes (Elt F) VO0_4.junk (runEven c i arg2 harg2 arg3 harg3 arg4 harg4 arg5 harg5 arg6 harg6 arg7 harg7 arg8 harg8 arg9 harg9 arg10 harg10 arg11 harg11 hc h3 h51 h52 x0 x1 x2 x3 xs7 xs8).1)

theorem cover0_C_4 (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![1, 0, 0]) (h51 : k0_off5 i 1#32 = ![0, 0, 0]) (h52 : k0_off5 i 2#32 = ![1, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) (y : S128x512.Idx) : ∃ pc ∈ (runEven c i arg2 harg2 arg3 harg3 arg4 harg4 arg5 harg5 arg6 harg6 arg7 harg7 arg8 harg8 arg9 harg9 arg10 harg10 arg11 harg11 hc h3 h51 h52 x0 x1 x2 x3 xs7 xs8).1, y ∈ pc.1.set :=
  View.cover_of_tiledL (runEven c i arg2 harg2 arg3 harg3 arg4 harg4 arg5 harg5 arg6 harg6 arg7 harg7 arg8 harg8 arg9 harg9 arg10 harg10 arg11 harg11 hc h3 h51 h52 x0 x1 x2 x3 xs7 xs8).1 S128x128.size (by sl_kernel_rfl) y

/-- The two buffers kept from point to point, as a point of even number, not the first of its group leaves them. -/
def sout0_C_7 (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![1, 0, 0]) (h51 : k0_off5 i 1#32 = ![0, 0, 0]) (h52 : k0_off5 i 2#32 = ![1, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) : Vec F S2x128x512 .bf16 :=
  arg7.view.read (Elt F) (arg7.view.writes (Elt F) (harg7.unread xs7) (runEven c i arg2 harg2 arg3 harg3 arg4 harg4 arg5 harg5 arg6 harg6 arg7 harg7 arg8 harg8 arg9 harg9 arg10 harg10 arg11 harg11 hc h3 h51 h52 x0 x1 x2 x3 xs7 xs8).2.1)

def sout0_C_8 (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![1, 0, 0]) (h51 : k0_off5 i 1#32 = ![0, 0, 0]) (h52 : k0_off5 i 2#32 = ![1, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) : Vec F S2x8192x512 .f32 :=
  arg8.view.read (Elt F) (arg8.view.writes (Elt F) (harg8.unread xs8) (runEven c i arg2 harg2 arg3 harg3 arg4 harg4 arg5 harg5 arg6 harg6 arg7 harg7 arg8 harg8 arg9 harg9 arg10 harg10 arg11 harg11 hc h3 h51 h52 x0 x1 x2 x3 xs7 xs8).2.2.1)

theorem out0_C_4_eq (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![1, 0, 0]) (h51 : k0_off5 i 1#32 = ![0, 0, 0]) (h52 : k0_off5 i 2#32 = ![1, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) (hT : slotT0 xs7 = k0_pay7 x0) (hS : slotS0 xs8 = k0_pay8 (keys0 x2) (k0_pay7 x0)) : out0_C_4 c i arg2 harg2 arg3 harg3 arg4 harg4 arg5 harg5 arg6 harg6 arg7 harg7 arg8 harg8 arg9 harg9 arg10 harg10 arg11 harg11 hc h3 h51 h52 x0 x1 x2 x3 xs7 xs8 = outVal x0 x2 x3 := by
  frame_out
  rw [slot_miss (F := F) arg8.view rfl rfl _ _ _ _ (0 : Fin 3) (.inl (le_refl 1)),
    slot_hit (F := F) arg8.view rfl rfl, ld_at x3 k0_off6_eq _ inbV0, ld_at x3 k0_off7_eq _ inbV1, ld_at xs7 h51 _ inbT0]
  unfold outVal mixOf
  rw [← hT, show k0_pay8 (keys0 x2) (slotT0 xs7) = slotS0 xs8 by rw [hT, hS]]
  rfl

theorem sout0_C_7_eq (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![1, 0, 0]) (h51 : k0_off5 i 1#32 = ![0, 0, 0]) (h52 : k0_off5 i 2#32 = ![1, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) : slotT1 (sout0_C_7 c i arg2 harg2 arg3 harg3 arg4 harg4 arg5 harg5 arg6 harg6 arg7 harg7 arg8 harg8 arg9 harg9 arg10 harg10 arg11 harg11 hc h3 h51 h52 x0 x1 x2 x3 xs7 xs8) = k0_pay7 x1 := by
  frame_out
  exact left_hit (F := F) arg7.view _ h3 _ inbT1 _ _

theorem sout0_C_8_eq (c : Dev nD) (i : grid0.Coords) (arg2 : Memref sig .tc .vmem S4x128x128 .bf16) (harg2 : arg2.IsWhole) (arg3 : Memref sig .tc .vmem S4x128x128 .bf16) (harg3 : arg3.IsWhole) (arg4 : Memref sig .tc .vmem S1x16384x128 .bf16) (harg4 : arg4.IsWhole) (arg5 : Memref sig .tc .vmem S128x16384 .bf16) (harg5 : arg5.IsWhole) (arg6 : Memref sig .tc .vmem S128x512 .bf16) (harg6 : arg6.IsWhole) (arg7 : Memref sig .tc .vmem S2x128x512 .bf16) (harg7 : arg7.IsWhole) (arg8 : Memref sig .tc .vmem S2x8192x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (hc : ¬k0_cond1 i = 1#1) (h3 : k0_off3 i = ![1, 0, 0]) (h51 : k0_off5 i 1#32 = ![0, 0, 0]) (h52 : k0_off5 i 2#32 = ![1, 0, 0]) (x0 : Vec F S4x128x128 .bf16) (x1 : Vec F S4x128x128 .bf16) (x2 : Vec F S1x16384x128 .bf16) (x3 : Vec F S128x16384 .bf16) (xs7 : Vec F S2x128x512 .bf16) (xs8 : Vec F S2x8192x512 .f32) : slotS0 (sout0_C_8 c i arg2 harg2 arg3 harg3 arg4 harg4 arg5 harg5 arg6 harg6 arg7 harg7 arg8 harg8 arg9 harg9 arg10 harg10 arg11 harg11 hc h3 h51 h52 x0 x1 x2 x3 xs7 xs8) = k0_pay8 (keys0 x2) (k0_pay7 x1) := by
  frame_out
  rw [slot_hit (F := F) arg7.view h3 h52]
  exact left_hit (F := F) arg8.view _ rfl _ inbS0 _ _

end Cert.Kernel4Ideal.Gen

end
-- ==== Proof.Gqa.Step.lean ====
/- What a grid point writes out, at an index, from its blocks. -/
module

public import proofs.«01_k».proof.Proof.Gqa.Out
public import proofs.«01_k».proof.Proof.Mla.Spec
public import Idealize.ShloMosaic.Lib.KernelVsHost

@[expose] public section

set_option maxRecDepth 16384

noncomputable section

namespace Cert.Kernel4Ideal.Gen

open Idealize.ShloMosaic Idealize.ShloMosaic.TcCoe Cert.Mla

theorem ofBits_bot : (FloatOps.ofBits .f32 0xFF800000#32 : Ideal .f32) = (⊥ : EReal) := by
  show Ideal.ofBits .f32 0xFF800000#32 = ⊥
  simp [Ideal.ofBits, Ideal.ieee]

/-- The greatest score of a column. -/
def colMax (s : Vec Ideal S1x8192x512 .f32) (r : Fin 512) : EReal := (Finset.univ : Finset (Fin 8192)).fold max ⊥ (fun j => s (ix3 0 j r))

/-- A head of a group and a row of a block, as one row of the turned query block. -/
def sub (r : Fin 4) (a : Fin 128) : Fin 512 := ⟨128 * r.val + a.val, by omega⟩

theorem pay7_apply (q : Vec Ideal S4x128x128 .bf16) (x : Fin 128) (r : Fin 4) (a : Fin 128) : (k0_pay7 q : FVec Ideal S1x128x512 .bf16) (ix3 0 x (sub r a)) = q (ix3 r a x) := by
  unfold k0_pay7 sub; pointwise

theorem pay8_apply (k : Vec Ideal S1x8192x128 .bf16) (q : Vec Ideal S1x128x512 .bf16) (j : Fin 8192) (r : Fin 512) :
    (k0_pay8 k q : FVec Ideal S1x8192x512 .f32) (ix3 0 j r) = (∑ x : Fin 128, k (ix3 0 j x) * q (ix3 0 x r) : EReal) := by
  unfold k0_pay8; pointwise

theorem pay14_eq (k : Vec Ideal S1x8192x128 .bf16) (q : Vec Ideal S1x128x512 .bf16) : k0_pay14 k q = k0_pay8 k q := rfl

theorem pay10_apply (r : Fin 512) : (k0_pay10 (F := Ideal)) (ix2 0 r) = (⊥ : EReal) := by
  unfold k0_pay10
  pointwise
  exact ofBits_bot

theorem pay11_apply (r : Fin 512) : (k0_pay11 (F := Ideal)) (ix2 0 r) = (0 : EReal) := by
  unfold k0_pay11
  pointwise

theorem pay13_apply (d : Fin 128) (r : Fin 512) : (k0_pay13 (k0_pay12 (F := Ideal))) (ix2 d r) = (0 : EReal) := by
  unfold k0_pay13 k0_pay12
  pointwise

theorem pay15_apply (s : Vec Ideal S1x8192x512 .f32) (j : Fin 8192) (r : Fin 512) : (k0_pay15 s : FVec Ideal S8192x512 .f32) (ix2 j r) = s (ix3 0 j r) := by
  unfold k0_pay15; pointwise

theorem reduced_max (x : FVec Ideal S8192x512 .f32) (r : Fin 512) :
    (multiReduction .maximumf [0] S512 x 0xFF800000#32 reduces_S8192x512_S512 (.inl rfl) rfl : FVec Ideal S512 .f32) (ix1 r)
      = (Finset.univ : Finset (Fin 8192)).fold max (⊥ : EReal) (fun j => x (ix2 j r)) := by
  refine (Ideal.multiReduction_maximumf_single x _ reduces_S8192x512_S512 (.inl rfl) rfl (ix1 r)).trans ?_
  have e : (x ∘ Shape.Reduces.lift reduces_S8192x512_S512 (ix1 r)) = fun j : Fin 8192 => x (ix2 j r) := funext fun j =>
    congrArg x (funext fun a => match a with | ⟨0, _⟩ => rfl | ⟨1, _⟩ => rfl)
  exact congrArg₂ (fun b f => (Finset.univ : Finset (Fin 8192)).fold max (b : EReal) f) ofBits_bot e

theorem top_apply (w : FVec Ideal S512 .f32) (o : Vec Ideal S1x512 .f32) (r : Fin 512) :
    (maximumf o (shapeCast S1x512 w shapeCasts_S512_S1x512) : FVec Ideal S1x512 .f32) (ix2 0 r) = max (o (ix2 0 r) : EReal) (w (ix1 r)) := by
  pointwise

theorem pay17_apply (s : Vec Ideal S1x8192x512 .f32) (o : Vec Ideal S1x512 .f32) (r : Fin 512) :
    (k0_pay17 s o : FVec Ideal S1x512 .f32) (ix2 0 r) = max (o (ix2 0 r) : EReal) (colMax s r) := by
  unfold k0_pay17
  refine (top_apply _ o r).trans (congrArg (max (o (ix2 0 r) : EReal)) ((reduced_max _ r).trans ?_))
  exact congrArg (fun f => (Finset.univ : Finset (Fin 8192)).fold max (⊥ : EReal) f) (funext fun j => pay15_apply s j r)

theorem pow_apply (x : FVec Ideal S8192x512 .f32) (m : FVec Ideal S1x512 .f32) (j : Fin 8192) (r : Fin 512) :
    (exp2 (subf x (broadcastTo S8192x512 m broadcasts_S1x512_S8192x512)) : FVec Ideal S8192x512 .f32) (ix2 j r)
      = Ideal.exp2 ((x (ix2 j r) : EReal) - m (ix2 0 r)) := by
  pointwise
  try rfl

theorem pay18_apply (s : Vec Ideal S1x8192x512 .f32) (o : Vec Ideal S1x512 .f32) (j : Fin 8192) (r : Fin 512) :
    (k0_pay18 s o : FVec Ideal S8192x512 .f32) (ix2 j r) = Ideal.exp2 ((s (ix3 0 j r) : EReal) - max (o (ix2 0 r) : EReal) (colMax s r)) := by
  unfold k0_pay18
  exact (pow_apply _ _ j r).trans (congrArg Ideal.exp2 (congrArg₂ (fun a b : EReal => a - b) (pay15_apply s j r) (pay17_apply s o r)))

theorem pay19_apply (s : Vec Ideal S1x8192x512 .f32) (o : Vec Ideal S1x512 .f32) (r : Fin 512) :
    (k0_pay19 s o : FVec Ideal S1x512 .f32) (ix2 0 r) = Ideal.exp2 ((o (ix2 0 r) : EReal) - max (o (ix2 0 r) : EReal) (colMax s r)) :=
  congrArg (fun b : EReal => Ideal.exp2 ((o (ix2 0 r) : EReal) - b)) (pay17_apply s o r)

theorem pay20_apply (p : FVec Ideal S8192x512 .f32) (a : FVec Ideal S1x512 .f32) (l : Vec Ideal S1x512 .f32) (r : Fin 512) :
    (k0_pay20 p a l : FVec Ideal S1x512 .f32) (ix2 0 r) = (a (ix2 0 r) * l (ix2 0 r) + ∑ j : Fin 8192, p (ix2 j r) : EReal) := by
  unfold k0_pay20; pointwise

theorem pay21_apply (v : FVec Ideal S128x8192 .bf16) (p : FVec Ideal S8192x512 .f32) (a : FVec Ideal S1x512 .f32) (l : Vec Ideal S128x512 .f32) (d : Fin 128) (r : Fin 512) :
    (k0_pay21 v p a l : FVec Ideal S128x512 .f32) (ix2 d r) = (a (ix2 0 r) * l (ix2 d r) + ∑ j : Fin 8192, v (ix2 d j) * p (ix2 j r) : EReal) := by
  unfold k0_pay21; pointwise

theorem pay16_eq (v : Vec Ideal S128x8192 .bf16) : k0_pay16 v = v := by
  funext j
  exact shapeCast_apply _ _ _ _ rfl

theorem pay22_eq (o : FVec Ideal S1x512 .f32) : k0_pay22 o = o := by
  funext j
  exact shapeCast_apply _ _ _ _ rfl

/-- The second half's steps are the first half's, over the other half. -/
theorem pay29_eq (s : Vec Ideal S1x8192x512 .f32) (o l : Vec Ideal S1x512 .f32) : k0_pay29 s o l = k0_pay20 (k0_pay18 s o) (k0_pay19 s o) l := rfl
theorem pay30_eq (s : Vec Ideal S1x8192x512 .f32) (v : Vec Ideal S128x8192 .bf16) (o : Vec Ideal S1x512 .f32) (l : Vec Ideal S128x512 .f32) :
    k0_pay30 s v o l = k0_pay21 (k0_pay16 v) (k0_pay18 s o) (k0_pay19 s o) l := rfl

theorem pay2_apply (a : Vec Ideal S128x512 .f32) (l : Vec Ideal S1x512 .f32) (r : Fin 512) (d : Fin 128) :
    (k0_pay2 a l : FVec Ideal S512x128 .f32) (ix2 r d) = Ideal.div (a (ix2 d r)) (l (ix2 0 r)) := by
  unfold k0_pay2; pointwise

/-- The rows of one head of the group, cut out of the turned result. -/
theorem cut_apply (w : FVec Ideal S512x128 .f32) (o : Fin S512x128.rank → ℕ) (h : S512x128.Slices o S128x128) (r : Fin 4) (ho : o = ![128 * r.val, 0]) (a d : Fin 128) :
    (truncf .bf16 (extractStridedSlice S128x128 o w h) bitsLt_bf16_f32 : FVec Ideal S128x128 .bf16) (ix2 a d) = w (ix2 (sub r a) d) := by
  subst ho
  refine congrArg w (funext fun x => Fin.ext ?_)
  match x with
  | ⟨0, _⟩ => rfl
  | ⟨1, _⟩ => show 0 + d.val = d.val; omega

/-- The result's block, all of it: the sums of weighted values over the sums of weights. -/
def quot (a : Vec Ideal S128x512 .f32) (l : Vec Ideal S1x512 .f32) : Vec Ideal S128x512 .bf16 := fun y =>
  let n : Fin 512 := sub ⟨(y (1 : Fin 2)).val / 128, by have h : (y (1 : Fin 2)).val < 512 := (y (1 : Fin 2)).isLt; omega⟩ (y (0 : Fin 2))
  Ideal.div (a (ix2 (⟨(y (1 : Fin 2)).val % 128, by omega⟩ : Fin 128) n)) (l (ix2 0 n))

theorem quot_apply (a : Vec Ideal S128x512 .f32) (l : Vec Ideal S1x512 .f32) (b : Fin 128) (r : Fin 4) (d : Fin 128) (n : Fin 512) (hn : n.val = 128 * r.val + d.val) :
    quot a l (ix2 b n) = Ideal.div (a (ix2 d (sub r b))) (l (ix2 0 (sub r b))) := by
  have e1 : (⟨n.val / 128, by omega⟩ : Fin 4) = r := Fin.ext (by show n.val / 128 = r.val; omega)
  have e2 : (⟨n.val % 128, by omega⟩ : Fin 128) = d := Fin.ext (by show n.val % 128 = d.val; omega)
  show Ideal.div (a (ix2 (⟨n.val % 128, by omega⟩ : Fin 128) (sub ⟨n.val / 128, by omega⟩ b))) (l (ix2 0 (sub ⟨n.val / 128, by omega⟩ b))) = _
  rw [e1, e2]

/-- One of the four stores is its part of the block. -/
theorem piece_apply (a : Vec Ideal S128x512 .f32) (l : Vec Ideal S1x512 .f32) (p : FVec Ideal S128x128 .bf16) (r : Fin 4) (o : ℕ) (ho : o = 128 * r.val)
    (inb : ∀ x, (![0, o] : Fin 2 → ℕ) x + S128x128.size x ≤ S128x512.size x)
    (hp : ∀ b d : Fin 128, p (ix2 b d) = k0_pay2 a l (ix2 (sub r b) d)) (y : S128x128.Idx) :
    p y = quot a l ((Rect.unit (s := S128x512) ![0, o] S128x128.size inb).emb y) := by
  have hy : y = ix2 (y 0) (y 1) := funext fun x => match x with | ⟨0, _⟩ => rfl | ⟨1, _⟩ => rfl
  have h1 : (y 1).val < 128 := (y 1).isLt
  have he : (Rect.unit (s := S128x512) ![0, o] S128x128.size inb).emb y = ix2 (y 0) (⟨128 * r.val + (y 1).val, by omega⟩ : Fin 512) := funext fun x => Fin.ext (by
    match x with
    | ⟨0, _⟩ => show 0 + 1 * (y 0).val = (y 0).val; omega
    | ⟨1, _⟩ => show o + 1 * (y 1).val = 128 * r.val + (y 1).val; omega)
  exact (congrArg p hy).trans (((hp (y 0) (y 1)).trans (pay2_apply a l _ _)).trans ((congrArg (quot a l) he).trans (quot_apply a l (y 0) r (y 1) _ rfl)).symm)

theorem canon_eq (a : Vec Ideal S128x512 .f32) (l : Vec Ideal S1x512 .f32) (y : S128x512.Idx) :
    View.canon (Val := Elt Ideal) (pieces a l) y = quot a l y := by
  refine View.canon_apply_of_pieces (Val := Elt Ideal) (quot a l) (pieces a l) ?_ y ?_
  · intro p hp
    rcases List.mem_cons.mp hp with rfl | hp
    · exact piece_apply a l _ 3 384 rfl inb_S128x512_S128x128_0_384 fun b d => cut_apply _ _ _ 3 rfl b d
    rcases List.mem_cons.mp hp with rfl | hp
    · exact piece_apply a l _ 2 256 rfl inb_S128x512_S128x128_0_256 fun b d => cut_apply _ _ _ 2 rfl b d
    rcases List.mem_cons.mp hp with rfl | hp
    · exact piece_apply a l _ 1 128 rfl inb_S128x512_S128x128_0_128 fun b d => cut_apply _ _ _ 1 rfl b d
    rcases List.mem_cons.mp hp with rfl | hp
    · exact piece_apply a l _ 0 0 rfl inb_S128x512_S128x128_0_0 fun b d => cut_apply _ _ _ 0 rfl b d
    exact absurd hp List.not_mem_nil
  · exact View.cover_of_tiledL (pieces a l) S128x128.size (by sl_kernel_rfl) y

/-- The mixed values at a row, a head of the group and a column, from the scores and the values of the two halves. -/
theorem mixOf_apply (s0 s1 : Vec Ideal S1x8192x512 .f32) (v0 v1 : Vec Ideal S128x8192 .bf16) (s v : Fin 16384 → EReal) (b : Fin 128) (r : Fin 4) (d : Fin 128)
    (hs : ∀ j, IsReal (s j)) (e0 : ∀ j, s0 (ix3 0 j (sub r b)) = s (lo j)) (e1 : ∀ j, s1 (ix3 0 j (sub r b)) = s (hi j))
    (f0 : ∀ j, v0 (ix2 d j) = v (lo j)) (f1 : ∀ j, v1 (ix2 d j) = v (hi j)) :
    (mixOf s0 s1 v0 v1 : FVec Ideal S128x512 .bf16) (ix2 b (sub r d)) = mix s v := by
  have h0 : IsReal (colMax s0 (sub r b)) := IsReal.fold_max (ι := Fin 8192) _ fun j => by rw [e0]; exact hs _
  have h1 : IsReal (colMax s1 (sub r b)) := IsReal.fold_max (ι := Fin 8192) _ fun j => by rw [e1]; exact hs _
  unfold mixOf
  rw [canon_eq, quot_apply _ _ b r d (sub r d) rfl]
  unfold accOf lenOf
  rw [pay29_eq, pay30_eq, pay16_eq, pay16_eq, pay22_eq, pay21_apply, pay21_apply, pay20_apply, pay20_apply]
  simp only [pay19_apply, pay18_apply, pay17_apply, pay13_apply, pay11_apply, pay10_apply, e0, e1, f0, f1]
  rw [max_eq_right (bot_le : (⊥ : EReal) ≤ colMax s0 (sub r b))]
  exact mix_of_halves s v hs _ _ h0 (h0.max h1)

theorem keys0_apply (k : Vec Ideal S1x16384x128 .bf16) (j : Fin 8192) (x : Fin 128) : keys0 k (ix3 0 j x) = k (ix3 0 (lo j) x) :=
  congrArg k (funext fun a => Fin.ext (by
    match a with
    | ⟨0, _⟩ => rfl
    | ⟨1, _⟩ => show 0 + 1 * j.val = j.val; omega
    | ⟨2, _⟩ => show 0 + 1 * x.val = x.val; omega))
theorem keys1_apply (k : Vec Ideal S1x16384x128 .bf16) (j : Fin 8192) (x : Fin 128) : keys1 k (ix3 0 j x) = k (ix3 0 (hi j) x) :=
  congrArg k (funext fun a => Fin.ext (by
    match a with
    | ⟨0, _⟩ => rfl
    | ⟨1, _⟩ => show 8192 + 1 * j.val = 8192 + j.val; omega
    | ⟨2, _⟩ => show 0 + 1 * x.val = x.val; omega))
theorem vals0_apply (v : Vec Ideal S128x16384 .bf16) (d : Fin 128) (j : Fin 8192) : vals0 v (ix2 d j) = v (ix2 d (lo j)) :=
  congrArg v (funext fun a => Fin.ext (by
    match a with
    | ⟨0, _⟩ => show 0 + 1 * d.val = d.val; omega
    | ⟨1, _⟩ => show 0 + 1 * j.val = j.val; omega))
theorem vals1_apply (v : Vec Ideal S128x16384 .bf16) (d : Fin 128) (j : Fin 8192) : vals1 v (ix2 d j) = v (ix2 d (hi j)) :=
  congrArg v (funext fun a => Fin.ext (by
    match a with
    | ⟨0, _⟩ => show 0 + 1 * d.val = d.val; omega
    | ⟨1, _⟩ => show 8192 + 1 * j.val = 8192 + j.val; omega))

/-- What a point writes out, at a row, a head of the group and a column. -/
theorem outVal_apply (q : Vec Ideal S4x128x128 .bf16) (k : Vec Ideal S1x16384x128 .bf16) (v : Vec Ideal S128x16384 .bf16) (s : Fin 16384 → EReal) (b : Fin 128) (r : Fin 4) (d : Fin 128)
    (hs : ∀ j, IsReal (s j)) (e : ∀ j : Fin 16384, (∑ x : Fin 128, k (ix3 0 j x) * q (ix3 r b x) : EReal) = s j) :
    (outVal q k v : FVec Ideal S128x512 .bf16) (ix2 b (sub r d)) = mix s (fun j => v (ix2 d j)) := by
  unfold outVal
  refine mixOf_apply _ _ _ _ s _ b r d hs (fun j => ?_) (fun j => ?_) (fun j => vals0_apply v d j) (fun j => vals1_apply v d j)
  · rw [pay8_apply, ← e]
    exact Finset.sum_congr rfl fun x _ => by rw [keys0_apply, pay7_apply]
  · rw [pay14_eq, pay8_apply, ← e]
    exact Finset.sum_congr rfl fun x _ => by rw [keys1_apply, pay7_apply]

end Cert.Kernel4Ideal.Gen

end
-- ==== Proof.Gqa.Setup.lean ====
/- The attention program around its points: the arrays when the points begin, the blocks each point is given, which kind
each point is of, and the last clause of the run: the arguments are untouched. -/
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gqa.Out
public import Idealize.ShloMosaic.Lib.Pipeline.FrameBody
public import Idealize.ShloMosaic.Lib.Pipeline.ClipFacts
public import Idealize.ShloMosaic.Lib.Pipeline.Frame
public import Idealize.ShloMosaic.Lib.Ring
public import Idealize.ShloMosaic.Lib.Tactic
public import Idealize.ShloMosaic.Lib.WordCmp

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every buffer of a core once the steps before the kernel are done. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

set_option maxHeartbeats 800000 in
/-- The steps before the kernel, then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0]
    (by simp only [List.Forall]; exact hostOps0_sub)
    (by simp only [List.Forall]; exact hostOps0_fresh) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-- The block of a window's array a point is given. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The points -/

theorem ix_0 : ∀ t : Fin cfg0.N, win0_0.index t (0 : Fin 3) = t.val / 128 ∧ win0_0.index t (1 : Fin 3) = t.val % 128 ∧ win0_0.index t (2 : Fin 3) = 0 :=
  (by decide +kernel : ∀ t : Fin grid0.N, _)
theorem ix_1 : ∀ t : Fin cfg0.N, win0_1.index t (0 : Fin 3) = t.val / 128 ∧ win0_1.index t (1 : Fin 3) = min (t.val % 128 + 1) 127 ∧ win0_1.index t (2 : Fin 3) = 0 :=
  (by decide +kernel : ∀ t : Fin grid0.N, _)
theorem ix_2 : ∀ t : Fin cfg0.N, win0_2.index t (0 : Fin 3) = 8 + t.val / 128 ∧ win0_2.index t (1 : Fin 3) = 0 ∧ win0_2.index t (2 : Fin 3) = 0 :=
  (by decide +kernel : ∀ t : Fin grid0.N, _)
theorem ix_3 : ∀ t : Fin cfg0.N, win0_3.index t (0 : Fin 2) = t.val / 128 ∧ win0_3.index t (1 : Fin 2) = 0 :=
  (by decide +kernel : ∀ t : Fin grid0.N, _)
theorem ix_4 : ∀ t : Fin cfg0.N, win0_4.index t (0 : Fin 2) = t.val % 128 ∧ win0_4.index t (1 : Fin 2) = t.val / 128 :=
  (by decide +kernel : ∀ t : Fin grid0.N, _)

theorem cond_iff : ∀ t : Fin cfg0.N, k0_cond1 (grid0.coords t) = 1#1 ↔ t.val % 128 = 0 :=
  (by decide +kernel : ∀ t : Fin grid0.N, k0_cond1 (grid0.coords t) = 1#1 ↔ t.val % 128 = 0)
theorem off2_even : ∀ t : Fin cfg0.N, t.val % 2 = 0 → k0_off2 (grid0.coords t) = ![0, 0, 0] :=
  (by decide +kernel : ∀ t : Fin grid0.N, t.val % 2 = 0 → k0_off2 (grid0.coords t) = ![0, 0, 0])
theorem off3_even : ∀ t : Fin cfg0.N, t.val % 2 = 0 → k0_off3 (grid0.coords t) = ![1, 0, 0] :=
  (by decide +kernel : ∀ t : Fin grid0.N, t.val % 2 = 0 → k0_off3 (grid0.coords t) = ![1, 0, 0])
theorem off3_odd : ∀ t : Fin cfg0.N, ¬t.val % 2 = 0 → k0_off3 (grid0.coords t) = ![0, 0, 0] :=
  (by decide +kernel : ∀ t : Fin grid0.N, ¬t.val % 2 = 0 → k0_off3 (grid0.coords t) = ![0, 0, 0])
theorem off5_even : ∀ t : Fin cfg0.N, t.val % 2 = 0 → k0_off5 (grid0.coords t) 1#32 = ![0, 0, 0] ∧ k0_off5 (grid0.coords t) 2#32 = ![1, 0, 0] :=
  (by decide +kernel : ∀ t : Fin grid0.N, t.val % 2 = 0 → k0_off5 (grid0.coords t) 1#32 = ![0, 0, 0] ∧ k0_off5 (grid0.coords t) 2#32 = ![1, 0, 0])
theorem off5_odd : ∀ t : Fin cfg0.N, ¬t.val % 2 = 0 → k0_off5 (grid0.coords t) 1#32 = ![1, 0, 0] ∧ k0_off5 (grid0.coords t) 2#32 = ![0, 0, 0] :=
  (by decide +kernel : ∀ t : Fin grid0.N, ¬t.val % 2 = 0 → k0_off5 (grid0.coords t) 1#32 = ![1, 0, 0] ∧ k0_off5 (grid0.coords t) 2#32 = ![0, 0, 0])

/-- A point's own query block: four heads of a group, a block of rows. -/
def qBlk (c : Dev nD) (t : Fin cfg0.N) : Vec F S4x128x128 .bf16 := fun y => (V m c main_v6 : Vec F S26x16384x128 .bf16) (fun a => match a with
  | ⟨0, _⟩ => ⟨4 * (t.val / 128) + (y (0 : Fin 3)).val, by have h : t.val < 256 := lt_of_lt_of_eq t.isLt N_0; have h0 : (y (0 : Fin 3)).val < 4 := (y (0 : Fin 3)).isLt; show _ < 26; omega⟩
  | ⟨1, _⟩ => ⟨128 * (t.val % 128) + (y (1 : Fin 3)).val, by have h1 : (y (1 : Fin 3)).val < 128 := (y (1 : Fin 3)).isLt; show _ < 16384; omega⟩
  | ⟨2, _⟩ => y (2 : Fin 3))

/-- The query block a point is given ahead: the next block of rows of the group, or the last one again. -/
def nBlk (c : Dev nD) (t : Fin cfg0.N) : Vec F S4x128x128 .bf16 := fun y => (V m c main_v6 : Vec F S26x16384x128 .bf16) (fun a => match a with
  | ⟨0, _⟩ => ⟨4 * (t.val / 128) + (y (0 : Fin 3)).val, by have h : t.val < 256 := lt_of_lt_of_eq t.isLt N_0; have h0 : (y (0 : Fin 3)).val < 4 := (y (0 : Fin 3)).isLt; show _ < 26; omega⟩
  | ⟨1, _⟩ => ⟨128 * min (t.val % 128 + 1) 127 + (y (1 : Fin 3)).val, by have h1 : (y (1 : Fin 3)).val < 128 := (y (1 : Fin 3)).isLt; show _ < 16384; omega⟩
  | ⟨2, _⟩ => y (2 : Fin 3))

/-- A point's group's keys and its values. -/
abbrev kBlk (c : Dev nD) (t : Fin cfg0.N) : Vec F S1x16384x128 .bf16 := iblk m c 2 t
abbrev vBlk (c : Dev nD) (t : Fin cfg0.N) : Vec F S128x16384 .bf16 := iblk m c 3 t

/-- No query block reaches past the heads: the last heads of the array are in no group of queries. -/
theorem clip_0 (t : Fin cfg0.N) : ∀ a, (cfg0.win 0).clip (cfg0.grid.coords t) a = none := by
  have h : t.val < 256 := lt_of_lt_of_eq t.isLt N_0
  obtain ⟨a0, a1, a2⟩ := ix_0 t
  intro a
  match a with
  | ⟨0, _⟩ => exact Pipeline.Clip.of_eq_none (show (win0_0.index t (0 : Fin 3) + 1) * 4 ≤ 26 by rw [a0]; omega)
  | ⟨1, _⟩ => exact Pipeline.Clip.of_eq_none (show (win0_0.index t (1 : Fin 3) + 1) * 128 ≤ 16384 by rw [a1]; omega)
  | ⟨2, _⟩ => exact Pipeline.Clip.of_eq_none (show (win0_0.index t (2 : Fin 3) + 1) * 128 ≤ 128 by rw [a2])
theorem clip_1 (t : Fin cfg0.N) : ∀ a, (cfg0.win 1).clip (cfg0.grid.coords t) a = none := by
  have h : t.val < 256 := lt_of_lt_of_eq t.isLt N_0
  obtain ⟨a0, a1, a2⟩ := ix_1 t
  intro a
  match a with
  | ⟨0, _⟩ => exact Pipeline.Clip.of_eq_none (show (win0_1.index t (0 : Fin 3) + 1) * 4 ≤ 26 by rw [a0]; omega)
  | ⟨1, _⟩ => exact Pipeline.Clip.of_eq_none (show (win0_1.index t (1 : Fin 3) + 1) * 128 ≤ 16384 by rw [a1]; omega)
  | ⟨2, _⟩ => exact Pipeline.Clip.of_eq_none (show (win0_1.index t (2 : Fin 3) + 1) * 128 ≤ 128 by rw [a2])

theorem cut_0 (c : Dev nD) (t : Fin cfg0.N) : (cfg0.win 0).cut (cfg0.grid.coords t) (qBlk m c t : (cfg0.win 0).block.Idx → Elt F (cfg0.win 0).elt) = iblk m c 0 t := by
  obtain ⟨a0, a1, a2⟩ := ix_0 t
  refine funext fun y => ?_
  refine congrArg (V m c main_v6 : S26x16384x128.Idx → Elt F .bf16) (funext fun a => Fin.ext ?_)
  match a with
  | ⟨0, _⟩ => show 4 * (t.val / 128) + (y (0 : Fin 3)).val = win0_0.index t (0 : Fin 3) * 4 + 1 * (y (0 : Fin 3)).val; rw [a0]; omega
  | ⟨1, _⟩ => show 128 * (t.val % 128) + (y (1 : Fin 3)).val = win0_0.index t (1 : Fin 3) * 128 + 1 * (y (1 : Fin 3)).val; rw [a1]; omega
  | ⟨2, _⟩ => show (y (2 : Fin 3)).val = win0_0.index t (2 : Fin 3) * 128 + 1 * (y (2 : Fin 3)).val; rw [a2]; omega
theorem cut_1 (c : Dev nD) (t : Fin cfg0.N) : (cfg0.win 1).cut (cfg0.grid.coords t) (nBlk m c t : (cfg0.win 1).block.Idx → Elt F (cfg0.win 1).elt) = iblk m c 1 t := by
  obtain ⟨a0, a1, a2⟩ := ix_1 t
  refine funext fun y => ?_
  refine congrArg (V m c main_v6 : S26x16384x128.Idx → Elt F .bf16) (funext fun a => Fin.ext ?_)
  match a with
  | ⟨0, _⟩ => show 4 * (t.val / 128) + (y (0 : Fin 3)).val = win0_1.index t (0 : Fin 3) * 4 + 1 * (y (0 : Fin 3)).val; rw [a0]; omega
  | ⟨1, _⟩ => show 128 * min (t.val % 128 + 1) 127 + (y (1 : Fin 3)).val = win0_1.index t (1 : Fin 3) * 128 + 1 * (y (1 : Fin 3)).val; rw [a1]; omega
  | ⟨2, _⟩ => show (y (2 : Fin 3)).val = win0_1.index t (2 : Fin 3) * 128 + 1 * (y (2 : Fin 3)).val; rw [a2]; omega

theorem before0_0_of {c : Dev nD} (dat : Dat τ (Elt F) Unit ℕ (UR sig nD τ) ℕ cfg0 c) (hA : dat.A 0 = V m c (Pipeline.arrRef spec0 0))
    (hafter : ∀ t, dat.after 0 t = qBlk m c t) (t : Fin cfg0.N) (d) : dat.before 0 t d = qBlk m c t := by
  have hb : ∀ t, dat.blockOf 0 t = iblk m c 0 t := fun t => by unfold Dat.blockOf iblk; rw [hA]
  refine (dat.before_in_eq_fetched 0 rfl (fun _ => rfl) (fun t t' _ => funext fun a => (clip_0 t a).trans (clip_0 t' a).symm) (fun t => by rw [hafter, hb]; exact cut_0 m c t) t d).trans ?_
  unfold Dat.fetched
  rw [hb, ← cut_0]
  exact (Pipeline.fill_of_clip_none 0 _ (clip_0 t) d (qBlk m c t) _).trans ((cfg0.win 0).fill_cut _ _)
theorem before0_1_of {c : Dev nD} (dat : Dat τ (Elt F) Unit ℕ (UR sig nD τ) ℕ cfg0 c) (hA : dat.A 1 = V m c (Pipeline.arrRef spec0 1))
    (hafter : ∀ t, dat.after 1 t = nBlk m c t) (t : Fin cfg0.N) (d) : dat.before 1 t d = nBlk m c t := by
  have hb : ∀ t, dat.blockOf 1 t = iblk m c 1 t := fun t => by unfold Dat.blockOf iblk; rw [hA]
  refine (dat.before_in_eq_fetched 1 rfl (fun _ => rfl) (fun t t' _ => funext fun a => (clip_1 t a).trans (clip_1 t' a).symm) (fun t => by rw [hafter, hb]; exact cut_1 m c t) t d).trans ?_
  unfold Dat.fetched
  rw [hb, ← cut_1]
  exact (Pipeline.fill_of_clip_none 1 _ (clip_1 t) d (nBlk m c t) _).trans ((cfg0.win 1).fill_cut _ _)

/-- The query block given ahead is the next point's own, while the group lasts. -/
theorem ahead (c : Dev nD) (t t' : Fin cfg0.N) (h : t'.val = t.val + 1) (h' : ¬t'.val % 128 = 0) : nBlk m c t = qBlk m c t' := by
  refine funext fun y => congrArg (V m c main_v6 : S26x16384x128.Idx → Elt F .bf16) (funext fun a => Fin.ext ?_)
  match a with
  | ⟨0, _⟩ => show 4 * (t.val / 128) + (y (0 : Fin 3)).val = 4 * (t'.val / 128) + (y (0 : Fin 3)).val; omega
  | ⟨1, _⟩ => show 128 * min (t.val % 128 + 1) 127 + (y (1 : Fin 3)).val = 128 * (t'.val % 128) + (y (1 : Fin 3)).val; omega
  | ⟨2, _⟩ => rfl

/-- The next point's keys are this one's, while the group lasts. -/
theorem keys_same (c : Dev nD) (t t' : Fin cfg0.N) (h : t'.val = t.val + 1) (h' : ¬t'.val % 128 = 0) : kBlk m c t = kBlk m c t' := by
  obtain ⟨a0, a1, a2⟩ := ix_2 t
  obtain ⟨b0, b1, b2⟩ := ix_2 t'
  refine funext fun y => ?_
  have e : (((cfg0.win 2).blk t).view.emb y : S26x16384x128.Idx) = ((cfg0.win 2).blk t').view.emb y := by
    refine funext fun a => Fin.ext ?_
    match a with
    | ⟨0, _⟩ => show win0_2.index t (0 : Fin 3) * 1 + 1 * (y (0 : Fin 3)).val = win0_2.index t' (0 : Fin 3) * 1 + 1 * (y (0 : Fin 3)).val; rw [a0, b0]; omega
    | ⟨1, _⟩ => show win0_2.index t (1 : Fin 3) * 16384 + 1 * (y (1 : Fin 3)).val = win0_2.index t' (1 : Fin 3) * 16384 + 1 * (y (1 : Fin 3)).val; rw [a1, b1]
    | ⟨2, _⟩ => show win0_2.index t (2 : Fin 3) * 128 + 1 * (y (2 : Fin 3)).val = win0_2.index t' (2 : Fin 3) * 128 + 1 * (y (2 : Fin 3)).val; rw [a2, b2]
  exact congrArg (V m c main_v6 : S26x16384x128.Idx → Elt F .bf16) e

/-! ## The arguments at the end -/

theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The staging buffers and the kernel's own buffers -/

abbrev ms0_0 (t : Fin cfg0.N) : Memref sig .tc .vmem S4x128x128 .bf16 := win0_0.stage (cfg0.slots t 0)
abbrev hs0_0 (t : Fin cfg0.N) : (ms0_0 t).IsWhole := hstage0_0 ((cfg0.slots t 0).cast nbuf0_0)
theorem liveAt0_0 : ∀ t : Fin cfg0.N, cfg0.idle 0 (grid0.coords t) = false := fun _ => rfl
abbrev ms0_1 (t : Fin cfg0.N) : Memref sig .tc .vmem S4x128x128 .bf16 := win0_1.stage (cfg0.slots t 1)
abbrev hs0_1 (t : Fin cfg0.N) : (ms0_1 t).IsWhole := hstage0_1 ((cfg0.slots t 1).cast nbuf0_1)
theorem liveAt0_1 : ∀ t : Fin cfg0.N, cfg0.idle 1 (grid0.coords t) = false := fun _ => rfl
abbrev ms0_2 (t : Fin cfg0.N) : Memref sig .tc .vmem S1x16384x128 .bf16 := win0_2.stage (cfg0.slots t 2)
abbrev hs0_2 (t : Fin cfg0.N) : (ms0_2 t).IsWhole := hstage0_2 ((cfg0.slots t 2).cast nbuf0_2)
theorem liveAt0_2 : ∀ t : Fin cfg0.N, cfg0.idle 2 (grid0.coords t) = false := fun _ => rfl
abbrev ms0_3 (t : Fin cfg0.N) : Memref sig .tc .vmem S128x16384 .bf16 := win0_3.stage (cfg0.slots t 3)
abbrev hs0_3 (t : Fin cfg0.N) : (ms0_3 t).IsWhole := hstage0_3 ((cfg0.slots t 3).cast nbuf0_3)
theorem liveAt0_3 : ∀ t : Fin cfg0.N, cfg0.idle 3 (grid0.coords t) = false := fun _ => rfl
abbrev ms0_4 (t : Fin cfg0.N) : Memref sig .tc .vmem S128x512 .bf16 := win0_4.stage (cfg0.slots t 4)
abbrev hs0_4 (t : Fin cfg0.N) : (ms0_4 t).IsWhole := hstage0_4 ((cfg0.slots t 4).cast nbuf0_4)
theorem liveAt0_4 : ∀ t : Fin cfg0.N, cfg0.idle 4 (grid0.coords t) = false := fun _ => rfl
abbrev scM0_0 : Memref sig .tc .vmem S2x128x512 .bf16 := Memref.whole cc0_scratch0
abbrev scM0_1 : Memref sig .tc .vmem S2x8192x512 .f32 := Memref.whole cc0_scratch1
abbrev scM0_2 : Memref sig .tc .vmem S1x512 .f32 := Memref.whole cc0_scratch2
abbrev scM0_3 : Memref sig .tc .vmem S1x512 .f32 := Memref.whole cc0_scratch3
abbrev scM0_4 : Memref sig .tc .vmem S128x512 .f32 := Memref.whole cc0_scratch4

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel4Ideal.Gen

end
-- ==== Proof.Gqa.Spec.lean ====
/- What grouped-query attention computes, as extended reals: four query heads share one head of keys and values. -/
module

public import proofs.«01_k».proof.Proof.Mla.Spec

@[expose] public section

noncomputable section

namespace Cert.Gqa

open Idealize.ShloMosaic Cert.Mla

/-- Query head `r` of group `g`. -/
def head (g : Fin 2) (r : Fin 4) : Fin 8 := ⟨4 * g.val + r.val, by omega⟩

/-- The score of a query row of a head and a key row of its group. -/
def score (q : FVec Ideal ⟨4, ![1, 16384, 8, 128]⟩ .bf16) (k : FVec Ideal ⟨4, ![1, 16384, 2, 128]⟩ .bf16) (g : Fin 2) (r : Fin 4) (i j : Fin 16384) : EReal :=
  ∑ x : Fin 128, k (ix4 0 j g x) * q (ix4 0 i (head g r) x)

theorem score_real {q : FVec Ideal ⟨4, ![1, 16384, 8, 128]⟩ .bf16} {k : FVec Ideal ⟨4, ![1, 16384, 2, 128]⟩ .bf16} (hq : ∀ i, IsReal (q i)) (hk : ∀ i, IsReal (k i))
    (g : Fin 2) (r : Fin 4) (i j : Fin 16384) : IsReal (score q k g r i j) := IsReal.sum _ _ fun _ => (hk _).mul (hq _)

/-- The layer's result at a row, a head and a column. -/
def outAt (q : FVec Ideal ⟨4, ![1, 16384, 8, 128]⟩ .bf16) (k v : FVec Ideal ⟨4, ![1, 16384, 2, 128]⟩ .bf16) (i : Fin 16384) (g : Fin 2) (r : Fin 4) (d : Fin 128) : EReal :=
  mix (score q k g r i) (fun j => v (ix4 0 j g d))

/-- The group, the head in it and the lane of a column of the result. -/
def groupOf (n : Fin 1024) : Fin 2 := ⟨n.val / 512, by omega⟩
def headOf (n : Fin 1024) : Fin 4 := ⟨n.val / 128 % 4, by omega⟩
def laneOf (n : Fin 1024) : Fin 128 := ⟨n.val % 128, by omega⟩

end Cert.Gqa

end
-- ==== Proof.Gqa.Blocks.lean ====
/- The windows' blocks at an index, from the arguments. -/
module

public import proofs.«01_k».proof.Proof.Gqa.Step
public import proofs.«01_k».proof.Proof.Gqa.Setup
public import proofs.«01_k».proof.Proof.Gqa.Spec

@[expose] public section

set_option maxRecDepth 16384

noncomputable section

namespace Cert.Kernel4Ideal.Gen

open Idealize.ShloMosaic Idealize.ShloMosaic.TcCoe Cert.Mla

/-- The grid point of a group and a block of rows. -/
def pt (g : Fin 2) (b : Fin 128) : Fin cfg0.N := ⟨128 * g.val + b.val, lt_of_lt_of_eq (by omega) N_0.symm⟩

/-- Row `a` of a block of rows. -/
def row (b : Fin 128) (a : Fin 128) : Fin 16384 := ⟨128 * b.val + a.val, by omega⟩

/-- Column `n` of a group. -/
def col (g : Fin 2) (n : Fin 512) : Fin 1024 := ⟨512 * g.val + n.val, by omega⟩

/-- Lane `d` of a group's values. -/
def lane (g : Fin 2) (d : Fin 128) : Fin 256 := ⟨128 * g.val + d.val, by omega⟩

/-- Where the stacked array holds a query head and a group's keys. -/
def qHead (g : Fin 2) (r : Fin 4) : Fin 26 := ⟨4 * g.val + r.val, by omega⟩
def kHead (g : Fin 2) : Fin 26 := ⟨8 + g.val, by omega⟩

theorem pt_val (g : Fin 2) (b : Fin 128) : (pt g b).val / 128 = g.val ∧ (pt g b).val % 128 = b.val := by
  have e : (pt g b).val = 128 * g.val + b.val := rfl
  omega

variable (m : (ℓ : Loc nD τ sig) → Buf (Elt Ideal) ℓ) (c : Dev nD) (g : Fin 2) (b : Fin 128)

theorem q_at (r : Fin 4) (a : Fin 128) (x : Fin 128) : qBlk m c (pt g b) (ix3 r a x) = (V m c main_v6 : Vec Ideal S26x16384x128 .bf16) (ix3 (qHead g r) (row b a) x) := by
  obtain ⟨q0, q1⟩ := pt_val g b
  refine congrArg (V m c main_v6 : S26x16384x128.Idx → Elt Ideal .bf16) (funext fun z => Fin.ext ?_)
  match z with
  | ⟨0, _⟩ => show 4 * ((pt g b).val / 128) + r.val = 4 * g.val + r.val; omega
  | ⟨1, _⟩ => show 128 * ((pt g b).val % 128) + a.val = 128 * b.val + a.val; omega
  | ⟨2, _⟩ => rfl

theorem emb_2 (j : Fin 16384) (x : Fin 128) : (((cfg0.win 2).blk (pt g b)).view.emb (ix3 0 j x : S1x16384x128.Idx) : S26x16384x128.Idx) = ix3 (kHead g) j x := by
  obtain ⟨q0, q1⟩ := pt_val g b
  obtain ⟨h0, h1, h2⟩ := ix_2 (pt g b)
  refine funext fun a => Fin.ext ?_
  match a with
  | ⟨0, _⟩ => show win0_2.index (pt g b) (0 : Fin 3) * 1 + 1 * 0 = 8 + g.val; omega
  | ⟨1, _⟩ => show win0_2.index (pt g b) (1 : Fin 3) * 16384 + 1 * j.val = j.val; omega
  | ⟨2, _⟩ => show win0_2.index (pt g b) (2 : Fin 3) * 128 + 1 * x.val = x.val; omega

theorem emb_3 (d : Fin 128) (j : Fin 16384) : (((cfg0.win 3).blk (pt g b)).view.emb (ix2 d j : S128x16384.Idx) : S256x16384.Idx) = ix2 (lane g d) j := by
  obtain ⟨q0, q1⟩ := pt_val g b
  obtain ⟨h0, h1⟩ := ix_3 (pt g b)
  refine funext fun a => Fin.ext ?_
  match a with
  | ⟨0, _⟩ => show win0_3.index (pt g b) (0 : Fin 2) * 128 + 1 * d.val = 128 * g.val + d.val; omega
  | ⟨1, _⟩ => show win0_3.index (pt g b) (1 : Fin 2) * 16384 + 1 * j.val = j.val; omega

theorem emb_4 (a : Fin 128) (n : Fin 512) : (((cfg0.win 4).blk (pt g b)).view.emb (ix2 a n : S128x512.Idx) : S16384x1024.Idx) = ix2 (row b a) (col g n) := by
  obtain ⟨q0, q1⟩ := pt_val g b
  obtain ⟨h0, h1⟩ := ix_4 (pt g b)
  refine funext fun z => Fin.ext ?_
  match z with
  | ⟨0, _⟩ => show win0_4.index (pt g b) (0 : Fin 2) * 128 + 1 * a.val = 128 * b.val + a.val; omega
  | ⟨1, _⟩ => show win0_4.index (pt g b) (1 : Fin 2) * 512 + 1 * n.val = 512 * g.val + n.val; omega

/-- The three arrays of heads, the heads laid out first, one after another. -/
def stacked (q : Vec Ideal S1x16384x8x128 .bf16) (k : Vec Ideal S1x16384x2x128 .bf16) (s : Vec Ideal S1x16384x16x128 .bf16) : Vec Ideal S26x16384x128 .bf16 :=
  concatenate S26x16384x128 0 [⟨S8x16384x128, transpose S8x16384x128 [1, 0, 2] (shapeCast S16384x8x128 q shapeCasts_S1x16384x8x128_S16384x8x128) transposes_S16384x8x128_S8x16384x128_1_0_2⟩,
    ⟨S2x16384x128, transpose S2x16384x128 [1, 0, 2] (shapeCast S16384x2x128 k shapeCasts_S1x16384x2x128_S16384x2x128) transposes_S16384x2x128_S2x16384x128_1_0_2⟩,
    ⟨S16x16384x128, transpose S16x16384x128 [1, 0, 2] (shapeCast S16384x16x128 s shapeCasts_S1x16384x16x128_S16384x16x128) transposes_S16384x16x128_S16x16384x128_1_0_2⟩]
    concatenates_S8x16384x128_S2x16384x128_S16x16384x128_S26x16384x128_d0

theorem stacked_q (q : Vec Ideal S1x16384x8x128 .bf16) (k : Vec Ideal S1x16384x2x128 .bf16) (s : Vec Ideal S1x16384x16x128 .bf16) (r : Fin 4) (j : Fin 16384) (x : Fin 128) :
    stacked q k s (ix3 (qHead g r) j x) = q (ix4 0 j (Cert.Gqa.head g r) x) := by
  unfold stacked qHead Cert.Gqa.head
  pointwise
  exact dif_pos (by omega)

theorem stacked_k (q : Vec Ideal S1x16384x8x128 .bf16) (k : Vec Ideal S1x16384x2x128 .bf16) (s : Vec Ideal S1x16384x16x128 .bf16) (j : Fin 16384) (x : Fin 128) :
    stacked q k s (ix3 (kHead g) j x) = k (ix4 0 j g x) := by
  unfold stacked kHead
  pointwise

theorem V_main_v6 : (V m c main_v6 : Vec Ideal S26x16384x128 .bf16)
    = stacked (m ((c : Thread nD τ).loc main_arg0)) (m ((c : Thread nD τ).loc main_arg1)) (m ((c : Thread nD τ).loc main_arg2)) := rfl

/-- The values with their positions along the last axis. -/
def turned (x : Vec Ideal S1x16384x2x128 .bf16) : Vec Ideal S256x16384 .bf16 :=
  transpose S256x16384 [1, 0] (shapeCast S16384x256 (shapeCast S16384x2x128 x shapeCasts_S1x16384x2x128_S16384x2x128) shapeCasts_S16384x2x128_S16384x256)
    transposes_S16384x256_S256x16384_1_0

theorem turned_apply (x : Vec Ideal S1x16384x2x128 .bf16) (d : Fin 128) (j : Fin 16384) : turned x (ix2 (lane g d) j) = x (ix4 0 j g d) := by
  unfold turned lane
  pointwise

theorem V_main_v9 : (V m c main_v9 : Vec Ideal S256x16384 .bf16) = turned (m ((c : Thread nD τ).loc main_arg3)) := rfl

/-- What a point writes out, from the arguments. -/
theorem out_at (a : Fin 128) (r : Fin 4) (d : Fin 128)
    (hq : ∀ i, IsReal ((m ((c : Thread nD τ).loc main_arg0) : Vec Ideal S1x16384x8x128 .bf16) i)) (hk : ∀ i, IsReal ((m ((c : Thread nD τ).loc main_arg1) : Vec Ideal S1x16384x2x128 .bf16) i)) :
    (outVal (qBlk m c (pt g b)) (kBlk m c (pt g b)) (vBlk m c (pt g b)) : FVec Ideal S128x512 .bf16) (ix2 a (sub r d))
      = Cert.Gqa.outAt (m ((c : Thread nD τ).loc main_arg0)) (m ((c : Thread nD τ).loc main_arg1)) (m ((c : Thread nD τ).loc main_arg3)) (row b a) g r d := by
  have bq : ∀ x, (qBlk m c (pt g b)) (ix3 r a x) = (m ((c : Thread nD τ).loc main_arg0) : Vec Ideal S1x16384x8x128 .bf16) (ix4 0 (row b a) (Cert.Gqa.head g r) x) := fun x =>
    ((q_at m c g b r a x).trans (congrFun (V_main_v6 m c) _)).trans (stacked_q g _ _ _ r (row b a) x)
  have bk : ∀ j x, (kBlk m c (pt g b)) (ix3 0 j x) = (m ((c : Thread nD τ).loc main_arg1) : Vec Ideal S1x16384x2x128 .bf16) (ix4 0 j g x) := fun j x =>
    ((congrArg (V m c main_v6 : S26x16384x128.Idx → Elt Ideal .bf16) (emb_2 g b j x)).trans (congrFun (V_main_v6 m c) _)).trans (stacked_k g _ _ _ j x)
  have bv : ∀ j, (vBlk m c (pt g b)) (ix2 d j) = (m ((c : Thread nD τ).loc main_arg3) : Vec Ideal S1x16384x2x128 .bf16) (ix4 0 j g d) := fun j =>
    ((congrArg (V m c main_v9 : S256x16384.Idx → Elt Ideal .bf16) (emb_3 g b d j)).trans (congrFun (V_main_v9 m c) _)).trans (turned_apply g _ d j)
  refine (outVal_apply _ _ _ (Cert.Gqa.score (m ((c : Thread nD τ).loc main_arg0)) (m ((c : Thread nD τ).loc main_arg1)) g r (row b a)) a r d (fun j => Cert.Gqa.score_real hq hk g r (row b a) j) (fun j => ?_)).trans ?_
  · exact Finset.sum_congr rfl fun x _ => congrArg₂ (fun a b : EReal => a * b) (bk j x) (bq x)
  · exact congrArg (mix _) (funext bv)

end Cert.Kernel4Ideal.Gen

end
-- ==== Proof.Gqa.Frame.lean ====
/- The whole run of the attention program: between points the kernel keeps the turned query block and the first scores of
the next point, so each point leaves one function of its blocks. -/
module

public import proofs.«01_k».proof.Proof.Gen.Kernel4Ideal.Launch
public import proofs.«01_k».proof.Proof.Gen.Kernel4Ideal.Skeleton
public import proofs.«01_k».proof.Proof.Gen.Kernel4Ideal.Points
public import proofs.«01_k».proof.Proof.Gqa.Setup
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the kernel's own buffers hold before point `n`, inside a group: the turned query block of the point in the slot of
    its parity, and its scores against the first half of the keys. -/
def Known (c : Dev nD) (n : ℕ) (T : Vec F S2x128x512 .bf16) (S : Vec F S2x8192x512 .f32) : Prop :=
  ∀ h : n < cfg0.N, ¬n % 128 = 0 →
    (n % 2 = 0 → slotT0 T = k0_pay7 (qBlk m c ⟨n, h⟩)) ∧ (¬n % 2 = 0 → slotT1 T = k0_pay7 (qBlk m c ⟨n, h⟩))
      ∧ slotS0 S = k0_pay8 (keys0 (kBlk m c ⟨n, h⟩)) (k0_pay7 (qBlk m c ⟨n, h⟩))

theorem known_after_even (c : Dev nD) (t : Fin cfg0.N) (ht : t.val % 2 = 0) (T : Vec F S2x128x512 .bf16) (S : Vec F S2x8192x512 .f32)
    (hT : slotT1 T = k0_pay7 (nBlk m c t)) (hS : slotS0 S = k0_pay8 (keys0 (kBlk m c t)) (k0_pay7 (nBlk m c t))) :
    Known m c (t.val + 1) T S := fun h h' => by
  have e1 := ahead m c t ⟨t.val + 1, h⟩ rfl h'
  have e2 := keys_same m c t ⟨t.val + 1, h⟩ rfl h'
  refine ⟨fun q => by omega, fun _ => hT.trans (congrArg k0_pay7 e1), ?_⟩
  rw [hS, e1, e2]

theorem known_after_odd (c : Dev nD) (t : Fin cfg0.N) (ht : ¬t.val % 2 = 0) (T : Vec F S2x128x512 .bf16) (S : Vec F S2x8192x512 .f32)
    (hT : slotT0 T = k0_pay7 (nBlk m c t)) (hS : slotS0 S = k0_pay8 (keys0 (kBlk m c t)) (k0_pay7 (nBlk m c t))) :
    Known m c (t.val + 1) T S := fun h h' => by
  have e1 := ahead m c t ⟨t.val + 1, h⟩ rfl h'
  have e2 := keys_same m c t ⟨t.val + 1, h⟩ rfl h'
  refine ⟨fun _ => hT.trans (congrArg k0_pay7 e1), fun q => by omega, ?_⟩
  rw [hS, e1, e2]

/-- Before the first point of all nothing is asked of the buffers, nor after the last. -/
theorem known_zero (c : Dev nD) (T : Vec F S2x128x512 .bf16) (S : Vec F S2x8192x512 .f32) : Known m c 0 T S := fun _ h => absurd (Nat.zero_mod 128) h

def PhiS (c : Dev nD) (n : ℕ) : sProp 𝕄 :=
  iprop((∃ T, ∃ S, ⌜Known m c n T S⌝ ∗ owns (c : Thread nD τ) scM0_0 fullShare T ∗ owns (c : Thread nD τ) scM0_1 fullShare S
    ∗ (∃ d, owns (c : Thread nD τ) scM0_2 fullShare d) ∗ (∃ d, owns (c : Thread nD τ) scM0_3 fullShare d) ∗ (∃ d, owns (c : Thread nD τ) scM0_4 fullShare d)) ∗ (∃ r, prngReg c r))

/-- What every point finds and leaves: its inputs' blocks unchanged, its block of the result the one function `outVal`. -/
def dats (_ : Fin 1) (c : Dev nD) : Dat τ (Elt F) Unit ℕ (UR sig nD τ) ℕ cfg0 c where
  A w := V m c (Pipeline.arrRef spec0 w)
  after w t := match w with
    | ⟨0, _⟩ => qBlk m c t
    | ⟨1, _⟩ => nBlk m c t
    | ⟨2, _⟩ => iblk m c 2 t
    | ⟨3, _⟩ => iblk m c 3 t
    | ⟨4, _⟩ => outVal (qBlk m c t) (kBlk m c t) (vBlk m c t)
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = qBlk m c t := by dsimp only [dats]
theorem after0_1 (c : Dev nD) (t : Fin cfg0.N) : (dats m 0 c).after 1 t = nBlk m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outVal (qBlk m c t) (kBlk m c t) (vBlk m c t) := by dsimp only [dats]
theorem before0_0 (c : Dev nD) (t : Fin cfg0.N) (d) : (dats m 0 c).before 0 t d = qBlk m c t :=
  before0_0_of m (dats m 0 c) (A_eq m c 0) (after0_0 m c) t d
theorem before0_1 (c : Dev nD) (t : Fin cfg0.N) (d) : (dats m 0 c).before 1 t d = nBlk m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- A point of each kind, from what the kernel's buffers are known to hold to what they are known to hold next. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  unfold PhiS
  iintro ⟨⟨⟨%T, %S, %hK, HS0, HS1, HS2, HS3, HS4⟩, Hg⟩, Ho, ⟨%d0, H0⟩, ⟨%d1, H1⟩, ⟨%d2, H2⟩, ⟨%d3, H3⟩, ⟨%d4, H4⟩⟩
  by_cases h0 : t.val % 128 = 0
  · have hp : t.val % 2 = 0 := by omega
    iapply ((runFirst c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((cond_iff t).mpr h0) (off2_even t hp) (off3_even t hp) (off5_even t hp).1 (off5_even t hp).2 (qBlk m c t) (nBlk m c t) (iblk m c 2 t) (iblk m c 3 t) T S).2.2.2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    iintro ⟨H0, H1, H2, H3, ⟨%e4, H4⟩, HS0, HS1, ⟨%e7, HS2⟩, ⟨%e8, HS3⟩, ⟨%e9, HS4⟩⟩
    isplitl [HS0 HS1 HS2 HS3 HS4 Hg]
    · isplitl [HS0 HS1 HS2 HS3 HS4]
      · iexists (sout0_A_7 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((cond_iff t).mpr h0) (off2_even t hp) (off3_even t hp) (off5_even t hp).1 (off5_even t hp).2 (qBlk m c t) (nBlk m c t) (iblk m c 2 t) (iblk m c 3 t) T S)
        iexists (sout0_A_8 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((cond_iff t).mpr h0) (off2_even t hp) (off3_even t hp) (off5_even t hp).1 (off5_even t hp).2 (qBlk m c t) (nBlk m c t) (iblk m c 2 t) (iblk m c 3 t) T S)
        isplitr
        · ipureintro
          exact known_after_even m c t hp _ _ (sout0_A_7_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((cond_iff t).mpr h0) (off2_even t hp) (off3_even t hp) (off5_even t hp).1 (off5_even t hp).2 (qBlk m c t) (nBlk m c t) (iblk m c 2 t) (iblk m c 3 t) T S) (sout0_A_8_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((cond_iff t).mpr h0) (off2_even t hp) (off3_even t hp) (off5_even t hp).1 (off5_even t hp).2 (qBlk m c t) (nBlk m c t) (iblk m c 2 t) (iblk m c 3 t) T S)
        isplitl [HS0]
        · unfold owns; iexists _; isplitr
          swap; · iexact HS0
          ipureintro; rfl
        isplitl [HS1]
        · unfold owns; iexists _; isplitr
          swap; · iexact HS1
          ipureintro; rfl
        isplitl [HS2]
        · iexists _; unfold owns; iexists _; isplitr
          swap; · iexact HS2
          ipureintro; rfl
        isplitl [HS3]
        · iexists _; unfold owns; iexists _; isplitr
          swap; · iexact HS3
          ipureintro; rfl
        iexists _; unfold owns; iexists _; isplitr
        swap; · iexact HS4
        ipureintro; rfl
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact (View.read_writes_of_cover _ _ VO0_4 VO0_4.junk _ (cover0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((cond_iff t).mpr h0) (off2_even t hp) (off3_even t hp) (off5_even t hp).1 (off5_even t hp).2 (qBlk m c t) (nBlk m c t) (iblk m c 2 t) (iblk m c 3 t) T S)).trans (out0_A_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) ((cond_iff t).mpr h0) (off2_even t hp) (off3_even t hp) (off5_even t hp).1 (off5_even t hp).2 (qBlk m c t) (nBlk m c t) (iblk m c 2 t) (iblk m c 3 t) T S)
  · by_cases hp : t.val % 2 = 0
    · iapply ((runEven c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_even t hp) (off5_even t hp).1 (off5_even t hp).2 (qBlk m c t) (nBlk m c t) (iblk m c 2 t) (iblk m c 3 t) T S).2.2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      isplitl [HS4]; · iexact HS4
      iintro ⟨H0, H1, H2, H3, ⟨%e4, H4⟩, HS0, HS1, ⟨%e7, HS2⟩, ⟨%e8, HS3⟩, ⟨%e9, HS4⟩⟩
      isplitl [HS0 HS1 HS2 HS3 HS4 Hg]
      · isplitl [HS0 HS1 HS2 HS3 HS4]
        · iexists (sout0_C_7 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_even t hp) (off5_even t hp).1 (off5_even t hp).2 (qBlk m c t) (nBlk m c t) (iblk m c 2 t) (iblk m c 3 t) T S)
          iexists (sout0_C_8 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_even t hp) (off5_even t hp).1 (off5_even t hp).2 (qBlk m c t) (nBlk m c t) (iblk m c 2 t) (iblk m c 3 t) T S)
          isplitr
          · ipureintro
            exact known_after_even m c t hp _ _ (sout0_C_7_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_even t hp) (off5_even t hp).1 (off5_even t hp).2 (qBlk m c t) (nBlk m c t) (iblk m c 2 t) (iblk m c 3 t) T S) (sout0_C_8_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_even t hp) (off5_even t hp).1 (off5_even t hp).2 (qBlk m c t) (nBlk m c t) (iblk m c 2 t) (iblk m c 3 t) T S)
          isplitl [HS0]
          · unfold owns; iexists _; isplitr
            swap; · iexact HS0
            ipureintro; rfl
          isplitl [HS1]
          · unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_of_cover _ _ VO0_4 VO0_4.junk _ (cover0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_even t hp) (off5_even t hp).1 (off5_even t hp).2 (qBlk m c t) (nBlk m c t) (iblk m c 2 t) (iblk m c 3 t) T S)).trans (out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_even t hp) (off5_even t hp).1 (off5_even t hp).2 (qBlk m c t) (nBlk m c t) (iblk m c 2 t) (iblk m c 3 t) T S ((hK t.isLt h0).1 hp) (hK t.isLt h0).2.2)
    · iapply ((runOdd c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_odd t hp) (off5_odd t hp).1 (off5_odd t hp).2 (qBlk m c t) (nBlk m c t) (iblk m c 2 t) (iblk m c 3 t) T S).2.2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      isplitl [HS4]; · iexact HS4
      iintro ⟨H0, H1, H2, H3, ⟨%e4, H4⟩, HS0, HS1, ⟨%e7, HS2⟩, ⟨%e8, HS3⟩, ⟨%e9, HS4⟩⟩
      isplitl [HS0 HS1 HS2 HS3 HS4 Hg]
      · isplitl [HS0 HS1 HS2 HS3 HS4]
        · iexists (sout0_B_7 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_odd t hp) (off5_odd t hp).1 (off5_odd t hp).2 (qBlk m c t) (nBlk m c t) (iblk m c 2 t) (iblk m c 3 t) T S)
          iexists (sout0_B_8 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_odd t hp) (off5_odd t hp).1 (off5_odd t hp).2 (qBlk m c t) (nBlk m c t) (iblk m c 2 t) (iblk m c 3 t) T S)
          isplitr
          · ipureintro
            exact known_after_odd m c t hp _ _ (sout0_B_7_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_odd t hp) (off5_odd t hp).1 (off5_odd t hp).2 (qBlk m c t) (nBlk m c t) (iblk m c 2 t) (iblk m c 3 t) T S) (sout0_B_8_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_odd t hp) (off5_odd t hp).1 (off5_odd t hp).2 (qBlk m c t) (nBlk m c t) (iblk m c 2 t) (iblk m c 3 t) T S)
          isplitl [HS0]
          · unfold owns; iexists _; isplitr
            swap; · iexact HS0
            ipureintro; rfl
          isplitl [HS1]
          · unfold owns; iexists _; isplitr
            swap; · iexact HS1
            ipureintro; rfl
          isplitl [HS2]
          · iexists _; unfold owns; iexists _; isplitr
            swap; · iexact HS2
            ipureintro; rfl
          isplitl [HS3]
          · iexists _; unfold owns; iexists _; isplitr
            swap; · iexact HS3
            ipureintro; rfl
          iexists _; unfold owns; iexists _; isplitr
          swap; · iexact HS4
          ipureintro; rfl
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_of_cover _ _ VO0_4 VO0_4.junk _ (cover0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_odd t hp) (off5_odd t hp).1 (off5_odd t hp).2 (qBlk m c t) (nBlk m c t) (iblk m c 2 t) (iblk m c 3 t) T S)).trans (out0_B_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) scM0_4 (Memref.isWhole_whole _) (fun h => h0 ((cond_iff t).mp h)) (off3_odd t hp) (off5_odd t hp).1 (off5_odd t hp).2 (qBlk m c t) (nBlk m c t) (iblk m c 2 t) (iblk m c 3 t) T S ((hK t.isLt h0).2.1 hp) (hK t.isLt h0).2.2)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq]
  unfold PhiS
  iintro ⟨⟨⟨%T, HS0⟩, ⟨%S, HS1⟩, HS2, HS3, HS4⟩, Hg⟩
  isplitl [HS0 HS1 HS2 HS3 HS4]
  · iexists T; iexists S
    isplitr
    · ipureintro; exact known_zero m c T S
    isplitl [HS0]; · iexact HS0
    isplitl [HS1]; · iexact HS1
    isplitl [HS2]; · iexact HS2
    isplitl [HS3]; · iexact HS3
    iexact HS4
  iexact Hg

theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨⟨%T, %S, %hK, HS0, HS1, HS2, HS3, HS4⟩, Hg⟩
  isplitl [HS0 HS1 HS2 HS3 HS4]
  · isplitl [HS0]; · iexists _; iexact HS0
    isplitl [HS1]; · iexists _; iexact HS1
    isplitl [HS2]; · iexact HS2
    isplitl [HS3]; · iexact HS3
    iexact HS4
  iexact Hg

set_option backward.isDefEq.respectTransparency.types false in
/-- The launch: the run reaches its end, the windows' arrays as computed point by point, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- From any memory with the counters at zero the program ends, its arguments unchanged and the counters at zero again. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (run_main m ρ)) ((θ_run defs _ _).mono (fun _ h => h.2) (run_main_quiescent m ρ))

end Cert.Kernel4Ideal.Gen

end
-- ==== Proof.Gqa.Final.lean ====
/- What the run leaves in the output array: the layer's result at every index. -/
module

public import proofs.«01_k».proof.Proof.Gqa.Blocks
public import proofs.«01_k».proof.Proof.Gqa.Frame
public import Idealize.ShloMosaic.Lib.Pipeline.ValueKit

@[expose] public section

set_option maxRecDepth 16384

noncomputable section

namespace Cert.Kernel4Ideal.Gen

open Idealize.ShloMosaic Idealize.ShloMosaic.TcCoe Cert.Mla

variable (m : (ℓ : Loc nD τ sig) → Buf (Elt Ideal) ℓ) (c : Dev nD)

/-- The layer's result over the run's arguments. -/
def finalOut : FVec Ideal S16384x1024 .bf16 := fun i =>
  Cert.Gqa.outAt (m ((c : Thread nD τ).loc main_arg0)) (m ((c : Thread nD τ).loc main_arg1)) (m ((c : Thread nD τ).loc main_arg3)) (i 0)
    (Cert.Gqa.groupOf (i 1)) (Cert.Gqa.headOf (i 1)) (Cert.Gqa.laneOf (i 1))

theorem finalOut_apply (g : Fin 2) (b : Fin 128) (a : Fin 128) (r : Fin 4) (d : Fin 128) : finalOut m c (ix2 (row b a) (col g (sub r d)))
    = Cert.Gqa.outAt (m ((c : Thread nD τ).loc main_arg0)) (m ((c : Thread nD τ).loc main_arg1)) (m ((c : Thread nD τ).loc main_arg3)) (row b a) g r d := by
  have e0 : Cert.Gqa.groupOf (col g (sub r d)) = g := Fin.ext (by show (512 * g.val + (128 * r.val + d.val)) / 512 = g.val; omega)
  have e1 : Cert.Gqa.headOf (col g (sub r d)) = r := Fin.ext (by show (512 * g.val + (128 * r.val + d.val)) / 128 % 4 = r.val; omega)
  have e2 : Cert.Gqa.laneOf (col g (sub r d)) = d := Fin.ext (by show (512 * g.val + (128 * r.val + d.val)) % 128 = d.val; omega)
  show Cert.Gqa.outAt _ _ _ (row b a) (Cert.Gqa.groupOf (col g (sub r d))) (Cert.Gqa.headOf (col g (sub r d))) (Cert.Gqa.laneOf (col g (sub r d))) = _
  rw [e0, e1, e2]

/-- Every grid point is one of a group and a block of rows. -/
theorem point_of (t : Fin cfg0.N) : ∃ (g : Fin 2) (b : Fin 128), t = pt g b := by
  have hN : t.val < 256 := lt_of_lt_of_eq t.isLt N_0
  refine ⟨⟨t.val / 128, by omega⟩, ⟨t.val % 128, by omega⟩, Fin.ext ?_⟩
  show t.val = 128 * (t.val / 128) + t.val % 128
  omega

/-- Every column of a block is one of a head and a lane. -/
theorem sub_of (n : Fin 512) : ∃ (r : Fin 4) (d : Fin 128), n = sub r d := by
  refine ⟨⟨n.val / 128, by omega⟩, ⟨n.val % 128, by omega⟩, Fin.ext ?_⟩
  show n.val = 128 * (n.val / 128) + n.val % 128
  omega

theorem covered (i : S16384x1024.Idx) : ∃ t : Fin cfg0.N, (cfg0.win 4).flush t = true ∧ i ∈ ((cfg0.win 4).blk t).view.set := by
  have h0 : (i 0).val < 16384 := (i 0).isLt
  have h1 : (i 1).val < 1024 := (i 1).isLt
  let g : Fin 2 := ⟨(i 1).val / 512, by omega⟩
  let b : Fin 128 := ⟨(i 0).val / 128, by omega⟩
  let a : Fin 128 := ⟨(i 0).val % 128, by omega⟩
  let n : Fin 512 := ⟨(i 1).val % 512, by omega⟩
  have e : i = ix2 (row b a) (col g n) := funext fun z => Fin.ext (by
    match z with
    | ⟨0, _⟩ => show (i 0).val = 128 * ((i 0).val / 128) + (i 0).val % 128; omega
    | ⟨1, _⟩ => show (i 1).val = 512 * ((i 1).val / 512) + (i 1).val % 512; omega)
  refine ⟨pt g b, flush0_4 _, ?_⟩
  have hm := ((cfg0.win 4).blk (pt g b)).view.emb_mem_set (ix2 a n : S128x512.Idx)
  have hx := (emb_4 g b a n).trans e.symm
  exact Eq.mp (congrArg (fun x => x ∈ ((cfg0.win 4).blk (pt g b)).view.set) hx) hm

/-- A block that is `G` at its rows and columns is `G` at the places the block is written to. -/
theorem placed (g : Fin 2) (b : Fin 128) (o : FVec Ideal S128x512 .bf16) (G : FVec Ideal S16384x1024 .bf16)
    (ho : ∀ (a : Fin 128) (n : Fin 512), o (ix2 a n) = G (ix2 (row b a) (col g n))) (y : S128x512.Idx) :
    o y = G (((cfg0.win 4).blk (pt g b)).view.emb y : S16384x1024.Idx) := by
  have hy : y = ix2 (y 0) (y 1) := funext fun a => match a with | ⟨0, _⟩ => rfl | ⟨1, _⟩ => rfl
  have he := (emb_4 g b (y 0) (y 1)).symm.trans (congrArg (((cfg0.win 4).blk (pt g b)).view.emb : S128x512.Idx → S16384x1024.Idx) hy.symm)
  exact (congrArg o hy).trans ((ho (y 0) (y 1)).trans (congrArg G he))

theorem written (o : FVec Ideal S128x512 .bf16) (G : FVec Ideal S16384x1024 .bf16) (t : Fin cfg0.N) (y : ((cfg0.win 4).xblock (cfg0.grid.coords t)).Idx)
    (ho : ∀ z : S128x512.Idx, o z = G (((cfg0.win 4).blk t).view.emb z : S16384x1024.Idx)) :
    _root_.cast (congrArg (Elt Ideal) ((cfg0.win 4).blk t).view.elt_eq.symm) (o ((cfg0.win 4).xinj (cfg0.grid.coords t) y)) = G (((cfg0.win 4).blk t).view.emb y) := ho y

theorem final (hq : ∀ i, IsReal ((m ((c : Thread nD τ).loc main_arg0) : Vec Ideal S1x16384x8x128 .bf16) i))
    (hk : ∀ i, IsReal ((m ((c : Thread nD τ).loc main_arg1) : Vec Ideal S1x16384x2x128 .bf16) i)) :
    ((dats m 0 c).arrAt 4 cfg0.N : FVec Ideal S16384x1024 .bf16) = finalOut m c := by
  have hG := finalOut_apply m c
  generalize finalOut m c = G at hG ⊢
  refine (dats m 0 c).arrAt_eq_of_emb 4 _ (fun t hf y => ?_) covered
  rw [after0_4]
  refine written _ G t y ?_
  obtain ⟨g, b, rfl⟩ := point_of t
  have ho := fun a r d => (out_at m c g b a r d hq hk).trans (hG g b a r d).symm
  generalize outVal (qBlk m c (pt g b)) (kBlk m c (pt g b)) (vBlk m c (pt g b)) = o at ho ⊢
  refine placed g b o G fun a n => ?_
  obtain ⟨r, d, rfl⟩ := sub_of n
  exact ho a r d

end Cert.Kernel4Ideal.Gen

end
-- ==== Proof.Gqa.Ref.lean ====
/- The reference's result at an index: the layer's result there. -/
module

public import proofs.«01_k».proof.Proof.Gqa.Spec
public import proofs.«01_k».proof.Proof.Gen.Reference4Ideal.Run
public import proofs.«01_k».proof.Proof.Gen.Reference4Ideal.Read
public import Idealize.ShloMosaic.Lib.KernelVsHost

@[expose] public section

set_option maxRecDepth 16384

noncomputable section

namespace Cert.Reference4Ideal.Gen

open Idealize.ShloMosaic Idealize.ShloMosaic.TcCoe Cert.Mla Cert.Gqa Cert.Reference4Ideal.Read

theorem ofBits_bot : (Ideal.ofBits .f32 0xFF800000#32 : EReal) = ⊥ := by simp [Ideal.ofBits, Ideal.ieee]

theorem ofBits_zero : (Ideal.ofBits .f32 0x00000000#32 : EReal) = 0 := by simp [Ideal.ofBits, Ideal.ieee]

theorem ofBits_two : (Ideal.ofBits .f32 0x40000000#32 : EReal) = ((2 : ℝ) : EReal) := by
  simp [Ideal.ofBits, Ideal.ieee, -EReal.coe_mul]
  norm_num

theorem log_two (i : S_.Idx) : (val_main_v5 (F := Ideal) i : EReal) = (Real.log 2 : ℝ) := by
  rw [val_main_v5_apply, val_main_cst_apply]
  show Ideal.log (Ideal.ofBits .f32 0x40000000#32) = _
  rw [ofBits_two, Ideal.log_coe, if_neg (by norm_num)]

theorem reduces_max : S1x2x4x16384x16384.Reduces [4] S1x2x4x16384 := by decide +kernel

/-- The greatest of the scores is a number where they are. -/
theorem max_real (x : FVec Ideal S1x2x4x16384x16384 .f32) (y : FVec Ideal S_ .f32) (hy : y = constant S_ .f32 0xFF800000#32) (hx : ∀ i, IsReal (x i)) (i : S1x2x4x16384.Idx) :
    IsReal (Host.reduce (α := EReal) (FloatOps.maximumf (F := Ideal) (φ := .f32)) x y reducesTo_S1x2x4x16384x16384_S1x2x4x16384_d4 h_S_ i) := by
  subst hy
  have e := congrFun (hostReduce_maximumf_eq_multiReduction x 0xFF800000#32 reducesTo_S1x2x4x16384x16384_S1x2x4x16384_d4 h_S_ reduces_max (.inl rfl) rfl) i
  refine (congrArg IsReal (e.trans (Ideal.multiReduction_maximumf_single x _ reduces_max (.inl rfl) rfl i))).mpr ?_
  refine (congrArg (fun b : EReal => IsReal ((Finset.univ : Finset (Fin 16384)).fold max b (x ∘ reduces_max.lift i))) ofBits_bot).mpr ?_
  exact IsReal.fold_max (ι := Fin 16384) _ fun j => hx _

variable (q : FVec Ideal S1x16384x8x128 .bf16) (k v : FVec Ideal S1x16384x2x128 .bf16)

/-- The queries, their heads gathered by group. -/
theorem query_at (i : Fin 16384) (g : Fin 2) (r : Fin 4) (x : Fin 128) : (val_main_v1 (F := Ideal) q (ix5 0 i g r x) : EReal) = q (ix4 0 i (head g r) x) := by
  rw [val_main_v1_apply, val_main_v0_apply]
  refine congrArg q (funext fun a => Fin.ext ?_)
  match a with
  | ⟨0, _⟩ => rfl
  | ⟨1, _⟩ => show ((((0 * 16384 + i.val) * 2 + g.val) * 4 + r.val) * 128 + x.val) / 1024 % 16384 = i.val; omega
  | ⟨2, _⟩ => show ((((0 * 16384 + i.val) * 2 + g.val) * 4 + r.val) * 128 + x.val) / 128 % 8 = 4 * g.val + r.val; omega
  | ⟨3, _⟩ => show ((((0 * 16384 + i.val) * 2 + g.val) * 4 + r.val) * 128 + x.val) % 128 = x.val; omega

theorem score_at (g : Fin 2) (r : Fin 4) (i j : Fin 16384) : (val_main_v4 (F := Ideal) q k (ix5 0 g r i j) : EReal) = score q k g r i j := by
  rw [val_main_v4_apply, val_main_v3_apply]
  refine Finset.sum_congr rfl fun x _ => congrArg₂ (fun a b : EReal => a * b) ?_ ?_
  · rw [val_main_v2_apply]
    exact congrArg k (funext fun a => match a with | ⟨0, _⟩ => rfl | ⟨1, _⟩ => rfl | ⟨2, _⟩ => rfl | ⟨3, _⟩ => rfl)
  · exact (congrArg (val_main_v1 (F := Ideal) q) (funext fun a => match a with | ⟨0, _⟩ => rfl | ⟨1, _⟩ => rfl | ⟨2, _⟩ => rfl | ⟨3, _⟩ => rfl | ⟨4, _⟩ => rfl)).trans (query_at q i g r x)

theorem scaled_at (g : Fin 2) (r : Fin 4) (i j : Fin 16384) : (val_main_v7 (F := Ideal) q k (ix5 0 g r i j) : EReal) = score q k g r i j * (Real.log 2 : ℝ) := by
  rw [val_main_v7_apply, val_main_v6_apply]
  exact congrArg₂ (fun a b : EReal => a * b) (score_at q k g r i j) (log_two _)

/-- What the scores of a row are lowered by. -/
def low (g : Fin 2) (r : Fin 4) (i : Fin 16384) : EReal := val_main_v10 (F := Ideal) q k (ix4 0 g r i)

theorem ix5_eta (i : S1x2x4x16384x16384.Idx) : i = ix5 0 (i 1) (i 2) (i 3) (i 4) :=
  funext fun a => match a with | ⟨0, _⟩ => Fin.ext (Nat.lt_one_iff.1 (i 0).isLt) | ⟨1, _⟩ => rfl | ⟨2, _⟩ => rfl | ⟨3, _⟩ => rfl | ⟨4, _⟩ => rfl

theorem low_real (hq : ∀ i, IsReal (q i)) (hk : ∀ i, IsReal (k i)) (g : Fin 2) (r : Fin 4) (i : Fin 16384) : IsReal (low q k g r i) := by
  have hx : ∀ z, IsReal (val_main_v7 (F := Ideal) q k z) := fun z => by
    refine (congrArg (fun z => IsReal (val_main_v7 (F := Ideal) q k z)) (ix5_eta z)).mpr ?_
    refine (congrArg IsReal (scaled_at q k (z 1) (z 2) (z 3) (z 4))).mpr ?_
    exact (score_real hq hk _ _ _ _).mul ⟨_, rfl⟩
  have hm : IsReal (val_main_v8 (F := Ideal) q k (ix4 0 g r i)) := max_real _ _ rfl hx _
  unfold low
  rw [val_main_v10_apply, val_main_v9_apply, val_main_cst_1_apply]
  show IsReal (max (Ideal.ofBits .f32 0xFF800000#32) _)
  rw [ofBits_bot, max_eq_right bot_le]
  exact hm

theorem power_at (g : Fin 2) (r : Fin 4) (i j : Fin 16384) : (val_main_v14 (F := Ideal) q k (ix5 0 g r i j) : EReal) = Ideal.exp (score q k g r i j * (Real.log 2 : ℝ) - low q k g r i) := by
  rw [val_main_v14_apply, val_main_v13_apply, val_main_v12_apply, val_main_v11_apply]
  have e : idx_main_v11 (idx_main_v12 (ix5 0 g r i j)) = ix4 0 g r i := funext fun a => match a with | ⟨0, _⟩ => rfl | ⟨1, _⟩ => rfl | ⟨2, _⟩ => rfl | ⟨3, _⟩ => rfl
  exact congrArg Ideal.exp (congrArg₂ (fun a b : EReal => a - b) (scaled_at q k g r i j) (congrArg (val_main_v10 (F := Ideal) q k) e))

theorem total_at (g : Fin 2) (r : Fin 4) (i : Fin 16384) : (val_main_v15 (F := Ideal) q k (ix4 0 g r i) : EReal) = ∑ j, Ideal.exp (score q k g r i j * (Real.log 2 : ℝ) - low q k g r i) := by
  rw [val_main_v15_apply, val_main_cst_2_apply]
  refine (congrArg (fun b : EReal => b + _) ofBits_zero).trans ((zero_add _).trans ?_)
  refine Finset.sum_congr rfl fun j _ => ?_
  have e : idx_main_v15 (ix4 0 g r i) j = ix5 0 g r i j := funext fun a => match a with | ⟨0, _⟩ => rfl | ⟨1, _⟩ => rfl | ⟨2, _⟩ => rfl | ⟨3, _⟩ => rfl | ⟨4, _⟩ => rfl
  exact (congrArg (val_main_v14 (F := Ideal) q k) e).trans (power_at q k g r i j)

theorem weight_at (g : Fin 2) (r : Fin 4) (i j : Fin 16384) : (val_main_v18 (F := Ideal) q k (ix5 0 g r i j) : EReal)
    = Ideal.div (Ideal.exp (score q k g r i j * (Real.log 2 : ℝ) - low q k g r i)) (∑ l, Ideal.exp (score q k g r i l * (Real.log 2 : ℝ) - low q k g r i)) := by
  rw [val_main_v18_apply, val_main_v17_apply, val_main_v16_apply]
  have e : idx_main_v16 (idx_main_v17 (ix5 0 g r i j)) = ix4 0 g r i := funext fun a => match a with | ⟨0, _⟩ => rfl | ⟨1, _⟩ => rfl | ⟨2, _⟩ => rfl | ⟨3, _⟩ => rfl
  exact congrArg₂ Ideal.div (power_at q k g r i j) ((congrArg (val_main_v15 (F := Ideal) q k) e).trans (total_at q k g r i))

theorem mixed_at (hq : ∀ i, IsReal (q i)) (hk : ∀ i, IsReal (k i)) (i : Fin 16384) (g : Fin 2) (r : Fin 4) (d : Fin 128) :
    (val_main_v20 (F := Ideal) q k v (ix5 0 g d r i) : EReal) = outAt q k v i g r d := by
  rw [val_main_v20_apply]
  refine Eq.trans ?_ (mix_of_softmax (score q k g r i) (fun j => v (ix4 0 j g d)) (fun j => score_real hq hk g r i j) (low q k g r i) (low_real q k hq hk g r i))
  refine Finset.sum_congr rfl fun j _ => congrArg₂ (fun a b : EReal => a * b) ?_ ?_
  · rw [val_main_v19_apply]
    exact congrArg v (funext fun a => match a with | ⟨0, _⟩ => rfl | ⟨1, _⟩ => rfl | ⟨2, _⟩ => rfl | ⟨3, _⟩ => rfl)
  · have e : ridx_main_v20 (ix5 0 g d r i) j = ix5 0 g r i j := funext fun a => match a with | ⟨0, _⟩ => rfl | ⟨1, _⟩ => rfl | ⟨2, _⟩ => rfl | ⟨3, _⟩ => rfl | ⟨4, _⟩ => rfl
    exact (congrArg (val_main_v18 (F := Ideal) q k) e).trans (weight_at q k g r i j)

/-- The reference's result at a row and a column. -/
theorem out_at (hq : ∀ i, IsReal (q i)) (hk : ∀ i, IsReal (k i)) (i : Fin 16384) (n : Fin 1024) :
    (val_main_v23 (F := Ideal) q k v (ix2 i n) : EReal) = outAt q k v i (groupOf n) (headOf n) (laneOf n) := by
  rw [val_main_v23_apply]
  refine Eq.trans ?_ (mixed_at q k v hq hk i (groupOf n) (headOf n) (laneOf n))
  show (val_main_v22 (F := Ideal) q k v (ix2 i n) : EReal) = _
  rw [val_main_v22_apply, val_main_v21_apply]
  refine congrArg (val_main_v20 (F := Ideal) q k v) (funext fun a => Fin.ext ?_)
  match a with
  | ⟨0, _⟩ => rfl
  | ⟨1, _⟩ => show (i.val * 1024 + n.val) / 512 % 2 = n.val / 512; omega
  | ⟨2, _⟩ => show (i.val * 1024 + n.val) % 128 = n.val % 128; omega
  | ⟨3, _⟩ => show (i.val * 1024 + n.val) / 128 % 4 = n.val / 128 % 4; omega
  | ⟨4, _⟩ => show (i.val * 1024 + n.val) / 1024 % 16384 = i.val; omega

end Cert.Reference4Ideal.Gen

end
-- ==== Proof.Gqa.Pre.lean ====
/- The precondition `finite_gqa`, read at an index: every query and every key entry is a number. -/
module

public import proofs.«01_k».proof.Pre_finite_gqa
public import proofs.«01_k».proof.Proof.Gen.Pre_finite_gqa
public import proofs.«01_k».proof.Proof.Mla.Pre

@[expose] public section

namespace Cert.Gqa

open Idealize.ShloMosaic Cert.Pre_finite_gqa Cert.Mla

theorem finite_of (q : FVec Ideal S1x16384x8x128 .bf16) (k : FVec Ideal S1x16384x2x128 .bf16) (b : FVec Ideal S1x16384x16x128 .bf16) (v : FVec Ideal S1x16384x2x128 .bf16)
    (h : (Cert.Pre_finite_gqa.fn (F := Ideal) q k b v).1 = (fun _ => 1#1) ∧ (Cert.Pre_finite_gqa.fn (F := Ideal) q k b v).2 = (fun _ => 1#1)) :
    (∀ i, IsReal (q i)) ∧ (∀ i, IsReal (k i)) :=
  ⟨fun i => real_of_size _ (congrFun h.1 i), fun i => real_of_size _ (congrFun h.2 i)⟩

end Cert.Gqa
-- ==== Proof.lean ====
module

public import proofs.«01_k».proof.Defs
public import proofs.«01_k».proof.Proof.Frames
public import proofs.«01_k».proof.Proof.Final
public import proofs.«01_k».proof.Proof.Ref
public import proofs.«01_k».proof.Proof.Ffn.Final
public import proofs.«01_k».proof.Proof.Ffn.Ref
public import proofs.«01_k».proof.Proof.Mla.Final
public import proofs.«01_k».proof.Proof.Mla.Ref
public import proofs.«01_k».proof.Proof.Mla.Pre
public import proofs.«01_k».proof.Proof.Gqa.Final
public import proofs.«01_k».proof.Proof.Gqa.Ref
public import proofs.«01_k».proof.Proof.Gqa.Pre
public import proofs.«01_k».proof.Proof.Gen.Kernel
public import proofs.«01_k».proof.Proof.Gen.KernelIdeal
public import proofs.«01_k».proof.Proof.Gen.ReferenceIdeal
public import proofs.«01_k».proof.Proof.Gen.Pre_routed
public import proofs.«01_k».proof.Proof.Gen.Pre_finite
public import proofs.«01_k».proof.Proof.Gen.Kernel2
public import proofs.«01_k».proof.Proof.Gen.Kernel3
public import proofs.«01_k».proof.Proof.Gen.Kernel4
public import proofs.«01_k».proof.Proof.Gen.Kernel4Ideal
public import proofs.«01_k».proof.Proof.Gen.Kernel4Ideal.Launch
public import proofs.«01_k».proof.Proof.Gen.Kernel4Ideal.Points
public import proofs.«01_k».proof.Proof.Gen.Kernel4Ideal.Skeleton
public import proofs.«01_k».proof.Proof.Gen.Pre_finite_gqa
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel3Ideal
public import proofs.«01_k».proof.Proof.Gen.Reference3Ideal
public import proofs.«01_k».proof.Proof.Gen.Kernel2Ideal
public import proofs.«01_k».proof.Proof.Gen.Reference2Ideal
public import Idealize.ShloMosaic.Lib.Quiescent
public import Idealize.ShloMosaic.Lib.Claim

@[expose] public section

noncomputable section

namespace Cert.Proof

open Idealize.ShloMosaic Idealize.ShloMosaic.TcCoe Idealize.SL.Sem Cert.Routed

theorem quiescent_ReferenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The reference's first result, whole. -/
theorem ref33 (idx : IVec ⟨2, ![16, 2048]⟩ 32) (pos off : IVec ⟨2, ![2048, 128]⟩ 32) (hR : Routed idx pos off)
    (ye : FVec Ideal ⟨3, ![16, 2048, 2048]⟩ .bf16) (x : FVec Ideal ⟨2, ![16384, 2048]⟩ .f32) (g b : FVec Ideal ⟨2, ![1, 2048]⟩ .f32) :
    Cert.ReferenceIdeal.Read.val_main_v33 (F := Ideal) idx ye x g b = fun j => outAt pos ye x g b (j 0) (j 1) := by
  funext j
  have hj : j = ix2 (j 0) (j 1) := funext fun a => match a with | ⟨0, _⟩ => rfl | ⟨1, _⟩ => rfl
  exact (congrArg (Cert.ReferenceIdeal.Read.val_main_v33 (F := Ideal) idx ye x g b) hj).trans
    (Cert.ReferenceIdeal.Gen.out_at hR ye x g b (j 0) (j 1))

theorem algebraic : Cert.algebraic_KernelIdeal_ReferenceIdeal := by
  intro m ρ m' ρ' hpre hagree
  have hO := ok_of_pre m hpre
  have hR := fun c => routed_of _ _ _ _ _ _ _ (hpre c)
  refine ⟨fun c => Cert.KernelIdeal.Gen.finalOut m c, fun c => Cert.KernelIdeal.Gen.finalOut m c, ?_, ?_⟩
  · refine θ_run_mono (θ_run_and (Cert.KernelIdeal.Gen.run_main m ρ hO) (Cert.KernelIdeal.Gen.unchanged m ρ hO)) ?_
    exact fun r h c => ⟨((h.1 c).1 20).trans (Cert.KernelIdeal.Gen.final20 m hO c (hR c)),
      ((h.1 c).1 21).trans (Cert.KernelIdeal.Gen.final21 m hO c (hR c)), h.2 c⟩
  · refine θ_run_mono (Cert.ReferenceIdeal.Value.run (F := Ideal) m' ρ') ?_
    intro r h c
    have e33 : Cert.ReferenceIdeal.Value.res_main_v33 m' c = Cert.KernelIdeal.Gen.finalOut m c := by
      rw [Cert.ReferenceIdeal.Read.val_main_v33_eq, (hagree c).1, (hagree c).2.2.2.1, (hagree c).2.2.2.2.1, (hagree c).2.2.2.2.2.1, (hagree c).2.2.2.2.2.2]
      exact ref33 _ _ _ (hR c) _ _ _ _
    have e34 : Cert.ReferenceIdeal.Value.res_main_v34 m' c = (Cert.ReferenceIdeal.Value.res_main_v33 m' c : Cert.ReferenceIdeal.S16384x2048.Idx → EReal) := by
      rw [Cert.ReferenceIdeal.Read.val_main_v34_eq, Cert.ReferenceIdeal.Read.val_main_v33_eq]
      unfold Cert.ReferenceIdeal.Read.val_main_v34
      rfl
    exact ⟨(h c).1.trans e33, (h c).2.1.trans (e34.trans e33), (h c).2.2⟩

theorem quiescent_Kernel2Ideal : Cert.quiescent_Kernel2Ideal := fun m ρ _ => Cert.Kernel2Ideal.Gen.frame m ρ

/-- The feed-forward over words and over extended reals has one text, so its runs over words are one. -/
theorem same_run2 (m : (ℓ : Loc Cert.Kernel2.nD Cert.Kernel2.τ Cert.Kernel2.sig) → Buf (Elt Bits) ℓ) (g : Dev Cert.Kernel2.nD → PrngReg) :
    θ_run (Cert.Kernel2.defs (F := Bits)) (onTc (τ := Cert.Kernel2.τ) (Cert.Kernel2.main (F := Bits))) ⟨m, fun _ => 0, g⟩
      = θ_run (Cert.Kernel2Ideal.defs (F := Bits)) (onTc (τ := Cert.Kernel2Ideal.τ) (Cert.Kernel2Ideal.main (F := Bits))) ⟨m, fun _ => 0, g⟩ := by
  sl_kernel_rfl

theorem quiescent_Kernel2 : Cert.quiescent_Kernel2 := fun m ρ _ =>
  (DFunLike.congr_fun (same_run2 m ρ) _).mpr (Cert.Kernel2Ideal.Gen.frame (F := Bits) m ρ)

theorem quiescent_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward reference's result, whole. -/
theorem ref15 (x : FVec Ideal ⟨3, ![16, 2048, 2048]⟩ .bf16) (g : FVec Ideal ⟨2, ![16, 2048]⟩ .f32) (wg wu wd : FVec Ideal ⟨4, ![2, 16, 2048, 2048]⟩ .f32) :
    Cert.Reference2Ideal.Read.val_main_v15 (F := Ideal) x g wg wu wd = fun j => Cert.Ffn.outAt x g wg wu wd (j 0) (j 1) (j 2) := by
  funext j
  have hj : j = ix3 (j 0) (j 1) (j 2) := funext fun a => match a with | ⟨0, _⟩ => rfl | ⟨1, _⟩ => rfl | ⟨2, _⟩ => rfl
  exact (congrArg (Cert.Reference2Ideal.Read.val_main_v15 (F := Ideal) x g wg wu wd) hj).trans
    (Cert.Reference2Ideal.Gen.out_at x g wg wu wd (j 0) (j 1) (j 2))

theorem algebraic2 : Cert.algebraic_Kernel2Ideal_Reference2Ideal := by
  intro m ρ m' ρ' _ hagree
  refine ⟨fun c => Cert.Kernel2Ideal.Gen.finalOut m c, ?_, ?_⟩
  · refine θ_run_mono (Cert.Kernel2Ideal.Value.run_blocks (F := Ideal) m ρ) ?_
    exact fun r h c => ⟨(h c).1.trans (Cert.Kernel2Ideal.Gen.final m c), (h c).2⟩
  · refine θ_run_mono (Cert.Reference2Ideal.Value.run (F := Ideal) m' ρ') ?_
    intro r h c
    refine ⟨(h c).1.trans ?_, (h c).2⟩
    rw [Cert.Reference2Ideal.Read.val_main_v15_eq, (hagree c).1, (hagree c).2.1, (hagree c).2.2.1, (hagree c).2.2.2.1, (hagree c).2.2.2.2]
    exact ref15 _ _ _ _ _

theorem quiescent_Kernel3Ideal : Cert.quiescent_Kernel3Ideal := fun m ρ _ => Cert.Kernel3Ideal.Gen.frame m ρ

theorem quiescent_Kernel3Ideal_pre : Cert.quiescent_Kernel3Ideal_pre_finite := fun m ρ _ => Cert.Kernel3Ideal.Gen.frame m ρ

/-- The attention over words and over extended reals has one text, so its runs over words are one. -/
theorem same_run3 (m : (ℓ : Loc Cert.Kernel3.nD Cert.Kernel3.τ Cert.Kernel3.sig) → Buf (Elt Bits) ℓ) (g : Dev Cert.Kernel3.nD → PrngReg) :
    θ_run (Cert.Kernel3.defs (F := Bits)) (onTc (τ := Cert.Kernel3.τ) (Cert.Kernel3.main (F := Bits))) ⟨m, fun _ => 0, g⟩
      = θ_run (Cert.Kernel3Ideal.defs (F := Bits)) (onTc (τ := Cert.Kernel3Ideal.τ) (Cert.Kernel3Ideal.main (F := Bits))) ⟨m, fun _ => 0, g⟩ := by
  sl_kernel_rfl

theorem quiescent_Kernel3 : Cert.quiescent_Kernel3 := fun m ρ _ =>
  (DFunLike.congr_fun (same_run3 m ρ) _).mpr (Cert.Kernel3Ideal.Gen.frame (F := Bits) m ρ)

theorem quiescent_Reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem quiescent_Reference3Ideal_pre : Cert.quiescent_Reference3Ideal_pre_finite := fun m ρ _ =>
  (θ_run Cert.Reference3Ideal.defs _ _).mono (fun r h => ⟨fun c => (h c).2, sem_eq_zero_of_no_sems (by decide) r.2⟩)
    (Cert.Reference3Ideal.Value.run (F := Ideal) m ρ)

/-- The attention reference's result, whole. -/
theorem ref21 (q k : FVec Ideal ⟨4, ![1, 16384, 16, 192]⟩ .bf16) (v : FVec Ideal ⟨4, ![1, 16384, 16, 128]⟩ .bf16)
    (hq : ∀ i, Cert.Mla.IsReal (q i)) (hk : ∀ i, Cert.Mla.IsReal (k i)) :
    Cert.Reference3Ideal.Read.val_main_v21 (F := Ideal) q k v
      = fun j => Cert.Mla.outAt q k v (j 0) (Cert.Kernel3Ideal.Gen.headOf (j 1)) (Cert.Kernel3Ideal.Gen.laneOf (j 1)) := by
  funext j
  have hj : j = ix2 (j 0) (j 1) := funext fun a => match a with | ⟨0, _⟩ => rfl | ⟨1, _⟩ => rfl
  exact (congrArg (Cert.Reference3Ideal.Read.val_main_v21 (F := Ideal) q k v) hj).trans
    (Cert.Reference3Ideal.Gen.out_at q k v hq hk (j 0) (j 1))

theorem algebraic3 : Cert.algebraic_Kernel3Ideal_Reference3Ideal_pre_finite := by
  intro m ρ m' ρ' hpre hagree
  have hf := fun c => Cert.Mla.finite_of _ _ _ (hpre c)
  refine ⟨fun c => Cert.Kernel3Ideal.Gen.finalOut m c, ?_, ?_⟩
  · refine θ_run_mono (θ_run_and (Cert.Kernel3Ideal.Gen.run_main (F := Ideal) m ρ) (Cert.Kernel3Ideal.Gen.frame (F := Ideal) m ρ)) ?_
    exact fun r h c => ⟨((h.1 c).1 4).trans (Cert.Kernel3Ideal.Gen.final m c (hf c).1 (hf c).2), h.2.1 c⟩
  · refine θ_run_mono (Cert.Reference3Ideal.Value.run (F := Ideal) m' ρ') ?_
    intro r h c
    refine ⟨(h c).1.trans ?_, (h c).2⟩
    rw [Cert.Reference3Ideal.Read.val_main_v21_eq, (hagree c).1, (hagree c).2.1, (hagree c).2.2]
    exact ref21 _ _ _ (hf c).1 (hf c).2

theorem quiescent_Kernel4Ideal : Cert.quiescent_Kernel4Ideal := fun m ρ _ => Cert.Kernel4Ideal.Gen.frame m ρ

theorem quiescent_Kernel4Ideal_pre : Cert.quiescent_Kernel4Ideal_pre_finite_gqa := fun m ρ _ => Cert.Kernel4Ideal.Gen.frame m ρ

/-- The grouped-query attention over words and over extended reals has one text, so its runs over words are one. -/
theorem same_run4 (m : (ℓ : Loc Cert.Kernel4.nD Cert.Kernel4.τ Cert.Kernel4.sig) → Buf (Elt Bits) ℓ) (g : Dev Cert.Kernel4.nD → PrngReg) :
    θ_run (Cert.Kernel4.defs (F := Bits)) (onTc (τ := Cert.Kernel4.τ) (Cert.Kernel4.main (F := Bits))) ⟨m, fun _ => 0, g⟩
      = θ_run (Cert.Kernel4Ideal.defs (F := Bits)) (onTc (τ := Cert.Kernel4Ideal.τ) (Cert.Kernel4Ideal.main (F := Bits))) ⟨m, fun _ => 0, g⟩ := by
  sl_kernel_rfl

theorem quiescent_Kernel4 : Cert.quiescent_Kernel4 := fun m ρ _ =>
  (DFunLike.congr_fun (same_run4 m ρ) _).mpr (Cert.Kernel4Ideal.Gen.frame (F := Bits) m ρ)

theorem quiescent_Reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem quiescent_Reference4Ideal_pre : Cert.quiescent_Reference4Ideal_pre_finite_gqa := fun m ρ _ =>
  (θ_run Cert.Reference4Ideal.defs _ _).mono (fun r h => ⟨fun c => (h c).2, sem_eq_zero_of_no_sems (by decide) r.2⟩)
    (Cert.Reference4Ideal.Value.run (F := Ideal) m ρ)

/-- The grouped-query attention reference's result, whole. -/
theorem ref23 (q : FVec Ideal ⟨4, ![1, 16384, 8, 128]⟩ .bf16) (k v : FVec Ideal ⟨4, ![1, 16384, 2, 128]⟩ .bf16)
    (hq : ∀ i, Cert.Mla.IsReal (q i)) (hk : ∀ i, Cert.Mla.IsReal (k i)) :
    Cert.Reference4Ideal.Read.val_main_v23 (F := Ideal) q k v
      = fun j => Cert.Gqa.outAt q k v (j 0) (Cert.Gqa.groupOf (j 1)) (Cert.Gqa.headOf (j 1)) (Cert.Gqa.laneOf (j 1)) := by
  funext j
  have hj : j = ix2 (j 0) (j 1) := funext fun a => match a with | ⟨0, _⟩ => rfl | ⟨1, _⟩ => rfl
  exact (congrArg (Cert.Reference4Ideal.Read.val_main_v23 (F := Ideal) q k v) hj).trans
    (Cert.Reference4Ideal.Gen.out_at q k v hq hk (j 0) (j 1))

theorem algebraic4 : Cert.algebraic_Kernel4Ideal_Reference4Ideal_pre_finite_gqa := by
  intro m ρ m' ρ' hpre hagree
  have hf := fun c => Cert.Gqa.finite_of _ _ _ _ (hpre c)
  refine ⟨fun c => Cert.Kernel4Ideal.Gen.finalOut m c, ?_, ?_⟩
  · refine θ_run_mono (θ_run_and (Cert.Kernel4Ideal.Gen.run_main (F := Ideal) m ρ) (Cert.Kernel4Ideal.Gen.frame (F := Ideal) m ρ)) ?_
    exact fun r h c => ⟨((h.1 c).1 4).trans (Cert.Kernel4Ideal.Gen.final m c (hf c).1 (hf c).2), h.2.1 c⟩
  · refine θ_run_mono (Cert.Reference4Ideal.Value.run (F := Ideal) m' ρ') ?_
    intro r h c
    refine ⟨(h c).1.trans ?_, (h c).2⟩
    rw [Cert.Reference4Ideal.Read.val_main_v23_eq, (hagree c).1, (hagree c).2.1, (hagree c).2.2.2]
    exact ref23 _ _ _ (hf c).1 (hf c).2

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_routed.Gen.facts, Cert.Pre_finite.Gen.facts, Cert.Pre_finite_gqa.Gen.facts,
  quiescent_Kernel, quiescent_KernelIdeal, quiescent_ReferenceIdeal, quiescent_Kernel2, quiescent_Kernel2Ideal, quiescent_Reference2Ideal,
  quiescent_Kernel3, quiescent_Kernel3Ideal, quiescent_Kernel3Ideal_pre, quiescent_Reference3Ideal, quiescent_Reference3Ideal_pre,
  quiescent_Kernel4, quiescent_Kernel4Ideal, quiescent_Kernel4Ideal_pre, quiescent_Reference4Ideal, quiescent_Reference4Ideal_pre,
  trivial, algebraic, trivial, algebraic2, trivial, algebraic3, trivial, algebraic4⟩

end Cert.Proof

end
